-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S2x12288x15x512 : Shape := ⟨4, ![2, 12288, 15, 512]⟩
abbrev S15x512x1024 : Shape := ⟨3, ![15, 512, 1024]⟩
abbrev S1024 : Shape := ⟨1, ![1024]⟩
abbrev S_ : Shape := ⟨0, ![]⟩
abbrev S2x12288 : Shape := ⟨2, ![2, 12288]⟩

class Facts : Prop where
  reducesTo_S2x12288x15x512_S2x12288_d2_3 : S2x12288x15x512.ReducesTo [2, 3] S2x12288
  h_S_ : 0 < S_.numel
  bcast_S_S2x12288 : S_.BroadcastsInDim S2x12288 (![] : Fin 0 → Fin S2x12288.rank)

variable [Facts]

def fn {F : FTy → Type} [FloatOps F] (main_arg0 : FVec F S2x12288x15x512 .f32) (main_arg1 : FVec F S15x512x1024 .fp8e4m3) (main_arg2 : FVec F S1024 .f32) (main_arg3 : FVec F S1024 .f32) : IVec S2x12288 1 :=
  let main_v0 : FVec F S2x12288x15x512 .f32 := Host.absf main_arg0
  let main_cst : FVec F S_ .f32 := constant S_ .f32 0xFF800000#32
  let main_v1 : FVec F S2x12288 .f32 := (fun x v => Host.reduce FloatOps.maximumf x v reducesTo_S2x12288x15x512_S2x12288_d2_3 h_S_) main_v0 main_cst
  let main_cst_0 : FVec F S_ .f32 := constant S_ .f32 0x3B124925#32
  let main_v2 : FVec F S2x12288 .f32 := broadcastInDim S2x12288 ![] bcast_S_S2x12288 main_cst_0
  let main_v3 : FVec F S2x12288 .f32 := mulf main_v1 main_v2
  let main_cst_1 : FVec F S_ .f32 := constant S_ .f32 0x00000000#32
  let main_v4 : FVec F S2x12288 .f32 := broadcastInDim S2x12288 ![] bcast_S_S2x12288 main_cst_1
  let main_v5 : IVec S2x12288 1 := cmpf .oeq main_v3 main_v4
  let main_cst_2 : FVec F S_ .f32 := constant S_ .f32 0x00800000#32
  let main_v6 : FVec F S2x12288 .f32 := broadcastInDim S2x12288 ![] bcast_S_S2x12288 main_cst_2
  let main_v7 : IVec S2x12288 1 := cmpf .oge main_v3 main_v6
  let main_cst_3 : FVec F S_ .f32 := constant S_ .f32 0x7E800000#32
  let main_v8 : FVec F S2x12288 .f32 := broadcastInDim S2x12288 ![] bcast_S_S2x12288 main_cst_3
  let main_v9 : IVec S2x12288 1 := cmpf .olt main_v3 main_v8
  let main_v10 : IVec S2x12288 1 := andi main_v7 main_v9
  let main_v11 : IVec S2x12288 1 := ori main_v5 main_v10
  main_v11
-- ==== Kernel.lean ====
abbrev S2x12288x15x512 : Shape := ⟨4, ![2, 12288, 15, 512]⟩
abbrev S15x512x1024 : Shape := ⟨3, ![15, 512, 1024]⟩
abbrev S1024 : Shape := ⟨1, ![1024]⟩
abbrev S768x32x15x512 : Shape := ⟨4, ![768, 32, 15, 512]⟩
abbrev S768x15x32x512 : Shape := ⟨4, ![768, 15, 32, 512]⟩
abbrev S768x480x512 : Shape := ⟨3, ![768, 480, 512]⟩
abbrev S7680x1024 : Shape := ⟨2, ![7680, 1024]⟩
abbrev S1x1024 : Shape := ⟨2, ![1, 1024]⟩
abbrev S24576x1024 : Shape := ⟨2, ![24576, 1024]⟩
abbrev S2x15x12288x512 : Shape := ⟨4, ![2, 15, 12288, 512]⟩
abbrev S192x128 : Shape := ⟨2, ![192, 128]⟩
abbrev S8x480x512 : Shape := ⟨3, ![8, 480, 512]⟩
abbrev S256x1024 : Shape := ⟨2, ![256, 1024]⟩
abbrev S1x15x256x512 : Shape := ⟨4, ![1, 15, 256, 512]⟩
abbrev S8x32x128 : Shape := ⟨3, ![8, 32, 128]⟩
abbrev S2x15x256x512 : Shape := ⟨4, ![2, 15, 256, 512]⟩
abbrev S2x256x128 : Shape := ⟨3, ![2, 256, 128]⟩
abbrev S32x256 : Shape := ⟨2, ![32, 256]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩
abbrev S1x32x512 : Shape := ⟨3, ![1, 32, 512]⟩
abbrev S32x512 : Shape := ⟨2, ![32, 512]⟩
abbrev S1x1x32x512 : Shape := ⟨4, ![1, 1, 32, 512]⟩
abbrev S1x1x256x512 : Shape := ⟨4, ![1, 1, 256, 512]⟩
abbrev S256x512 : Shape := ⟨2, ![256, 512]⟩
abbrev S256x7680 : Shape := ⟨2, ![256, 7680]⟩
abbrev S7680x256 : Shape := ⟨2, ![7680, 256]⟩
abbrev S256x256 : Shape := ⟨2, ![256, 256]⟩
abbrev S1x256x128 : Shape := ⟨3, ![1, 256, 128]⟩
abbrev S256x128 : Shape := ⟨2, ![256, 128]⟩
abbrev S1x480x512 : Shape := ⟨3, ![1, 480, 512]⟩
abbrev S480x512 : Shape := ⟨2, ![480, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x12288x15x512, .f32⟩
  | .hbm, ⟨1, _⟩ => ⟨S15x512x1024, .fp8e4m3⟩
  | .hbm, ⟨2, _⟩ => ⟨S1024, .f32⟩
  | .hbm, ⟨3, _⟩ => ⟨S1024, .f32⟩
  | .hbm, ⟨4, _⟩ => ⟨S768x32x15x512, .f32⟩
  | .hbm, ⟨5, _⟩ => ⟨S768x15x32x512, .f32⟩
  | .hbm, ⟨6, _⟩ => ⟨S768x480x512, .f32⟩
  | .hbm, ⟨7, _⟩ => ⟨S7680x1024, .fp8e4m3⟩
  | .hbm, ⟨8, _⟩ => ⟨S1x1024, .f32⟩
  | .hbm, ⟨9, _⟩ => ⟨S1x1024, .f32⟩
  | .hbm, ⟨10, _⟩ => ⟨S24576x1024, .bf16⟩
  | .hbm, ⟨11, _⟩ => ⟨S2x15x12288x512, .fp8e4m3⟩
  | .hbm, ⟨12, _⟩ => ⟨S192x128, .f32⟩
  | .local _ .vmem, ⟨0, _⟩ => ⟨S8x480x512, .f32⟩
  | .local _ .vmem, ⟨1, _⟩ => ⟨S8x480x512, .f32⟩
  | .local _ .vmem, ⟨2, _⟩ => ⟨S7680x1024, .fp8e4m3⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x15x256x512, .fp8e4m3⟩
  | .local _ .vmem, ⟨8, _⟩ => ⟨S1x15x256x512, .fp8e4m3⟩
  | .local _ .vmem, ⟨9, _⟩ => ⟨S192x128, .f32⟩
  | .local _ .vmem, ⟨10, _⟩ => ⟨S8x480x512, .f32⟩
  | .local _ .vmem, ⟨11, _⟩ => ⟨S8x32x128, .f32⟩
  | .local _ .vmem, ⟨12, _⟩ => ⟨S2x15x256x512, .fp8e4m3⟩
  | .local _ .vmem, ⟨13, _⟩ => ⟨S2x256x128, .f32⟩
  | _, _ => ⟨S2x12288x15x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![99], ![false]⟩

def k0_off1 (i : grid0.Coords) : Fin 3 → Nat :=
  let arg0 : BitVec 32 := BitVec.ofNat 32 (i 0).val
  let c2_i32 : BitVec 32 := 2#32
  let v3 : BitVec 32 := Scalar.remsi arg0 c2_i32
  let v47 : Index := Scalar.indexCast v3
  let c0_15 : Index := 0#32
  let c0_16 : Index := 0#32
  ![v47.toNat, 0, 0]
def k0_off2 (i : grid0.Coords) : Fin 3 → Nat :=
  let arg0 : BitVec 32 := BitVec.ofNat 32 (i 0).val
  let c2_i32 : BitVec 32 := 2#32
  let v3 : BitVec 32 := Scalar.remsi arg0 c2_i32
  let v95 : Index := Scalar.indexCast v3
  let c32 : Index := 32#32
  let c0_35 : Index := 0#32
  ![v95.toNat, 32, 0]
def k0_off3 (i : grid0.Coords) : Fin 3 → Nat :=
  let arg0 : BitVec 32 := BitVec.ofNat 32 (i 0).val
  let c2_i32 : BitVec 32 := 2#32
  let v3 : BitVec 32 := Scalar.remsi arg0 c2_i32
  let v143 : Index := Scalar.indexCast v3
  let c64 : Index := 64#32
  let c0_53 : Index := 0#32
  ![v143.toNat, 64, 0]
def k0_off4 (i : grid0.Coords) : Fin 3 → Nat :=
  let arg0 : BitVec 32 := BitVec.ofNat 32 (i 0).val
  let c2_i32 : BitVec 32 := 2#32
  let v3 : BitVec 32 := Scalar.remsi arg0 c2_i32
  let v191 : Index := Scalar.indexCast v3
  let c96 : Index := 96#32
  let c0_71 : Index := 0#32
  ![v191.toNat, 96, 0]
def k0_off5 (i : grid0.Coords) : Fin 3 → Nat :=
  let arg0 : BitVec 32 := BitVec.ofNat 32 (i 0).val
  let c2_i32 : BitVec 32 := 2#32
  let v3 : BitVec 32 := Scalar.remsi arg0 c2_i32
  let v239 : Index := Scalar.indexCast v3
  let c128 : Index := 128#32
  let c0_89 : Index := 0#32
  ![v239.toNat, 128, 0]
def k0_off6 (i : grid0.Coords) : Fin 3 → Nat :=
  let arg0 : BitVec 32 := BitVec.ofNat 32 (i 0).val
  let c2_i32 : BitVec 32 := 2#32
  let v3 : BitVec 32 := Scalar.remsi arg0 c2_i32
  let v287 : Index := Scalar.indexCast v3
  let c160 : Index := 160#32
  let c0_108 : Index := 0#32
  ![v287.toNat, 160, 0]
def k0_off7 (i : grid0.Coords) : Fin 3 → Nat :=
  let arg0 : BitVec 32 := BitVec.ofNat 32 (i 0).val
  let c2_i32 : BitVec 32 := 2#32
  let v3 : BitVec 32 := Scalar.remsi arg0 c2_i32
  let v335 : Index := Scalar.indexCast v3
  let c192 : Index := 192#32
  let c0_127 : Index := 0#32
  ![v335.toNat, 192, 0]
def k0_off8 (i : grid0.Coords) : Fin 3 → Nat :=
  let arg0 : BitVec 32 := BitVec.ofNat 32 (i 0).val
  let c2_i32 : BitVec 32 := 2#32
  let v3 : BitVec 32 := Scalar.remsi arg0 c2_i32
  let v383 : Index := Scalar.indexCast v3
  let c224 : Index := 224#32
  let c0_146 : Index := 0#32
  ![v383.toNat, 224, 0]
def k0_off9 (i : grid0.Coords) (c0_i32_156 : BitVec 32) : Fin 2 → Nat :=
  let c95_i32 : BitVec 32 := 95#32
  let c0_i32_2 : BitVec 32 := 0#32
  let arg0 : BitVec 32 := BitVec.ofNat 32 (i 0).val
  let c2_i32_1 : BitVec 32 := 2#32
  let v5 : BitVec 32 := Scalar.subi arg0 c2_i32_1
  let v6 : BitVec 32 := Scalar.maxsi c0_i32_2 v5
  let v7 : BitVec 32 := Scalar.minsi c95_i32 v6
  let c48_i32 : BitVec 32 := 48#32
  let c0_i32_150 : BitVec 32 := 0#32
  let v396 : BitVec 1 := Scalar.cmpi .eq c48_i32 c0_i32_150
  let c1_i32_151 : BitVec 32 := 1#32
  let v397 : BitVec 32 := Scalar.select v396 c1_i32_151 c48_i32
  let v398 : BitVec 32 := Scalar.remsi v7 v397
  let c0_i32_153 : BitVec 32 := 0#32
  let v400 : BitVec 1 := Scalar.cmpi .slt v398 c0_i32_153
  let c0_i32_154 : BitVec 32 := 0#32
  let v401 : BitVec 1 := Scalar.cmpi .slt v397 c0_i32_154
  let v402 : BitVec 1 := Scalar.xori v400 v401
  let c0_i32_152 : BitVec 32 := 0#32
  let v399 : BitVec 1 := Scalar.cmpi .ne v398 c0_i32_152
  let v403 : BitVec 1 := Scalar.andi v402 v399
  let v404 : BitVec 32 := Scalar.addi v398 v397
  let v405 : BitVec 32 := Scalar.select v403 v404 v398
  let c2_i32_155 : BitVec 32 := 2#32
  let v406 : BitVec 32 := Scalar.muli v405 c2_i32_155
  let v407 : BitVec 32 := Scalar.addi v406 c0_i32_156
  let c2_i32_157 : BitVec 32 := 2#32
  let v411 : BitVec 32 := Scalar.muli v407 c2_i32_157
  let c0_i32_159 : BitVec 32 := 0#32
  let v413 : BitVec 1 := Scalar.cmpi .sgt v7 c0_i32_159
  let v414 : BitVec 32 := Scalar.extui v413
  let c0_i32_160 : BitVec 32 := 0#32
  let v415 : BitVec 1 := Scalar.cmpi .slt v7 c0_i32_160
  let v416 : BitVec 32 := Scalar.extui v415
  let v417 : BitVec 32 := Scalar.subi v414 v416
  let c48_i32_158 : BitVec 32 := 48#32
  let c0_i32_161 : BitVec 32 := 0#32
  let v418 : BitVec 1 := Scalar.cmpi .sgt c48_i32_158 c0_i32_161
  let v419 : BitVec 32 := Scalar.extui v418
  let c0_i32_162 : BitVec 32 := 0#32
  let v420 : BitVec 1 := Scalar.cmpi .slt c48_i32_158 c0_i32_162
  let v421 : BitVec 32 := Scalar.extui v420
  let v422 : BitVec 32 := Scalar.subi v419 v421
  let v423 : BitVec 1 := Scalar.cmpi .ne v417 v422
  let v424 : BitVec 32 := Scalar.remsi v7 c48_i32_158
  let c0_i32_163 : BitVec 32 := 0#32
  let v425 : BitVec 1 := Scalar.cmpi .ne v424 c0_i32_163
  let v426 : BitVec 1 := Scalar.andi v423 v425
  let v412 : BitVec 32 := Scalar.divsi v7 c48_i32_158
  let c1_i32_164 : BitVec 32 := 1#32
  let v427 : BitVec 32 := Scalar.subi v412 c1_i32_164
  let v428 : BitVec 32 := Scalar.select v426 v427 v412
  let v429 : BitVec 32 := Scalar.addi v411 v428
  let v430 : Index := Scalar.indexCast v429
  let c0_165 : Index := 0#32
  ![v430.toNat, 0]
def k0_off10 (i : grid0.Coords) : Fin 4 → Nat :=
  let arg0 : BitVec 32 := BitVec.ofNat 32 (i 0).val
  let c2_i32 : BitVec 32 := 2#32
  let v3 : BitVec 32 := Scalar.remsi arg0 c2_i32
  let v480 : Index := Scalar.indexCast v3
  let c0_192 : Index := 0#32
  let c0_193 : Index := 0#32
  let c0_194 : Index := 0#32
  ![v480.toNat, 0, 0, 0]
def k0_off11 (i : grid0.Coords) : Fin 4 → Nat :=
  let arg0 : BitVec 32 := BitVec.ofNat 32 (i 0).val
  let c2_i32 : BitVec 32 := 2#32
  let v3 : BitVec 32 := Scalar.remsi arg0 c2_i32
  let v496 : Index := Scalar.indexCast v3
  let c1_204 : Index := 1#32
  let c0_205 : Index := 0#32
  let c0_206 : Index := 0#32
  ![v496.toNat, 1, 0, 0]
def k0_off12 (i : grid0.Coords) : Fin 4 → Nat :=
  let arg0 : BitVec 32 := BitVec.ofNat 32 (i 0).val
  let c2_i32 : BitVec 32 := 2#32
  let v3 : BitVec 32 := Scalar.remsi arg0 c2_i32
  let v512 : Index := Scalar.indexCast v3
  let c2_216 : Index := 2#32
  let c0_217 : Index := 0#32
  let c0_218 : Index := 0#32
  ![v512.toNat, 2, 0, 0]
def k0_off13 (i : grid0.Coords) : Fin 4 → Nat :=
  let arg0 : BitVec 32 := BitVec.ofNat 32 (i 0).val
  let c2_i32 : BitVec 32 := 2#32
  let v3 : BitVec 32 := Scalar.remsi arg0 c2_i32
  let v528 : Index := Scalar.indexCast v3
  let c3_228 : Index := 3#32
  let c0_229 : Index := 0#32
  let c0_230 : Index := 0#32
  ![v528.toNat, 3, 0, 0]
def k0_off14 (i : grid0.Coords) : Fin 4 → Nat :=
  let arg0 : BitVec 32 := BitVec.ofNat 32 (i 0).val
  let c2_i32 : BitVec 32 := 2#32
  let v3 : BitVec 32 := Scalar.remsi arg0 c2_i32
  let v544 : Index := Scalar.indexCast v3
  let c4_240 : Index := 4#32
  let c0_241 : Index := 0#32
  let c0_242 : Index := 0#32
  ![v544.toNat, 4, 0, 0]
def k0_off15 (i : grid0.Coords) : Fin 4 → Nat :=
  let arg0 : BitVec 32 := BitVec.ofNat 32 (i 0).val
  let c2_i32 : BitVec 32 := 2#32
  let v3 : BitVec 32 := Scalar.remsi arg0 c2_i32
  let v560 : Index := Scalar.indexCast v3
  let c5_252 : Index := 5#32
  let c0_253 : Index := 0#32
  let c0_254 : Index := 0#32
  ![v560.toNat, 5, 0, 0]
def k0_off16 (i : grid0.Coords) : Fin 4 → Nat :=
  let arg0 : BitVec 32 := BitVec.ofNat 32 (i 0).val
  let c2_i32 : BitVec 32 := 2#32
  let v3 : BitVec 32 := Scalar.remsi arg0 c2_i32
  let v576 : Index := Scalar.indexCast v3
  let c6_264 : Index := 6#32
  let c0_265 : Index := 0#32
  let c0_266 : Index := 0#32
  ![v576.toNat, 6, 0, 0]
def k0_off17 (i : grid0.Coords) : Fin 4 → Nat :=
  let arg0 : BitVec 32 := BitVec.ofNat 32 (i 0).val
  let c2_i32 : BitVec 32 := 2#32
  let v3 : BitVec 32 := Scalar.remsi arg0 c2_i32
  let v592 : Index := Scalar.indexCast v3
  let c7_276 : Index := 7#32
  let c0_277 : Index := 0#32
  let c0_278 : Index := 0#32
  ![v592.toNat, 7, 0, 0]
def k0_off18 (i : grid0.Coords) : Fin 4 → Nat :=
  let arg0 : BitVec 32 := BitVec.ofNat 32 (i 0).val
  let c2_i32 : BitVec 32 := 2#32
  let v3 : BitVec 32 := Scalar.remsi arg0 c2_i32
  let v608 : Index := Scalar.indexCast v3
  let c8_286 : Index := 8#32
  let c0_287 : Index := 0#32
  let c0_288 : Index := 0#32
  ![v608.toNat, 8, 0, 0]
def k0_off19 (i : grid0.Coords) : Fin 4 → Nat :=
  let arg0 : BitVec 32 := BitVec.ofNat 32 (i 0).val
  let c2_i32 : BitVec 32 := 2#32
  let v3 : BitVec 32 := Scalar.remsi arg0 c2_i32
  let v624 : Index := Scalar.indexCast v3
  let c9_296 : Index := 9#32
  let c0_297 : Index := 0#32
  let c0_298 : Index := 0#32
  ![v624.toNat, 9, 0, 0]
def k0_off20 (i : grid0.Coords) : Fin 4 → Nat :=
  let arg0 : BitVec 32 := BitVec.ofNat 32 (i 0).val
  let c2_i32 : BitVec 32 := 2#32
  let v3 : BitVec 32 := Scalar.remsi arg0 c2_i32
  let v640 : Index := Scalar.indexCast v3
  let c10_306 : Index := 10#32
  let c0_307 : Index := 0#32
  let c0_308 : Index := 0#32
  ![v640.toNat, 10, 0, 0]
def k0_off21 (i : grid0.Coords) : Fin 4 → Nat :=
  let arg0 : BitVec 32 := BitVec.ofNat 32 (i 0).val
  let c2_i32 : BitVec 32 := 2#32
  let v3 : BitVec 32 := Scalar.remsi arg0 c2_i32
  let v656 : Index := Scalar.indexCast v3
  let c11_316 : Index := 11#32
  let c0_317 : Index := 0#32
  let c0_318 : Index := 0#32
  ![v656.toNat, 11, 0, 0]
def k0_off22 (i : grid0.Coords) : Fin 4 → Nat :=
  let arg0 : BitVec 32 := BitVec.ofNat 32 (i 0).val
  let c2_i32 : BitVec 32 := 2#32
  let v3 : BitVec 32 := Scalar.remsi arg0 c2_i32
  let v672 : Index := Scalar.indexCast v3
  let c12_326 : Index := 12#32
  let c0_327 : Index := 0#32
  let c0_328 : Index := 0#32
  ![v672.toNat, 12, 0, 0]
def k0_off23 (i : grid0.Coords) : Fin 4 → Nat :=
  let arg0 : BitVec 32 := BitVec.ofNat 32 (i 0).val
  let c2_i32 : BitVec 32 := 2#32
  let v3 : BitVec 32 := Scalar.remsi arg0 c2_i32
  let v688 : Index := Scalar.indexCast v3
  let c13_336 : Index := 13#32
  let c0_337 : Index := 0#32
  let c0_338 : Index := 0#32
  ![v688.toNat, 13, 0, 0]
def k0_off24 (i : grid0.Coords) : Fin 4 → Nat :=
  let arg0 : BitVec 32 := BitVec.ofNat 32 (i 0).val
  let c2_i32 : BitVec 32 := 2#32
  let v3 : BitVec 32 := Scalar.remsi arg0 c2_i32
  let v704 : Index := Scalar.indexCast v3
  let c14_346 : Index := 14#32
  let c0_347 : Index := 0#32
  let c0_348 : Index := 0#32
  ![v704.toNat, 14, 0, 0]
def k0_off25 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v708 : Index := Scalar.indexCast v4
  let c0_349 : Index := 0#32
  let c0_350 : Index := 0#32
  let c0_351 : Index := 0#32
  ![v708.toNat, 0, 0, 0]
def k0_off26 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v711 : Index := Scalar.indexCast v4
  let c1_352 : Index := 1#32
  let c0_353 : Index := 0#32
  let c0_354 : Index := 0#32
  ![v711.toNat, 1, 0, 0]
def k0_off27 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v714 : Index := Scalar.indexCast v4
  let c2_355 : Index := 2#32
  let c0_356 : Index := 0#32
  let c0_357 : Index := 0#32
  ![v714.toNat, 2, 0, 0]
def k0_off28 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v717 : Index := Scalar.indexCast v4
  let c3_358 : Index := 3#32
  let c0_359 : Index := 0#32
  let c0_360 : Index := 0#32
  ![v717.toNat, 3, 0, 0]
def k0_off29 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v720 : Index := Scalar.indexCast v4
  let c4_361 : Index := 4#32
  let c0_362 : Index := 0#32
  let c0_363 : Index := 0#32
  ![v720.toNat, 4, 0, 0]
def k0_off30 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v723 : Index := Scalar.indexCast v4
  let c5_364 : Index := 5#32
  let c0_365 : Index := 0#32
  let c0_366 : Index := 0#32
  ![v723.toNat, 5, 0, 0]
def k0_off31 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v726 : Index := Scalar.indexCast v4
  let c6_367 : Index := 6#32
  let c0_368 : Index := 0#32
  let c0_369 : Index := 0#32
  ![v726.toNat, 6, 0, 0]
def k0_off32 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v729 : Index := Scalar.indexCast v4
  let c7_370 : Index := 7#32
  let c0_371 : Index := 0#32
  let c0_372 : Index := 0#32
  ![v729.toNat, 7, 0, 0]
def k0_off33 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v732 : Index := Scalar.indexCast v4
  let c8_373 : Index := 8#32
  let c0_374 : Index := 0#32
  let c0_375 : Index := 0#32
  ![v732.toNat, 8, 0, 0]
def k0_off34 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v735 : Index := Scalar.indexCast v4
  let c9_376 : Index := 9#32
  let c0_377 : Index := 0#32
  let c0_378 : Index := 0#32
  ![v735.toNat, 9, 0, 0]
def k0_off35 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v738 : Index := Scalar.indexCast v4
  let c10_379 : Index := 10#32
  let c0_380 : Index := 0#32
  let c0_381 : Index := 0#32
  ![v738.toNat, 10, 0, 0]
def k0_off36 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v741 : Index := Scalar.indexCast v4
  let c11_382 : Index := 11#32
  let c0_383 : Index := 0#32
  let c0_384 : Index := 0#32
  ![v741.toNat, 11, 0, 0]
def k0_off37 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v744 : Index := Scalar.indexCast v4
  let c12_385 : Index := 12#32
  let c0_386 : Index := 0#32
  let c0_387 : Index := 0#32
  ![v744.toNat, 12, 0, 0]
def k0_off38 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v747 : Index := Scalar.indexCast v4
  let c13_388 : Index := 13#32
  let c0_389 : Index := 0#32
  let c0_390 : Index := 0#32
  ![v747.toNat, 13, 0, 0]
def k0_off39 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v750 : Index := Scalar.indexCast v4
  let c14_391 : Index := 14#32
  let c0_392 : Index := 0#32
  let c0_393 : Index := 0#32
  ![v750.toNat, 14, 0, 0]
def k0_off40 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v757 : Index := Scalar.indexCast v4
  let c0_397 : Index := 0#32
  let c0_398 : Index := 0#32
  ![v757.toNat, 0, 0]
def k0_off41 (i : grid0.Coords) : Fin 4 → Nat :=
  let arg0 : BitVec 32 := BitVec.ofNat 32 (i 0).val
  let c2_i32 : BitVec 32 := 2#32
  let v3 : BitVec 32 := Scalar.remsi arg0 c2_i32
  let v983 : Index := Scalar.indexCast v3
  let c0_429 : Index := 0#32
  let c32_430 : Index := 32#32
  let c0_431 : Index := 0#32
  ![v983.toNat, 0, 32, 0]
def k0_off42 (i : grid0.Coords) : Fin 4 → Nat :=
  let arg0 : BitVec 32 := BitVec.ofNat 32 (i 0).val
  let c2_i32 : BitVec 32 := 2#32
  let v3 : BitVec 32 := Scalar.remsi arg0 c2_i32
  let v999 : Index := Scalar.indexCast v3
  let c1_441 : Index := 1#32
  let c32_442 : Index := 32#32
  let c0_443 : Index := 0#32
  ![v999.toNat, 1, 32, 0]
def k0_off43 (i : grid0.Coords) : Fin 4 → Nat :=
  let arg0 : BitVec 32 := BitVec.ofNat 32 (i 0).val
  let c2_i32 : BitVec 32 := 2#32
  let v3 : BitVec 32 := Scalar.remsi arg0 c2_i32
  let v1015 : Index := Scalar.indexCast v3
  let c2_453 : Index := 2#32
  let c32_454 : Index := 32#32
  let c0_455 : Index := 0#32
  ![v1015.toNat, 2, 32, 0]
def k0_off44 (i : grid0.Coords) : Fin 4 → Nat :=
  let arg0 : BitVec 32 := BitVec.ofNat 32 (i 0).val
  let c2_i32 : BitVec 32 := 2#32
  let v3 : BitVec 32 := Scalar.remsi arg0 c2_i32
  let v1031 : Index := Scalar.indexCast v3
  let c3_465 : Index := 3#32
  let c32_466 : Index := 32#32
  let c0_467 : Index := 0#32
  ![v1031.toNat, 3, 32, 0]
def k0_off45 (i : grid0.Coords) : Fin 4 → Nat :=
  let arg0 : BitVec 32 := BitVec.ofNat 32 (i 0).val
  let c2_i32 : BitVec 32 := 2#32
  let v3 : BitVec 32 := Scalar.remsi arg0 c2_i32
  let v1047 : Index := Scalar.indexCast v3
  let c4_477 : Index := 4#32
  let c32_478 : Index := 32#32
  let c0_479 : Index := 0#32
  ![v1047.toNat, 4, 32, 0]
def k0_off46 (i : grid0.Coords) : Fin 4 → Nat :=
  let arg0 : BitVec 32 := BitVec.ofNat 32 (i 0).val
  let c2_i32 : BitVec 32 := 2#32
  let v3 : BitVec 32 := Scalar.remsi arg0 c2_i32
  let v1063 : Index := Scalar.indexCast v3
  let c5_489 : Index := 5#32
  let c32_490 : Index := 32#32
  let c0_491 : Index := 0#32
  ![v1063.toNat, 5, 32, 0]
def k0_off47 (i : grid0.Coords) : Fin 4 → Nat :=
  let arg0 : BitVec 32 := BitVec.ofNat 32 (i 0).val
  let c2_i32 : BitVec 32 := 2#32
  let v3 : BitVec 32 := Scalar.remsi arg0 c2_i32
  let v1079 : Index := Scalar.indexCast v3
  let c6_501 : Index := 6#32
  let c32_502 : Index := 32#32
  let c0_503 : Index := 0#32
  ![v1079.toNat, 6, 32, 0]
def k0_off48 (i : grid0.Coords) : Fin 4 → Nat :=
  let arg0 : BitVec 32 := BitVec.ofNat 32 (i 0).val
  let c2_i32 : BitVec 32 := 2#32
  let v3 : BitVec 32 := Scalar.remsi arg0 c2_i32
  let v1095 : Index := Scalar.indexCast v3
  let c7_513 : Index := 7#32
  let c32_514 : Index := 32#32
  let c0_515 : Index := 0#32
  ![v1095.toNat, 7, 32, 0]
def k0_off49 (i : grid0.Coords) : Fin 4 → Nat :=
  let arg0 : BitVec 32 := BitVec.ofNat 32 (i 0).val
  let c2_i32 : BitVec 32 := 2#32
  let v3 : BitVec 32 := Scalar.remsi arg0 c2_i32
  let v1111 : Index := Scalar.indexCast v3
  let c8_525 : Index := 8#32
  let c32_526 : Index := 32#32
  let c0_527 : Index := 0#32
  ![v1111.toNat, 8, 32, 0]
def k0_off50 (i : grid0.Coords) : Fin 4 → Nat :=
  let arg0 : BitVec 32 := BitVec.ofNat 32 (i 0).val
  let c2_i32 : BitVec 32 := 2#32
  let v3 : BitVec 32 := Scalar.remsi arg0 c2_i32
  let v1127 : Index := Scalar.indexCast v3
  let c9_537 : Index := 9#32
  let c32_538 : Index := 32#32
  let c0_539 : Index := 0#32
  ![v1127.toNat, 9, 32, 0]
def k0_off51 (i : grid0.Coords) : Fin 4 → Nat :=
  let arg0 : BitVec 32 := BitVec.ofNat 32 (i 0).val
  let c2_i32 : BitVec 32 := 2#32
  let v3 : BitVec 32 := Scalar.remsi arg0 c2_i32
  let v1143 : Index := Scalar.indexCast v3
  let c10_549 : Index := 10#32
  let c32_550 : Index := 32#32
  let c0_551 : Index := 0#32
  ![v1143.toNat, 10, 32, 0]
def k0_off52 (i : grid0.Coords) : Fin 4 → Nat :=
  let arg0 : BitVec 32 := BitVec.ofNat 32 (i 0).val
  let c2_i32 : BitVec 32 := 2#32
  let v3 : BitVec 32 := Scalar.remsi arg0 c2_i32
  let v1159 : Index := Scalar.indexCast v3
  let c11_561 : Index := 11#32
  let c32_562 : Index := 32#32
  let c0_563 : Index := 0#32
  ![v1159.toNat, 11, 32, 0]
def k0_off53 (i : grid0.Coords) : Fin 4 → Nat :=
  let arg0 : BitVec 32 := BitVec.ofNat 32 (i 0).val
  let c2_i32 : BitVec 32 := 2#32
  let v3 : BitVec 32 := Scalar.remsi arg0 c2_i32
  let v1175 : Index := Scalar.indexCast v3
  let c12_573 : Index := 12#32
  let c32_574 : Index := 32#32
  let c0_575 : Index := 0#32
  ![v1175.toNat, 12, 32, 0]
def k0_off54 (i : grid0.Coords) : Fin 4 → Nat :=
  let arg0 : BitVec 32 := BitVec.ofNat 32 (i 0).val
  let c2_i32 : BitVec 32 := 2#32
  let v3 : BitVec 32 := Scalar.remsi arg0 c2_i32
  let v1191 : Index := Scalar.indexCast v3
  let c13_585 : Index := 13#32
  let c32_586 : Index := 32#32
  let c0_587 : Index := 0#32
  ![v1191.toNat, 13, 32, 0]
def k0_off55 (i : grid0.Coords) : Fin 4 → Nat :=
  let arg0 : BitVec 32 := BitVec.ofNat 32 (i 0).val
  let c2_i32 : BitVec 32 := 2#32
  let v3 : BitVec 32 := Scalar.remsi arg0 c2_i32
  let v1207 : Index := Scalar.indexCast v3
  let c14_597 : Index := 14#32
  let c32_598 : Index := 32#32
  let c0_599 : Index := 0#32
  ![v1207.toNat, 14, 32, 0]
def k0_off56 (i : grid0.Coords) : Fin 4 → Nat :=
  let arg0 : BitVec 32 := BitVec.ofNat 32 (i 0).val
  let c2_i32 : BitVec 32 := 2#32
  let v3 : BitVec 32 := Scalar.remsi arg0 c2_i32
  let v1410 : Index := Scalar.indexCast v3
  let c0_618 : Index := 0#32
  let c64_619 : Index := 64#32
  let c0_620 : Index := 0#32
  ![v1410.toNat, 0, 64, 0]
def k0_off57 (i : grid0.Coords) : Fin 4 → Nat :=
  let arg0 : BitVec 32 := BitVec.ofNat 32 (i 0).val
  let c2_i32 : BitVec 32 := 2#32
  let v3 : BitVec 32 := Scalar.remsi arg0 c2_i32
  let v1426 : Index := Scalar.indexCast v3
  let c1_630 : Index := 1#32
  let c64_631 : Index := 64#32
  let c0_632 : Index := 0#32
  ![v1426.toNat, 1, 64, 0]
def k0_off58 (i : grid0.Coords) : Fin 4 → Nat :=
  let arg0 : BitVec 32 := BitVec.ofNat 32 (i 0).val
  let c2_i32 : BitVec 32 := 2#32
  let v3 : BitVec 32 := Scalar.remsi arg0 c2_i32
  let v1442 : Index := Scalar.indexCast v3
  let c2_642 : Index := 2#32
  let c64_643 : Index := 64#32
  let c0_644 : Index := 0#32
  ![v1442.toNat, 2, 64, 0]
def k0_off59 (i : grid0.Coords) : Fin 4 → Nat :=
  let arg0 : BitVec 32 := BitVec.ofNat 32 (i 0).val
  let c2_i32 : BitVec 32 := 2#32
  let v3 : BitVec 32 := Scalar.remsi arg0 c2_i32
  let v1458 : Index := Scalar.indexCast v3
  let c3_654 : Index := 3#32
  let c64_655 : Index := 64#32
  let c0_656 : Index := 0#32
  ![v1458.toNat, 3, 64, 0]
def k0_off60 (i : grid0.Coords) : Fin 4 → Nat :=
  let arg0 : BitVec 32 := BitVec.ofNat 32 (i 0).val
  let c2_i32 : BitVec 32 := 2#32
  let v3 : BitVec 32 := Scalar.remsi arg0 c2_i32
  let v1474 : Index := Scalar.indexCast v3
  let c4_666 : Index := 4#32
  let c64_667 : Index := 64#32
  let c0_668 : Index := 0#32
  ![v1474.toNat, 4, 64, 0]
def k0_off61 (i : grid0.Coords) : Fin 4 → Nat :=
  let arg0 : BitVec 32 := BitVec.ofNat 32 (i 0).val
  let c2_i32 : BitVec 32 := 2#32
  let v3 : BitVec 32 := Scalar.remsi arg0 c2_i32
  let v1490 : Index := Scalar.indexCast v3
  let c5_678 : Index := 5#32
  let c64_679 : Index := 64#32
  let c0_680 : Index := 0#32
  ![v1490.toNat, 5, 64, 0]
def k0_off62 (i : grid0.Coords) : Fin 4 → Nat :=
  let arg0 : BitVec 32 := BitVec.ofNat 32 (i 0).val
  let c2_i32 : BitVec 32 := 2#32
  let v3 : BitVec 32 := Scalar.remsi arg0 c2_i32
  let v1506 : Index := Scalar.indexCast v3
  let c6_690 : Index := 6#32
  let c64_691 : Index := 64#32
  let c0_692 : Index := 0#32
  ![v1506.toNat, 6, 64, 0]
def k0_off63 (i : grid0.Coords) : Fin 4 → Nat :=
  let arg0 : BitVec 32 := BitVec.ofNat 32 (i 0).val
  let c2_i32 : BitVec 32 := 2#32
  let v3 : BitVec 32 := Scalar.remsi arg0 c2_i32
  let v1522 : Index := Scalar.indexCast v3
  let c7_702 : Index := 7#32
  let c64_703 : Index := 64#32
  let c0_704 : Index := 0#32
  ![v1522.toNat, 7, 64, 0]
def k0_off64 (i : grid0.Coords) : Fin 4 → Nat :=
  let arg0 : BitVec 32 := BitVec.ofNat 32 (i 0).val
  let c2_i32 : BitVec 32 := 2#32
  let v3 : BitVec 32 := Scalar.remsi arg0 c2_i32
  let v1538 : Index := Scalar.indexCast v3
  let c8_714 : Index := 8#32
  let c64_715 : Index := 64#32
  let c0_716 : Index := 0#32
  ![v1538.toNat, 8, 64, 0]
def k0_off65 (i : grid0.Coords) : Fin 4 → Nat :=
  let arg0 : BitVec 32 := BitVec.ofNat 32 (i 0).val
  let c2_i32 : BitVec 32 := 2#32
  let v3 : BitVec 32 := Scalar.remsi arg0 c2_i32
  let v1554 : Index := Scalar.indexCast v3
  let c9_726 : Index := 9#32
  let c64_727 : Index := 64#32
  let c0_728 : Index := 0#32
  ![v1554.toNat, 9, 64, 0]
def k0_off66 (i : grid0.Coords) : Fin 4 → Nat :=
  let arg0 : BitVec 32 := BitVec.ofNat 32 (i 0).val
  let c2_i32 : BitVec 32 := 2#32
  let v3 : BitVec 32 := Scalar.remsi arg0 c2_i32
  let v1570 : Index := Scalar.indexCast v3
  let c10_738 : Index := 10#32
  let c64_739 : Index := 64#32
  let c0_740 : Index := 0#32
  ![v1570.toNat, 10, 64, 0]
def k0_off67 (i : grid0.Coords) : Fin 4 → Nat :=
  let arg0 : BitVec 32 := BitVec.ofNat 32 (i 0).val
  let c2_i32 : BitVec 32 := 2#32
  let v3 : BitVec 32 := Scalar.remsi arg0 c2_i32
  let v1586 : Index := Scalar.indexCast v3
  let c11_750 : Index := 11#32
  let c64_751 : Index := 64#32
  let c0_752 : Index := 0#32
  ![v1586.toNat, 11, 64, 0]
def k0_off68 (i : grid0.Coords) : Fin 4 → Nat :=
  let arg0 : BitVec 32 := BitVec.ofNat 32 (i 0).val
  let c2_i32 : BitVec 32 := 2#32
  let v3 : BitVec 32 := Scalar.remsi arg0 c2_i32
  let v1602 : Index := Scalar.indexCast v3
  let c12_762 : Index := 12#32
  let c64_763 : Index := 64#32
  let c0_764 : Index := 0#32
  ![v1602.toNat, 12, 64, 0]
def k0_off69 (i : grid0.Coords) : Fin 4 → Nat :=
  let arg0 : BitVec 32 := BitVec.ofNat 32 (i 0).val
  let c2_i32 : BitVec 32 := 2#32
  let v3 : BitVec 32 := Scalar.remsi arg0 c2_i32
  let v1618 : Index := Scalar.indexCast v3
  let c13_774 : Index := 13#32
  let c64_775 : Index := 64#32
  let c0_776 : Index := 0#32
  ![v1618.toNat, 13, 64, 0]
def k0_off70 (i : grid0.Coords) : Fin 4 → Nat :=
  let arg0 : BitVec 32 := BitVec.ofNat 32 (i 0).val
  let c2_i32 : BitVec 32 := 2#32
  let v3 : BitVec 32 := Scalar.remsi arg0 c2_i32
  let v1634 : Index := Scalar.indexCast v3
  let c14_786 : Index := 14#32
  let c64_787 : Index := 64#32
  let c0_788 : Index := 0#32
  ![v1634.toNat, 14, 64, 0]
def k0_off71 (i : grid0.Coords) : Fin 4 → Nat :=
  let arg0 : BitVec 32 := BitVec.ofNat 32 (i 0).val
  let c2_i32 : BitVec 32 := 2#32
  let v3 : BitVec 32 := Scalar.remsi arg0 c2_i32
  let v1913 : Index := Scalar.indexCast v3
  let c0_869 : Index := 0#32
  let c96_870 : Index := 96#32
  let c0_871 : Index := 0#32
  ![v1913.toNat, 0, 96, 0]
def k0_off72 (i : grid0.Coords) : Fin 4 → Nat :=
  let arg0 : BitVec 32 := BitVec.ofNat 32 (i 0).val
  let c2_i32 : BitVec 32 := 2#32
  let v3 : BitVec 32 := Scalar.remsi arg0 c2_i32
  let v1929 : Index := Scalar.indexCast v3
  let c1_881 : Index := 1#32
  let c96_882 : Index := 96#32
  let c0_883 : Index := 0#32
  ![v1929.toNat, 1, 96, 0]
def k0_off73 (i : grid0.Coords) : Fin 4 → Nat :=
  let arg0 : BitVec 32 := BitVec.ofNat 32 (i 0).val
  let c2_i32 : BitVec 32 := 2#32
  let v3 : BitVec 32 := Scalar.remsi arg0 c2_i32
  let v1945 : Index := Scalar.indexCast v3
  let c2_893 : Index := 2#32
  let c96_894 : Index := 96#32
  let c0_895 : Index := 0#32
  ![v1945.toNat, 2, 96, 0]
def k0_off74 (i : grid0.Coords) : Fin 4 → Nat :=
  let arg0 : BitVec 32 := BitVec.ofNat 32 (i 0).val
  let c2_i32 : BitVec 32 := 2#32
  let v3 : BitVec 32 := Scalar.remsi arg0 c2_i32
  let v1961 : Index := Scalar.indexCast v3
  let c3_905 : Index := 3#32
  let c96_906 : Index := 96#32
  let c0_907 : Index := 0#32
  ![v1961.toNat, 3, 96, 0]
def k0_off75 (i : grid0.Coords) : Fin 4 → Nat :=
  let arg0 : BitVec 32 := BitVec.ofNat 32 (i 0).val
  let c2_i32 : BitVec 32 := 2#32
  let v3 : BitVec 32 := Scalar.remsi arg0 c2_i32
  let v1977 : Index := Scalar.indexCast v3
  let c4_917 : Index := 4#32
  let c96_918 : Index := 96#32
  let c0_919 : Index := 0#32
  ![v1977.toNat, 4, 96, 0]
def k0_off76 (i : grid0.Coords) : Fin 4 → Nat :=
  let arg0 : BitVec 32 := BitVec.ofNat 32 (i 0).val
  let c2_i32 : BitVec 32 := 2#32
  let v3 : BitVec 32 := Scalar.remsi arg0 c2_i32
  let v1993 : Index := Scalar.indexCast v3
  let c5_929 : Index := 5#32
  let c96_930 : Index := 96#32
  let c0_931 : Index := 0#32
  ![v1993.toNat, 5, 96, 0]
def k0_off77 (i : grid0.Coords) : Fin 4 → Nat :=
  let arg0 : BitVec 32 := BitVec.ofNat 32 (i 0).val
  let c2_i32 : BitVec 32 := 2#32
  let v3 : BitVec 32 := Scalar.remsi arg0 c2_i32
  let v2009 : Index := Scalar.indexCast v3
  let c6_941 : Index := 6#32
  let c96_942 : Index := 96#32
  let c0_943 : Index := 0#32
  ![v2009.toNat, 6, 96, 0]
def k0_off78 (i : grid0.Coords) : Fin 4 → Nat :=
  let arg0 : BitVec 32 := BitVec.ofNat 32 (i 0).val
  let c2_i32 : BitVec 32 := 2#32
  let v3 : BitVec 32 := Scalar.remsi arg0 c2_i32
  let v2025 : Index := Scalar.indexCast v3
  let c7_953 : Index := 7#32
  let c96_954 : Index := 96#32
  let c0_955 : Index := 0#32
  ![v2025.toNat, 7, 96, 0]
def k0_off79 (i : grid0.Coords) : Fin 4 → Nat :=
  let arg0 : BitVec 32 := BitVec.ofNat 32 (i 0).val
  let c2_i32 : BitVec 32 := 2#32
  let v3 : BitVec 32 := Scalar.remsi arg0 c2_i32
  let v2041 : Index := Scalar.indexCast v3
  let c8_965 : Index := 8#32
  let c96_966 : Index := 96#32
  let c0_967 : Index := 0#32
  ![v2041.toNat, 8, 96, 0]
def k0_off80 (i : grid0.Coords) : Fin 4 → Nat :=
  let arg0 : BitVec 32 := BitVec.ofNat 32 (i 0).val
  let c2_i32 : BitVec 32 := 2#32
  let v3 : BitVec 32 := Scalar.remsi arg0 c2_i32
  let v2057 : Index := Scalar.indexCast v3
  let c9_977 : Index := 9#32
  let c96_978 : Index := 96#32
  let c0_979 : Index := 0#32
  ![v2057.toNat, 9, 96, 0]
def k0_off81 (i : grid0.Coords) : Fin 4 → Nat :=
  let arg0 : BitVec 32 := BitVec.ofNat 32 (i 0).val
  let c2_i32 : BitVec 32 := 2#32
  let v3 : BitVec 32 := Scalar.remsi arg0 c2_i32
  let v2073 : Index := Scalar.indexCast v3
  let c10_989 : Index := 10#32
  let c96_990 : Index := 96#32
  let c0_991 : Index := 0#32
  ![v2073.toNat, 10, 96, 0]
def k0_off82 (i : grid0.Coords) : Fin 4 → Nat :=
  let arg0 : BitVec 32 := BitVec.ofNat 32 (i 0).val
  let c2_i32 : BitVec 32 := 2#32
  let v3 : BitVec 32 := Scalar.remsi arg0 c2_i32
  let v2089 : Index := Scalar.indexCast v3
  let c11_1001 : Index := 11#32
  let c96_1002 : Index := 96#32
  let c0_1003 : Index := 0#32
  ![v2089.toNat, 11, 96, 0]
def k0_off83 (i : grid0.Coords) : Fin 4 → Nat :=
  let arg0 : BitVec 32 := BitVec.ofNat 32 (i 0).val
  let c2_i32 : BitVec 32 := 2#32
  let v3 : BitVec 32 := Scalar.remsi arg0 c2_i32
  let v2105 : Index := Scalar.indexCast v3
  let c12_1013 : Index := 12#32
  let c96_1014 : Index := 96#32
  let c0_1015 : Index := 0#32
  ![v2105.toNat, 12, 96, 0]
def k0_off84 (i : grid0.Coords) : Fin 4 → Nat :=
  let arg0 : BitVec 32 := BitVec.ofNat 32 (i 0).val
  let c2_i32 : BitVec 32 := 2#32
  let v3 : BitVec 32 := Scalar.remsi arg0 c2_i32
  let v2121 : Index := Scalar.indexCast v3
  let c13_1025 : Index := 13#32
  let c96_1026 : Index := 96#32
  let c0_1027 : Index := 0#32
  ![v2121.toNat, 13, 96, 0]
def k0_off85 (i : grid0.Coords) : Fin 4 → Nat :=
  let arg0 : BitVec 32 := BitVec.ofNat 32 (i 0).val
  let c2_i32 : BitVec 32 := 2#32
  let v3 : BitVec 32 := Scalar.remsi arg0 c2_i32
  let v2137 : Index := Scalar.indexCast v3
  let c14_1037 : Index := 14#32
  let c96_1038 : Index := 96#32
  let c0_1039 : Index := 0#32
  ![v2137.toNat, 14, 96, 0]
def k0_off86 (i : grid0.Coords) : Fin 4 → Nat :=
  let arg0 : BitVec 32 := BitVec.ofNat 32 (i 0).val
  let c2_i32 : BitVec 32 := 2#32
  let v3 : BitVec 32 := Scalar.remsi arg0 c2_i32
  let v2340 : Index := Scalar.indexCast v3
  let c0_1058 : Index := 0#32
  let c128_1059 : Index := 128#32
  let c0_1060 : Index := 0#32
  ![v2340.toNat, 0, 128, 0]
def k0_off87 (i : grid0.Coords) : Fin 4 → Nat :=
  let arg0 : BitVec 32 := BitVec.ofNat 32 (i 0).val
  let c2_i32 : BitVec 32 := 2#32
  let v3 : BitVec 32 := Scalar.remsi arg0 c2_i32
  let v2356 : Index := Scalar.indexCast v3
  let c1_1070 : Index := 1#32
  let c128_1071 : Index := 128#32
  let c0_1072 : Index := 0#32
  ![v2356.toNat, 1, 128, 0]
def k0_off88 (i : grid0.Coords) : Fin 4 → Nat :=
  let arg0 : BitVec 32 := BitVec.ofNat 32 (i 0).val
  let c2_i32 : BitVec 32 := 2#32
  let v3 : BitVec 32 := Scalar.remsi arg0 c2_i32
  let v2372 : Index := Scalar.indexCast v3
  let c2_1082 : Index := 2#32
  let c128_1083 : Index := 128#32
  let c0_1084 : Index := 0#32
  ![v2372.toNat, 2, 128, 0]
def k0_off89 (i : grid0.Coords) : Fin 4 → Nat :=
  let arg0 : BitVec 32 := BitVec.ofNat 32 (i 0).val
  let c2_i32 : BitVec 32 := 2#32
  let v3 : BitVec 32 := Scalar.remsi arg0 c2_i32
  let v2388 : Index := Scalar.indexCast v3
  let c3_1094 : Index := 3#32
  let c128_1095 : Index := 128#32
  let c0_1096 : Index := 0#32
  ![v2388.toNat, 3, 128, 0]
def k0_off90 (i : grid0.Coords) : Fin 4 → Nat :=
  let arg0 : BitVec 32 := BitVec.ofNat 32 (i 0).val
  let c2_i32 : BitVec 32 := 2#32
  let v3 : BitVec 32 := Scalar.remsi arg0 c2_i32
  let v2404 : Index := Scalar.indexCast v3
  let c4_1106 : Index := 4#32
  let c128_1107 : Index := 128#32
  let c0_1108 : Index := 0#32
  ![v2404.toNat, 4, 128, 0]
def k0_off91 (i : grid0.Coords) : Fin 4 → Nat :=
  let arg0 : BitVec 32 := BitVec.ofNat 32 (i 0).val
  let c2_i32 : BitVec 32 := 2#32
  let v3 : BitVec 32 := Scalar.remsi arg0 c2_i32
  let v2420 : Index := Scalar.indexCast v3
  let c5_1118 : Index := 5#32
  let c128_1119 : Index := 128#32
  let c0_1120 : Index := 0#32
  ![v2420.toNat, 5, 128, 0]
def k0_off92 (i : grid0.Coords) : Fin 4 → Nat :=
  let arg0 : BitVec 32 := BitVec.ofNat 32 (i 0).val
  let c2_i32 : BitVec 32 := 2#32
  let v3 : BitVec 32 := Scalar.remsi arg0 c2_i32
  let v2436 : Index := Scalar.indexCast v3
  let c6_1130 : Index := 6#32
  let c128_1131 : Index := 128#32
  let c0_1132 : Index := 0#32
  ![v2436.toNat, 6, 128, 0]
def k0_off93 (i : grid0.Coords) : Fin 4 → Nat :=
  let arg0 : BitVec 32 := BitVec.ofNat 32 (i 0).val
  let c2_i32 : BitVec 32 := 2#32
  let v3 : BitVec 32 := Scalar.remsi arg0 c2_i32
  let v2452 : Index := Scalar.indexCast v3
  let c7_1142 : Index := 7#32
  let c128_1143 : Index := 128#32
  let c0_1144 : Index := 0#32
  ![v2452.toNat, 7, 128, 0]
def k0_off94 (i : grid0.Coords) : Fin 4 → Nat :=
  let arg0 : BitVec 32 := BitVec.ofNat 32 (i 0).val
  let c2_i32 : BitVec 32 := 2#32
  let v3 : BitVec 32 := Scalar.remsi arg0 c2_i32
  let v2468 : Index := Scalar.indexCast v3
  let c8_1154 : Index := 8#32
  let c128_1155 : Index := 128#32
  let c0_1156 : Index := 0#32
  ![v2468.toNat, 8, 128, 0]
def k0_off95 (i : grid0.Coords) : Fin 4 → Nat :=
  let arg0 : BitVec 32 := BitVec.ofNat 32 (i 0).val
  let c2_i32 : BitVec 32 := 2#32
  let v3 : BitVec 32 := Scalar.remsi arg0 c2_i32
  let v2484 : Index := Scalar.indexCast v3
  let c9_1166 : Index := 9#32
  let c128_1167 : Index := 128#32
  let c0_1168 : Index := 0#32
  ![v2484.toNat, 9, 128, 0]
def k0_off96 (i : grid0.Coords) : Fin 4 → Nat :=
  let arg0 : BitVec 32 := BitVec.ofNat 32 (i 0).val
  let c2_i32 : BitVec 32 := 2#32
  let v3 : BitVec 32 := Scalar.remsi arg0 c2_i32
  let v2500 : Index := Scalar.indexCast v3
  let c10_1178 : Index := 10#32
  let c128_1179 : Index := 128#32
  let c0_1180 : Index := 0#32
  ![v2500.toNat, 10, 128, 0]
def k0_off97 (i : grid0.Coords) : Fin 4 → Nat :=
  let arg0 : BitVec 32 := BitVec.ofNat 32 (i 0).val
  let c2_i32 : BitVec 32 := 2#32
  let v3 : BitVec 32 := Scalar.remsi arg0 c2_i32
  let v2516 : Index := Scalar.indexCast v3
  let c11_1190 : Index := 11#32
  let c128_1191 : Index := 128#32
  let c0_1192 : Index := 0#32
  ![v2516.toNat, 11, 128, 0]
def k0_off98 (i : grid0.Coords) : Fin 4 → Nat :=
  let arg0 : BitVec 32 := BitVec.ofNat 32 (i 0).val
  let c2_i32 : BitVec 32 := 2#32
  let v3 : BitVec 32 := Scalar.remsi arg0 c2_i32
  let v2532 : Index := Scalar.indexCast v3
  let c12_1202 : Index := 12#32
  let c128_1203 : Index := 128#32
  let c0_1204 : Index := 0#32
  ![v2532.toNat, 12, 128, 0]
def k0_off99 (i : grid0.Coords) : Fin 4 → Nat :=
  let arg0 : BitVec 32 := BitVec.ofNat 32 (i 0).val
  let c2_i32 : BitVec 32 := 2#32
  let v3 : BitVec 32 := Scalar.remsi arg0 c2_i32
  let v2548 : Index := Scalar.indexCast v3
  let c13_1214 : Index := 13#32
  let c128_1215 : Index := 128#32
  let c0_1216 : Index := 0#32
  ![v2548.toNat, 13, 128, 0]
def k0_off100 (i : grid0.Coords) : Fin 4 → Nat :=
  let arg0 : BitVec 32 := BitVec.ofNat 32 (i 0).val
  let c2_i32 : BitVec 32 := 2#32
  let v3 : BitVec 32 := Scalar.remsi arg0 c2_i32
  let v2564 : Index := Scalar.indexCast v3
  let c14_1226 : Index := 14#32
  let c128_1227 : Index := 128#32
  let c0_1228 : Index := 0#32
  ![v2564.toNat, 14, 128, 0]
def k0_off101 (i : grid0.Coords) : Fin 4 → Nat :=
  let arg0 : BitVec 32 := BitVec.ofNat 32 (i 0).val
  let c2_i32 : BitVec 32 := 2#32
  let v3 : BitVec 32 := Scalar.remsi arg0 c2_i32
  let v2843 : Index := Scalar.indexCast v3
  let c0_1307 : Index := 0#32
  let c160_1308 : Index := 160#32
  let c0_1309 : Index := 0#32
  ![v2843.toNat, 0, 160, 0]
def k0_off102 (i : grid0.Coords) : Fin 4 → Nat :=
  let arg0 : BitVec 32 := BitVec.ofNat 32 (i 0).val
  let c2_i32 : BitVec 32 := 2#32
  let v3 : BitVec 32 := Scalar.remsi arg0 c2_i32
  let v2859 : Index := Scalar.indexCast v3
  let c1_1319 : Index := 1#32
  let c160_1320 : Index := 160#32
  let c0_1321 : Index := 0#32
  ![v2859.toNat, 1, 160, 0]
def k0_off103 (i : grid0.Coords) : Fin 4 → Nat :=
  let arg0 : BitVec 32 := BitVec.ofNat 32 (i 0).val
  let c2_i32 : BitVec 32 := 2#32
  let v3 : BitVec 32 := Scalar.remsi arg0 c2_i32
  let v2875 : Index := Scalar.indexCast v3
  let c2_1331 : Index := 2#32
  let c160_1332 : Index := 160#32
  let c0_1333 : Index := 0#32
  ![v2875.toNat, 2, 160, 0]
def k0_off104 (i : grid0.Coords) : Fin 4 → Nat :=
  let arg0 : BitVec 32 := BitVec.ofNat 32 (i 0).val
  let c2_i32 : BitVec 32 := 2#32
  let v3 : BitVec 32 := Scalar.remsi arg0 c2_i32
  let v2891 : Index := Scalar.indexCast v3
  let c3_1343 : Index := 3#32
  let c160_1344 : Index := 160#32
  let c0_1345 : Index := 0#32
  ![v2891.toNat, 3, 160, 0]
def k0_off105 (i : grid0.Coords) : Fin 4 → Nat :=
  let arg0 : BitVec 32 := BitVec.ofNat 32 (i 0).val
  let c2_i32 : BitVec 32 := 2#32
  let v3 : BitVec 32 := Scalar.remsi arg0 c2_i32
  let v2907 : Index := Scalar.indexCast v3
  let c4_1355 : Index := 4#32
  let c160_1356 : Index := 160#32
  let c0_1357 : Index := 0#32
  ![v2907.toNat, 4, 160, 0]
def k0_off106 (i : grid0.Coords) : Fin 4 → Nat :=
  let arg0 : BitVec 32 := BitVec.ofNat 32 (i 0).val
  let c2_i32 : BitVec 32 := 2#32
  let v3 : BitVec 32 := Scalar.remsi arg0 c2_i32
  let v2923 : Index := Scalar.indexCast v3
  let c5_1367 : Index := 5#32
  let c160_1368 : Index := 160#32
  let c0_1369 : Index := 0#32
  ![v2923.toNat, 5, 160, 0]
def k0_off107 (i : grid0.Coords) : Fin 4 → Nat :=
  let arg0 : BitVec 32 := BitVec.ofNat 32 (i 0).val
  let c2_i32 : BitVec 32 := 2#32
  let v3 : BitVec 32 := Scalar.remsi arg0 c2_i32
  let v2939 : Index := Scalar.indexCast v3
  let c6_1379 : Index := 6#32
  let c160_1380 : Index := 160#32
  let c0_1381 : Index := 0#32
  ![v2939.toNat, 6, 160, 0]
def k0_off108 (i : grid0.Coords) : Fin 4 → Nat :=
  let arg0 : BitVec 32 := BitVec.ofNat 32 (i 0).val
  let c2_i32 : BitVec 32 := 2#32
  let v3 : BitVec 32 := Scalar.remsi arg0 c2_i32
  let v2955 : Index := Scalar.indexCast v3
  let c7_1391 : Index := 7#32
  let c160_1392 : Index := 160#32
  let c0_1393 : Index := 0#32
  ![v2955.toNat, 7, 160, 0]
def k0_off109 (i : grid0.Coords) : Fin 4 → Nat :=
  let arg0 : BitVec 32 := BitVec.ofNat 32 (i 0).val
  let c2_i32 : BitVec 32 := 2#32
  let v3 : BitVec 32 := Scalar.remsi arg0 c2_i32
  let v2971 : Index := Scalar.indexCast v3
  let c8_1403 : Index := 8#32
  let c160_1404 : Index := 160#32
  let c0_1405 : Index := 0#32
  ![v2971.toNat, 8, 160, 0]
def k0_off110 (i : grid0.Coords) : Fin 4 → Nat :=
  let arg0 : BitVec 32 := BitVec.ofNat 32 (i 0).val
  let c2_i32 : BitVec 32 := 2#32
  let v3 : BitVec 32 := Scalar.remsi arg0 c2_i32
  let v2987 : Index := Scalar.indexCast v3
  let c9_1415 : Index := 9#32
  let c160_1416 : Index := 160#32
  let c0_1417 : Index := 0#32
  ![v2987.toNat, 9, 160, 0]
def k0_off111 (i : grid0.Coords) : Fin 4 → Nat :=
  let arg0 : BitVec 32 := BitVec.ofNat 32 (i 0).val
  let c2_i32 : BitVec 32 := 2#32
  let v3 : BitVec 32 := Scalar.remsi arg0 c2_i32
  let v3003 : Index := Scalar.indexCast v3
  let c10_1427 : Index := 10#32
  let c160_1428 : Index := 160#32
  let c0_1429 : Index := 0#32
  ![v3003.toNat, 10, 160, 0]
def k0_off112 (i : grid0.Coords) : Fin 4 → Nat :=
  let arg0 : BitVec 32 := BitVec.ofNat 32 (i 0).val
  let c2_i32 : BitVec 32 := 2#32
  let v3 : BitVec 32 := Scalar.remsi arg0 c2_i32
  let v3019 : Index := Scalar.indexCast v3
  let c11_1439 : Index := 11#32
  let c160_1440 : Index := 160#32
  let c0_1441 : Index := 0#32
  ![v3019.toNat, 11, 160, 0]
def k0_off113 (i : grid0.Coords) : Fin 4 → Nat :=
  let arg0 : BitVec 32 := BitVec.ofNat 32 (i 0).val
  let c2_i32 : BitVec 32 := 2#32
  let v3 : BitVec 32 := Scalar.remsi arg0 c2_i32
  let v3035 : Index := Scalar.indexCast v3
  let c12_1451 : Index := 12#32
  let c160_1452 : Index := 160#32
  let c0_1453 : Index := 0#32
  ![v3035.toNat, 12, 160, 0]
def k0_off114 (i : grid0.Coords) : Fin 4 → Nat :=
  let arg0 : BitVec 32 := BitVec.ofNat 32 (i 0).val
  let c2_i32 : BitVec 32 := 2#32
  let v3 : BitVec 32 := Scalar.remsi arg0 c2_i32
  let v3051 : Index := Scalar.indexCast v3
  let c13_1463 : Index := 13#32
  let c160_1464 : Index := 160#32
  let c0_1465 : Index := 0#32
  ![v3051.toNat, 13, 160, 0]
def k0_off115 (i : grid0.Coords) : Fin 4 → Nat :=
  let arg0 : BitVec 32 := BitVec.ofNat 32 (i 0).val
  let c2_i32 : BitVec 32 := 2#32
  let v3 : BitVec 32 := Scalar.remsi arg0 c2_i32
  let v3067 : Index := Scalar.indexCast v3
  let c14_1475 : Index := 14#32
  let c160_1476 : Index := 160#32
  let c0_1477 : Index := 0#32
  ![v3067.toNat, 14, 160, 0]
def k0_off116 (i : grid0.Coords) : Fin 4 → Nat :=
  let arg0 : BitVec 32 := BitVec.ofNat 32 (i 0).val
  let c2_i32 : BitVec 32 := 2#32
  let v3 : BitVec 32 := Scalar.remsi arg0 c2_i32
  let v3270 : Index := Scalar.indexCast v3
  let c0_1496 : Index := 0#32
  let c192_1497 : Index := 192#32
  let c0_1498 : Index := 0#32
  ![v3270.toNat, 0, 192, 0]
def k0_off117 (i : grid0.Coords) : Fin 4 → Nat :=
  let arg0 : BitVec 32 := BitVec.ofNat 32 (i 0).val
  let c2_i32 : BitVec 32 := 2#32
  let v3 : BitVec 32 := Scalar.remsi arg0 c2_i32
  let v3286 : Index := Scalar.indexCast v3
  let c1_1508 : Index := 1#32
  let c192_1509 : Index := 192#32
  let c0_1510 : Index := 0#32
  ![v3286.toNat, 1, 192, 0]
def k0_off118 (i : grid0.Coords) : Fin 4 → Nat :=
  let arg0 : BitVec 32 := BitVec.ofNat 32 (i 0).val
  let c2_i32 : BitVec 32 := 2#32
  let v3 : BitVec 32 := Scalar.remsi arg0 c2_i32
  let v3302 : Index := Scalar.indexCast v3
  let c2_1520 : Index := 2#32
  let c192_1521 : Index := 192#32
  let c0_1522 : Index := 0#32
  ![v3302.toNat, 2, 192, 0]
def k0_off119 (i : grid0.Coords) : Fin 4 → Nat :=
  let arg0 : BitVec 32 := BitVec.ofNat 32 (i 0).val
  let c2_i32 : BitVec 32 := 2#32
  let v3 : BitVec 32 := Scalar.remsi arg0 c2_i32
  let v3318 : Index := Scalar.indexCast v3
  let c3_1532 : Index := 3#32
  let c192_1533 : Index := 192#32
  let c0_1534 : Index := 0#32
  ![v3318.toNat, 3, 192, 0]
def k0_off120 (i : grid0.Coords) : Fin 4 → Nat :=
  let arg0 : BitVec 32 := BitVec.ofNat 32 (i 0).val
  let c2_i32 : BitVec 32 := 2#32
  let v3 : BitVec 32 := Scalar.remsi arg0 c2_i32
  let v3334 : Index := Scalar.indexCast v3
  let c4_1544 : Index := 4#32
  let c192_1545 : Index := 192#32
  let c0_1546 : Index := 0#32
  ![v3334.toNat, 4, 192, 0]
def k0_off121 (i : grid0.Coords) : Fin 4 → Nat :=
  let arg0 : BitVec 32 := BitVec.ofNat 32 (i 0).val
  let c2_i32 : BitVec 32 := 2#32
  let v3 : BitVec 32 := Scalar.remsi arg0 c2_i32
  let v3350 : Index := Scalar.indexCast v3
  let c5_1556 : Index := 5#32
  let c192_1557 : Index := 192#32
  let c0_1558 : Index := 0#32
  ![v3350.toNat, 5, 192, 0]
def k0_off122 (i : grid0.Coords) : Fin 4 → Nat :=
  let arg0 : BitVec 32 := BitVec.ofNat 32 (i 0).val
  let c2_i32 : BitVec 32 := 2#32
  let v3 : BitVec 32 := Scalar.remsi arg0 c2_i32
  let v3366 : Index := Scalar.indexCast v3
  let c6_1568 : Index := 6#32
  let c192_1569 : Index := 192#32
  let c0_1570 : Index := 0#32
  ![v3366.toNat, 6, 192, 0]
def k0_off123 (i : grid0.Coords) : Fin 4 → Nat :=
  let arg0 : BitVec 32 := BitVec.ofNat 32 (i 0).val
  let c2_i32 : BitVec 32 := 2#32
  let v3 : BitVec 32 := Scalar.remsi arg0 c2_i32
  let v3382 : Index := Scalar.indexCast v3
  let c7_1580 : Index := 7#32
  let c192_1581 : Index := 192#32
  let c0_1582 : Index := 0#32
  ![v3382.toNat, 7, 192, 0]
def k0_off124 (i : grid0.Coords) : Fin 4 → Nat :=
  let arg0 : BitVec 32 := BitVec.ofNat 32 (i 0).val
  let c2_i32 : BitVec 32 := 2#32
  let v3 : BitVec 32 := Scalar.remsi arg0 c2_i32
  let v3398 : Index := Scalar.indexCast v3
  let c8_1592 : Index := 8#32
  let c192_1593 : Index := 192#32
  let c0_1594 : Index := 0#32
  ![v3398.toNat, 8, 192, 0]
def k0_off125 (i : grid0.Coords) : Fin 4 → Nat :=
  let arg0 : BitVec 32 := BitVec.ofNat 32 (i 0).val
  let c2_i32 : BitVec 32 := 2#32
  let v3 : BitVec 32 := Scalar.remsi arg0 c2_i32
  let v3414 : Index := Scalar.indexCast v3
  let c9_1604 : Index := 9#32
  let c192_1605 : Index := 192#32
  let c0_1606 : Index := 0#32
  ![v3414.toNat, 9, 192, 0]
def k0_off126 (i : grid0.Coords) : Fin 4 → Nat :=
  let arg0 : BitVec 32 := BitVec.ofNat 32 (i 0).val
  let c2_i32 : BitVec 32 := 2#32
  let v3 : BitVec 32 := Scalar.remsi arg0 c2_i32
  let v3430 : Index := Scalar.indexCast v3
  let c10_1616 : Index := 10#32
  let c192_1617 : Index := 192#32
  let c0_1618 : Index := 0#32
  ![v3430.toNat, 10, 192, 0]
def k0_off127 (i : grid0.Coords) : Fin 4 → Nat :=
  let arg0 : BitVec 32 := BitVec.ofNat 32 (i 0).val
  let c2_i32 : BitVec 32 := 2#32
  let v3 : BitVec 32 := Scalar.remsi arg0 c2_i32
  let v3446 : Index := Scalar.indexCast v3
  let c11_1628 : Index := 11#32
  let c192_1629 : Index := 192#32
  let c0_1630 : Index := 0#32
  ![v3446.toNat, 11, 192, 0]
def k0_off128 (i : grid0.Coords) : Fin 4 → Nat :=
  let arg0 : BitVec 32 := BitVec.ofNat 32 (i 0).val
  let c2_i32 : BitVec 32 := 2#32
  let v3 : BitVec 32 := Scalar.remsi arg0 c2_i32
  let v3462 : Index := Scalar.indexCast v3
  let c12_1640 : Index := 12#32
  let c192_1641 : Index := 192#32
  let c0_1642 : Index := 0#32
  ![v3462.toNat, 12, 192, 0]
def k0_off129 (i : grid0.Coords) : Fin 4 → Nat :=
  let arg0 : BitVec 32 := BitVec.ofNat 32 (i 0).val
  let c2_i32 : BitVec 32 := 2#32
  let v3 : BitVec 32 := Scalar.remsi arg0 c2_i32
  let v3478 : Index := Scalar.indexCast v3
  let c13_1652 : Index := 13#32
  let c192_1653 : Index := 192#32
  let c0_1654 : Index := 0#32
  ![v3478.toNat, 13, 192, 0]
def k0_off130 (i : grid0.Coords) : Fin 4 → Nat :=
  let arg0 : BitVec 32 := BitVec.ofNat 32 (i 0).val
  let c2_i32 : BitVec 32 := 2#32
  let v3 : BitVec 32 := Scalar.remsi arg0 c2_i32
  let v3494 : Index := Scalar.indexCast v3
  let c14_1664 : Index := 14#32
  let c192_1665 : Index := 192#32
  let c0_1666 : Index := 0#32
  ![v3494.toNat, 14, 192, 0]
def k0_off131 (i : grid0.Coords) : Fin 4 → Nat :=
  let arg0 : BitVec 32 := BitVec.ofNat 32 (i 0).val
  let c2_i32 : BitVec 32 := 2#32
  let v3 : BitVec 32 := Scalar.remsi arg0 c2_i32
  let v3773 : Index := Scalar.indexCast v3
  let c0_1745 : Index := 0#32
  let c224_1746 : Index := 224#32
  let c0_1747 : Index := 0#32
  ![v3773.toNat, 0, 224, 0]
def k0_off132 (i : grid0.Coords) : Fin 4 → Nat :=
  let arg0 : BitVec 32 := BitVec.ofNat 32 (i 0).val
  let c2_i32 : BitVec 32 := 2#32
  let v3 : BitVec 32 := Scalar.remsi arg0 c2_i32
  let v3789 : Index := Scalar.indexCast v3
  let c1_1757 : Index := 1#32
  let c224_1758 : Index := 224#32
  let c0_1759 : Index := 0#32
  ![v3789.toNat, 1, 224, 0]
def k0_off133 (i : grid0.Coords) : Fin 4 → Nat :=
  let arg0 : BitVec 32 := BitVec.ofNat 32 (i 0).val
  let c2_i32 : BitVec 32 := 2#32
  let v3 : BitVec 32 := Scalar.remsi arg0 c2_i32
  let v3805 : Index := Scalar.indexCast v3
  let c2_1769 : Index := 2#32
  let c224_1770 : Index := 224#32
  let c0_1771 : Index := 0#32
  ![v3805.toNat, 2, 224, 0]
def k0_off134 (i : grid0.Coords) : Fin 4 → Nat :=
  let arg0 : BitVec 32 := BitVec.ofNat 32 (i 0).val
  let c2_i32 : BitVec 32 := 2#32
  let v3 : BitVec 32 := Scalar.remsi arg0 c2_i32
  let v3821 : Index := Scalar.indexCast v3
  let c3_1781 : Index := 3#32
  let c224_1782 : Index := 224#32
  let c0_1783 : Index := 0#32
  ![v3821.toNat, 3, 224, 0]
def k0_off135 (i : grid0.Coords) : Fin 4 → Nat :=
  let arg0 : BitVec 32 := BitVec.ofNat 32 (i 0).val
  let c2_i32 : BitVec 32 := 2#32
  let v3 : BitVec 32 := Scalar.remsi arg0 c2_i32
  let v3837 : Index := Scalar.indexCast v3
  let c4_1793 : Index := 4#32
  let c224_1794 : Index := 224#32
  let c0_1795 : Index := 0#32
  ![v3837.toNat, 4, 224, 0]
def k0_off136 (i : grid0.Coords) : Fin 4 → Nat :=
  let arg0 : BitVec 32 := BitVec.ofNat 32 (i 0).val
  let c2_i32 : BitVec 32 := 2#32
  let v3 : BitVec 32 := Scalar.remsi arg0 c2_i32
  let v3853 : Index := Scalar.indexCast v3
  let c5_1805 : Index := 5#32
  let c224_1806 : Index := 224#32
  let c0_1807 : Index := 0#32
  ![v3853.toNat, 5, 224, 0]
def k0_off137 (i : grid0.Coords) : Fin 4 → Nat :=
  let arg0 : BitVec 32 := BitVec.ofNat 32 (i 0).val
  let c2_i32 : BitVec 32 := 2#32
  let v3 : BitVec 32 := Scalar.remsi arg0 c2_i32
  let v3869 : Index := Scalar.indexCast v3
  let c6_1817 : Index := 6#32
  let c224_1818 : Index := 224#32
  let c0_1819 : Index := 0#32
  ![v3869.toNat, 6, 224, 0]
def k0_off138 (i : grid0.Coords) : Fin 4 → Nat :=
  let arg0 : BitVec 32 := BitVec.ofNat 32 (i 0).val
  let c2_i32 : BitVec 32 := 2#32
  let v3 : BitVec 32 := Scalar.remsi arg0 c2_i32
  let v3885 : Index := Scalar.indexCast v3
  let c7_1829 : Index := 7#32
  let c224_1830 : Index := 224#32
  let c0_1831 : Index := 0#32
  ![v3885.toNat, 7, 224, 0]
def k0_off139 (i : grid0.Coords) : Fin 4 → Nat :=
  let arg0 : BitVec 32 := BitVec.ofNat 32 (i 0).val
  let c2_i32 : BitVec 32 := 2#32
  let v3 : BitVec 32 := Scalar.remsi arg0 c2_i32
  let v3901 : Index := Scalar.indexCast v3
  let c8_1841 : Index := 8#32
  let c224_1842 : Index := 224#32
  let c0_1843 : Index := 0#32
  ![v3901.toNat, 8, 224, 0]
def k0_off140 (i : grid0.Coords) : Fin 4 → Nat :=
  let arg0 : BitVec 32 := BitVec.ofNat 32 (i 0).val
  let c2_i32 : BitVec 32 := 2#32
  let v3 : BitVec 32 := Scalar.remsi arg0 c2_i32
  let v3917 : Index := Scalar.indexCast v3
  let c9_1853 : Index := 9#32
  let c224_1854 : Index := 224#32
  let c0_1855 : Index := 0#32
  ![v3917.toNat, 9, 224, 0]
def k0_off141 (i : grid0.Coords) : Fin 4 → Nat :=
  let arg0 : BitVec 32 := BitVec.ofNat 32 (i 0).val
  let c2_i32 : BitVec 32 := 2#32
  let v3 : BitVec 32 := Scalar.remsi arg0 c2_i32
  let v3933 : Index := Scalar.indexCast v3
  let c10_1865 : Index := 10#32
  let c224_1866 : Index := 224#32
  let c0_1867 : Index := 0#32
  ![v3933.toNat, 10, 224, 0]
def k0_off142 (i : grid0.Coords) : Fin 4 → Nat :=
  let arg0 : BitVec 32 := BitVec.ofNat 32 (i 0).val
  let c2_i32 : BitVec 32 := 2#32
  let v3 : BitVec 32 := Scalar.remsi arg0 c2_i32
  let v3949 : Index := Scalar.indexCast v3
  let c11_1877 : Index := 11#32
  let c224_1878 : Index := 224#32
  let c0_1879 : Index := 0#32
  ![v3949.toNat, 11, 224, 0]
def k0_off143 (i : grid0.Coords) : Fin 4 → Nat :=
  let arg0 : BitVec 32 := BitVec.ofNat 32 (i 0).val
  let c2_i32 : BitVec 32 := 2#32
  let v3 : BitVec 32 := Scalar.remsi arg0 c2_i32
  let v3965 : Index := Scalar.indexCast v3
  let c12_1889 : Index := 12#32
  let c224_1890 : Index := 224#32
  let c0_1891 : Index := 0#32
  ![v3965.toNat, 12, 224, 0]
def k0_off144 (i : grid0.Coords) : Fin 4 → Nat :=
  let arg0 : BitVec 32 := BitVec.ofNat 32 (i 0).val
  let c2_i32 : BitVec 32 := 2#32
  let v3 : BitVec 32 := Scalar.remsi arg0 c2_i32
  let v3981 : Index := Scalar.indexCast v3
  let c13_1901 : Index := 13#32
  let c224_1902 : Index := 224#32
  let c0_1903 : Index := 0#32
  ![v3981.toNat, 13, 224, 0]
def k0_off145 (i : grid0.Coords) : Fin 4 → Nat :=
  let arg0 : BitVec 32 := BitVec.ofNat 32 (i 0).val
  let c2_i32 : BitVec 32 := 2#32
  let v3 : BitVec 32 := Scalar.remsi arg0 c2_i32
  let v3997 : Index := Scalar.indexCast v3
  let c14_1913 : Index := 14#32
  let c224_1914 : Index := 224#32
  let c0_1915 : Index := 0#32
  ![v3997.toNat, 14, 224, 0]
def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  let c0_i32_2 : BitVec 32 := 0#32
  ![v2.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  ![v2.toNat, c0_i32_0.toNat]

def cc0_transform_5 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let c95_i32 : BitVec 32 := 95#32
  let v1 : BitVec 32 := Scalar.maxsi c0_i32 v0
  let v2 : BitVec 32 := Scalar.minsi c95_i32 v1
  let c48_i32 : BitVec 32 := 48#32
  let v3 : BitVec 32 := Scalar.divsi v2 c48_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c48_i32 c0_i32_2
  let v10 : BitVec 32 := Scalar.extui v9
  let c0_i32_3 : BitVec 32 := 0#32
  let v11 : BitVec 1 := Scalar.cmpi .slt c48_i32 c0_i32_3
  let v12 : BitVec 32 := Scalar.extui v11
  let v13 : BitVec 32 := Scalar.subi v10 v12
  let v14 : BitVec 1 := Scalar.cmpi .ne v8 v13
  let v15 : BitVec 32 := Scalar.remsi v2 c48_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let v20 : BitVec 32 := Scalar.subi arg0 c2_i32_5
  let c0_i32_6 : BitVec 32 := 0#32
  let c95_i32_7 : BitVec 32 := 95#32
  let v21 : BitVec 32 := Scalar.maxsi c0_i32_6 v20
  let v22 : BitVec 32 := Scalar.minsi c95_i32_7 v21
  let c48_i32_8 : BitVec 32 := 48#32
  let c0_i32_9 : BitVec 32 := 0#32
  let v23 : BitVec 1 := Scalar.cmpi .eq c48_i32_8 c0_i32_9
  let c1_i32_10 : BitVec 32 := 1#32
  let v24 : BitVec 32 := Scalar.select v23 c1_i32_10 c48_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  let c0_i32_16 : BitVec 32 := 0#32
  ![v19.toNat, c0_i32_14.toNat, v32.toNat, c0_i32_15.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x480x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x15x256x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x12288x15x512 : Shape := ⟨4, ![2, 12288, 15, 512]⟩
abbrev S15x512x1024 : Shape := ⟨3, ![15, 512, 1024]⟩
abbrev S1024 : Shape := ⟨1, ![1024]⟩
abbrev S_ : Shape := ⟨0, ![]⟩
abbrev S2x12288 : Shape := ⟨2, ![2, 12288]⟩
abbrev S2x12288x1x1 : Shape := ⟨4, ![2, 12288, 1, 1]⟩
abbrev S2x96x128 : Shape := ⟨3, ![2, 96, 128]⟩
abbrev S96x2x128 : Shape := ⟨3, ![96, 2, 128]⟩
abbrev S192x128 : Shape := ⟨2, ![192, 128]⟩
abbrev S2x15x12288x512 : Shape := ⟨4, ![2, 15, 12288, 512]⟩
abbrev S24576x7680 : Shape := ⟨2, ![24576, 7680]⟩
abbrev S7680x1024 : Shape := ⟨2, ![7680, 1024]⟩
abbrev S24576x1 : Shape := ⟨2, ![24576, 1]⟩
abbrev S1x1024 : Shape := ⟨2, ![1, 1024]⟩
abbrev S24576x1024 : Shape := ⟨2, ![24576, 1024]⟩

abbrev nBuf : Space → Nat
  | .hbm => 55
  | .vmem => 8
  | .smem => 0
  | _ => 0

abbrev bufTy : (tb : Table) → Fin (tcTables nBuf tb) → BufTy
  | .hbm, ⟨0, _⟩ => ⟨S2x12288x15x512, .f32⟩
  | .hbm, ⟨1, _⟩ => ⟨S15x512x1024, .fp8e4m3⟩
  | .hbm, ⟨2, _⟩ => ⟨S1024, .f32⟩
  | .hbm, ⟨3, _⟩ => ⟨S1024, .f32⟩
  | .hbm, ⟨4, _⟩ => ⟨S2x12288x15x512, .f32⟩
  | .hbm, ⟨5, _⟩ => ⟨S_, .f32⟩
  | .hbm, ⟨6, _⟩ => ⟨S2x12288, .f32⟩
  | .hbm, ⟨7, _⟩ => ⟨S2x12288x1x1, .f32⟩
  | .hbm, ⟨8, _⟩ => ⟨S_, .f32⟩
  | .hbm, ⟨9, _⟩ => ⟨S2x12288x1x1, .f32⟩
  | .hbm, ⟨10, _⟩ => ⟨S2x12288x1x1, .f32⟩
  | .hbm, ⟨11, _⟩ => ⟨S_, .f32⟩
  | .hbm, ⟨12, _⟩ => ⟨S2x12288x1x1, .f32⟩
  | .hbm, ⟨13, _⟩ => ⟨S2x12288x1x1, .i1⟩
  | .hbm, ⟨14, _⟩ => ⟨S2x12288x1x1, .f32⟩
  | .hbm, ⟨15, _⟩ => ⟨S_, .f32⟩
  | .hbm, ⟨16, _⟩ => ⟨S_, .f32⟩
  | .hbm, ⟨17, _⟩ => ⟨S2x12288x1x1, .f32⟩
  | .hbm, ⟨18, _⟩ => ⟨S2x12288x1x1, .f32⟩
  | .hbm, ⟨19, _⟩ => ⟨S2x12288x1x1, .f32⟩
  | .hbm, ⟨20, _⟩ => ⟨S_, .f32⟩
  | .hbm, ⟨21, _⟩ => ⟨S2x12288x1x1, .f32⟩
  | .hbm, ⟨22, _⟩ => ⟨S2x12288x1x1, .f32⟩
  | .hbm, ⟨23, _⟩ => ⟨S_, .f32⟩
  | .hbm, ⟨24, _⟩ => ⟨S_, .f32⟩
  | .hbm, ⟨25, _⟩ => ⟨S2x12288x1x1, .f32⟩
  | .hbm, ⟨26, _⟩ => ⟨S2x12288x1x1, .f32⟩
  | .hbm, ⟨27, _⟩ => ⟨S2x12288x1x1, .f32⟩
  | .hbm, ⟨28, _⟩ => ⟨S_, .f32⟩
  | .hbm, ⟨29, _⟩ => ⟨S2x12288x1x1, .f32⟩
  | .hbm, ⟨30, _⟩ => ⟨S2x12288x1x1, .f32⟩
  | .hbm, ⟨31, _⟩ => ⟨S2x12288x15x512, .f32⟩
  | .hbm, ⟨32, _⟩ => ⟨S2x12288x15x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x12288x15x512, .f32⟩
  | .hbm, ⟨37, _⟩ => ⟨S2x12288x15x512, .f32⟩
  | .hbm, ⟨38, _⟩ => ⟨S_, .f32⟩
  | .hbm, ⟨39, _⟩ => ⟨S2x12288x15x512, .f32⟩
  | .hbm, ⟨40, _⟩ => ⟨S2x12288x15x512, .f32⟩
  | .hbm, ⟨41, _⟩ => ⟨S_, .f32⟩
  | .hbm, ⟨42, _⟩ => ⟨S2x12288x1x1, .f32⟩
  | .hbm, ⟨43, _⟩ => ⟨S2x12288x1x1, .f32⟩
  | .hbm, ⟨44, _⟩ => ⟨S2x96x128, .f32⟩
  | .hbm, ⟨45, _⟩ => ⟨S96x2x128, .f32⟩
  | .hbm, ⟨46, _⟩ => ⟨S192x128, .f32⟩
  | .hbm, ⟨47, _⟩ => ⟨S2x15x12288x512, .f32⟩
  | .hbm, ⟨48, _⟩ => ⟨S24576x7680, .f32⟩
  | .hbm, ⟨49, _⟩ => ⟨S7680x1024, .fp8e4m3⟩
  | .hbm, ⟨50, _⟩ => ⟨S24576x1, .f32⟩
  | .hbm, ⟨51, _⟩ => ⟨S1x1024, .f32⟩
  | .hbm, ⟨52, _⟩ => ⟨S1x1024, .f32⟩
  | .hbm, ⟨53, _⟩ => ⟨S24576x1024, .bf16⟩
  | .hbm, ⟨54, _⟩ => ⟨S2x15x12288x512, .fp8e4m3⟩
  | .local _ .vmem, ⟨0, _⟩ => ⟨S2x15x12288x512, .f32⟩
  | .local _ .vmem, ⟨1, _⟩ => ⟨S24576x7680, .f32⟩
  | .local _ .vmem, ⟨2, _⟩ => ⟨S7680x1024, .fp8e4m3⟩
  | .local _ .vmem, ⟨3, _⟩ => ⟨S24576x1, .f32⟩
  | .local _ .vmem, ⟨4, _⟩ => ⟨S1x1024, .f32⟩
  | .local _ .vmem, ⟨5, _⟩ => ⟨S1x1024, .f32⟩
  | .local _ .vmem, ⟨6, _⟩ => ⟨S24576x1024, .bf16⟩
  | .local _ .vmem, ⟨7, _⟩ => ⟨S2x15x12288x512, .fp8e4m3⟩
  | _, _ => ⟨S2x12288x15x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v20 : Ref sig .tc := ⟨.hbm, 40, rfl⟩
abbrev main_cst_8 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x15x12288x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x7680 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x15x12288x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Offs.lean ====
/-
  The slots of the two double-buffered scratch buffers as numerals: at a grid point of known parity the row that the body writes
  (`s % 2`) and the row that it reads (`1 - s % 2`) are numerals, and with them every printed offset into those buffers.
-/
module

public import proofs.«01_k».proof.Proof.Gen.KernelIdeal.Skeleton
public import Idealize.ShloMosaic.Lib.Tactic

@[expose] public section

namespace Cert.KernelIdeal.Own

open Cert.KernelIdeal Cert.KernelIdeal.Gen
open Idealize.ShloMosaic Idealize.ShloMosaic.Tactic Idealize.ShloMosaic.Exec

/-- At grid point `i` the body writes slot `p` and reads slot `p'`, as the kernel computes them. -/
class Par (i : grid0.Coords) (p p' : outParam Nat) : Prop where
  cur : (Scalar.indexCast (Scalar.remsi (BitVec.ofNat 32 (i 0).val) 2#32)).toNat = p
  prv : (Scalar.indexCast (Scalar.subi 1#32 (Scalar.remsi (BitVec.ofNat 32 (i 0).val) 2#32))).toNat = p'

/-- An even point writes slot 0 and reads slot 1. -/
theorem par_even : ∀ i : grid0.Coords, (i 0).val % 2 = 0 → Par i 0 1 := fun i h =>
  ⟨(by decide +kernel : ∀ x : Fin 99, x.val % 2 = 0 → (Scalar.indexCast (Scalar.remsi (BitVec.ofNat 32 x.val) 2#32)).toNat = 0) (i 0) h,
   (by decide +kernel : ∀ x : Fin 99, x.val % 2 = 0 → (Scalar.indexCast (Scalar.subi 1#32 (Scalar.remsi (BitVec.ofNat 32 x.val) 2#32))).toNat = 1) (i 0) h⟩

/-- An odd point writes slot 1 and reads slot 0. -/
theorem par_odd : ∀ i : grid0.Coords, (i 0).val % 2 = 1 → Par i 1 0 := fun i h =>
  ⟨(by decide +kernel : ∀ x : Fin 99, x.val % 2 = 1 → (Scalar.indexCast (Scalar.remsi (BitVec.ofNat 32 x.val) 2#32)).toNat = 1) (i 0) h,
   (by decide +kernel : ∀ x : Fin 99, x.val % 2 = 1 → (Scalar.indexCast (Scalar.subi 1#32 (Scalar.remsi (BitVec.ofNat 32 x.val) 2#32))).toNat = 0) (i 0) h⟩

variable {i : grid0.Coords} {p p' : Nat} [Par i p p']

instance : ClosedOff (k0_off1 i) := ⟨![p, 0, 0], congrArg (![·, 0, 0]) Par.cur⟩
instance : ClosedOff (k0_off2 i) := ⟨![p, 32, 0], congrArg (![·, 32, 0]) Par.cur⟩
instance : ClosedOff (k0_off3 i) := ⟨![p, 64, 0], congrArg (![·, 64, 0]) Par.cur⟩
instance : ClosedOff (k0_off4 i) := ⟨![p, 96, 0], congrArg (![·, 96, 0]) Par.cur⟩
instance : ClosedOff (k0_off5 i) := ⟨![p, 128, 0], congrArg (![·, 128, 0]) Par.cur⟩
instance : ClosedOff (k0_off6 i) := ⟨![p, 160, 0], congrArg (![·, 160, 0]) Par.cur⟩
instance : ClosedOff (k0_off7 i) := ⟨![p, 192, 0], congrArg (![·, 192, 0]) Par.cur⟩
instance : ClosedOff (k0_off8 i) := ⟨![p, 224, 0], congrArg (![·, 224, 0]) Par.cur⟩
instance : ClosedOff (k0_off10 i) := ⟨![p, 0, 0, 0], congrArg (![·, 0, 0, 0]) Par.cur⟩
instance : ClosedOff (k0_off11 i) := ⟨![p, 1, 0, 0], congrArg (![·, 1, 0, 0]) Par.cur⟩
instance : ClosedOff (k0_off12 i) := ⟨![p, 2, 0, 0], congrArg (![·, 2, 0, 0]) Par.cur⟩
instance : ClosedOff (k0_off13 i) := ⟨![p, 3, 0, 0], congrArg (![·, 3, 0, 0]) Par.cur⟩
instance : ClosedOff (k0_off14 i) := ⟨![p, 4, 0, 0], congrArg (![·, 4, 0, 0]) Par.cur⟩
instance : ClosedOff (k0_off15 i) := ⟨![p, 5, 0, 0], congrArg (![·, 5, 0, 0]) Par.cur⟩
instance : ClosedOff (k0_off16 i) := ⟨![p, 6, 0, 0], congrArg (![·, 6, 0, 0]) Par.cur⟩
instance : ClosedOff (k0_off17 i) := ⟨![p, 7, 0, 0], congrArg (![·, 7, 0, 0]) Par.cur⟩
instance : ClosedOff (k0_off18 i) := ⟨![p, 8, 0, 0], congrArg (![·, 8, 0, 0]) Par.cur⟩
instance : ClosedOff (k0_off19 i) := ⟨![p, 9, 0, 0], congrArg (![·, 9, 0, 0]) Par.cur⟩
instance : ClosedOff (k0_off20 i) := ⟨![p, 10, 0, 0], congrArg (![·, 10, 0, 0]) Par.cur⟩
instance : ClosedOff (k0_off21 i) := ⟨![p, 11, 0, 0], congrArg (![·, 11, 0, 0]) Par.cur⟩
instance : ClosedOff (k0_off22 i) := ⟨![p, 12, 0, 0], congrArg (![·, 12, 0, 0]) Par.cur⟩
instance : ClosedOff (k0_off23 i) := ⟨![p, 13, 0, 0], congrArg (![·, 13, 0, 0]) Par.cur⟩
instance : ClosedOff (k0_off24 i) := ⟨![p, 14, 0, 0], congrArg (![·, 14, 0, 0]) Par.cur⟩
instance : ClosedOff (k0_off25 i) := ⟨![p', 0, 0, 0], congrArg (![·, 0, 0, 0]) Par.prv⟩
instance : ClosedOff (k0_off26 i) := ⟨![p', 1, 0, 0], congrArg (![·, 1, 0, 0]) Par.prv⟩
instance : ClosedOff (k0_off27 i) := ⟨![p', 2, 0, 0], congrArg (![·, 2, 0, 0]) Par.prv⟩
instance : ClosedOff (k0_off28 i) := ⟨![p', 3, 0, 0], congrArg (![·, 3, 0, 0]) Par.prv⟩
instance : ClosedOff (k0_off29 i) := ⟨![p', 4, 0, 0], congrArg (![·, 4, 0, 0]) Par.prv⟩
instance : ClosedOff (k0_off30 i) := ⟨![p', 5, 0, 0], congrArg (![·, 5, 0, 0]) Par.prv⟩
instance : ClosedOff (k0_off31 i) := ⟨![p', 6, 0, 0], congrArg (![·, 6, 0, 0]) Par.prv⟩
instance : ClosedOff (k0_off32 i) := ⟨![p', 7, 0, 0], congrArg (![·, 7, 0, 0]) Par.prv⟩
instance : ClosedOff (k0_off33 i) := ⟨![p', 8, 0, 0], congrArg (![·, 8, 0, 0]) Par.prv⟩
instance : ClosedOff (k0_off34 i) := ⟨![p', 9, 0, 0], congrArg (![·, 9, 0, 0]) Par.prv⟩
instance : ClosedOff (k0_off35 i) := ⟨![p', 10, 0, 0], congrArg (![·, 10, 0, 0]) Par.prv⟩
instance : ClosedOff (k0_off36 i) := ⟨![p', 11, 0, 0], congrArg (![·, 11, 0, 0]) Par.prv⟩
instance : ClosedOff (k0_off37 i) := ⟨![p', 12, 0, 0], congrArg (![·, 12, 0, 0]) Par.prv⟩
instance : ClosedOff (k0_off38 i) := ⟨![p', 13, 0, 0], congrArg (![·, 13, 0, 0]) Par.prv⟩
instance : ClosedOff (k0_off39 i) := ⟨![p', 14, 0, 0], congrArg (![·, 14, 0, 0]) Par.prv⟩
instance : ClosedOff (k0_off40 i) := ⟨![p', 0, 0], congrArg (![·, 0, 0]) Par.prv⟩
instance : ClosedOff (k0_off41 i) := ⟨![p, 0, 32, 0], congrArg (![·, 0, 32, 0]) Par.cur⟩
instance : ClosedOff (k0_off42 i) := ⟨![p, 1, 32, 0], congrArg (![·, 1, 32, 0]) Par.cur⟩
instance : ClosedOff (k0_off43 i) := ⟨![p, 2, 32, 0], congrArg (![·, 2, 32, 0]) Par.cur⟩
instance : ClosedOff (k0_off44 i) := ⟨![p, 3, 32, 0], congrArg (![·, 3, 32, 0]) Par.cur⟩
instance : ClosedOff (k0_off45 i) := ⟨![p, 4, 32, 0], congrArg (![·, 4, 32, 0]) Par.cur⟩
instance : ClosedOff (k0_off46 i) := ⟨![p, 5, 32, 0], congrArg (![·, 5, 32, 0]) Par.cur⟩
instance : ClosedOff (k0_off47 i) := ⟨![p, 6, 32, 0], congrArg (![·, 6, 32, 0]) Par.cur⟩
instance : ClosedOff (k0_off48 i) := ⟨![p, 7, 32, 0], congrArg (![·, 7, 32, 0]) Par.cur⟩
instance : ClosedOff (k0_off49 i) := ⟨![p, 8, 32, 0], congrArg (![·, 8, 32, 0]) Par.cur⟩
instance : ClosedOff (k0_off50 i) := ⟨![p, 9, 32, 0], congrArg (![·, 9, 32, 0]) Par.cur⟩
instance : ClosedOff (k0_off51 i) := ⟨![p, 10, 32, 0], congrArg (![·, 10, 32, 0]) Par.cur⟩
instance : ClosedOff (k0_off52 i) := ⟨![p, 11, 32, 0], congrArg (![·, 11, 32, 0]) Par.cur⟩
instance : ClosedOff (k0_off53 i) := ⟨![p, 12, 32, 0], congrArg (![·, 12, 32, 0]) Par.cur⟩
instance : ClosedOff (k0_off54 i) := ⟨![p, 13, 32, 0], congrArg (![·, 13, 32, 0]) Par.cur⟩
instance : ClosedOff (k0_off55 i) := ⟨![p, 14, 32, 0], congrArg (![·, 14, 32, 0]) Par.cur⟩
instance : ClosedOff (k0_off56 i) := ⟨![p, 0, 64, 0], congrArg (![·, 0, 64, 0]) Par.cur⟩
instance : ClosedOff (k0_off57 i) := ⟨![p, 1, 64, 0], congrArg (![·, 1, 64, 0]) Par.cur⟩
instance : ClosedOff (k0_off58 i) := ⟨![p, 2, 64, 0], congrArg (![·, 2, 64, 0]) Par.cur⟩
instance : ClosedOff (k0_off59 i) := ⟨![p, 3, 64, 0], congrArg (![·, 3, 64, 0]) Par.cur⟩
instance : ClosedOff (k0_off60 i) := ⟨![p, 4, 64, 0], congrArg (![·, 4, 64, 0]) Par.cur⟩
instance : ClosedOff (k0_off61 i) := ⟨![p, 5, 64, 0], congrArg (![·, 5, 64, 0]) Par.cur⟩
instance : ClosedOff (k0_off62 i) := ⟨![p, 6, 64, 0], congrArg (![·, 6, 64, 0]) Par.cur⟩
instance : ClosedOff (k0_off63 i) := ⟨![p, 7, 64, 0], congrArg (![·, 7, 64, 0]) Par.cur⟩
instance : ClosedOff (k0_off64 i) := ⟨![p, 8, 64, 0], congrArg (![·, 8, 64, 0]) Par.cur⟩
instance : ClosedOff (k0_off65 i) := ⟨![p, 9, 64, 0], congrArg (![·, 9, 64, 0]) Par.cur⟩
instance : ClosedOff (k0_off66 i) := ⟨![p, 10, 64, 0], congrArg (![·, 10, 64, 0]) Par.cur⟩
instance : ClosedOff (k0_off67 i) := ⟨![p, 11, 64, 0], congrArg (![·, 11, 64, 0]) Par.cur⟩
instance : ClosedOff (k0_off68 i) := ⟨![p, 12, 64, 0], congrArg (![·, 12, 64, 0]) Par.cur⟩
instance : ClosedOff (k0_off69 i) := ⟨![p, 13, 64, 0], congrArg (![·, 13, 64, 0]) Par.cur⟩
instance : ClosedOff (k0_off70 i) := ⟨![p, 14, 64, 0], congrArg (![·, 14, 64, 0]) Par.cur⟩
instance : ClosedOff (k0_off71 i) := ⟨![p, 0, 96, 0], congrArg (![·, 0, 96, 0]) Par.cur⟩
instance : ClosedOff (k0_off72 i) := ⟨![p, 1, 96, 0], congrArg (![·, 1, 96, 0]) Par.cur⟩
instance : ClosedOff (k0_off73 i) := ⟨![p, 2, 96, 0], congrArg (![·, 2, 96, 0]) Par.cur⟩
instance : ClosedOff (k0_off74 i) := ⟨![p, 3, 96, 0], congrArg (![·, 3, 96, 0]) Par.cur⟩
instance : ClosedOff (k0_off75 i) := ⟨![p, 4, 96, 0], congrArg (![·, 4, 96, 0]) Par.cur⟩
instance : ClosedOff (k0_off76 i) := ⟨![p, 5, 96, 0], congrArg (![·, 5, 96, 0]) Par.cur⟩
instance : ClosedOff (k0_off77 i) := ⟨![p, 6, 96, 0], congrArg (![·, 6, 96, 0]) Par.cur⟩
instance : ClosedOff (k0_off78 i) := ⟨![p, 7, 96, 0], congrArg (![·, 7, 96, 0]) Par.cur⟩
instance : ClosedOff (k0_off79 i) := ⟨![p, 8, 96, 0], congrArg (![·, 8, 96, 0]) Par.cur⟩
instance : ClosedOff (k0_off80 i) := ⟨![p, 9, 96, 0], congrArg (![·, 9, 96, 0]) Par.cur⟩
instance : ClosedOff (k0_off81 i) := ⟨![p, 10, 96, 0], congrArg (![·, 10, 96, 0]) Par.cur⟩
instance : ClosedOff (k0_off82 i) := ⟨![p, 11, 96, 0], congrArg (![·, 11, 96, 0]) Par.cur⟩
instance : ClosedOff (k0_off83 i) := ⟨![p, 12, 96, 0], congrArg (![·, 12, 96, 0]) Par.cur⟩
instance : ClosedOff (k0_off84 i) := ⟨![p, 13, 96, 0], congrArg (![·, 13, 96, 0]) Par.cur⟩
instance : ClosedOff (k0_off85 i) := ⟨![p, 14, 96, 0], congrArg (![·, 14, 96, 0]) Par.cur⟩
instance : ClosedOff (k0_off86 i) := ⟨![p, 0, 128, 0], congrArg (![·, 0, 128, 0]) Par.cur⟩
instance : ClosedOff (k0_off87 i) := ⟨![p, 1, 128, 0], congrArg (![·, 1, 128, 0]) Par.cur⟩
instance : ClosedOff (k0_off88 i) := ⟨![p, 2, 128, 0], congrArg (![·, 2, 128, 0]) Par.cur⟩
instance : ClosedOff (k0_off89 i) := ⟨![p, 3, 128, 0], congrArg (![·, 3, 128, 0]) Par.cur⟩
instance : ClosedOff (k0_off90 i) := ⟨![p, 4, 128, 0], congrArg (![·, 4, 128, 0]) Par.cur⟩
instance : ClosedOff (k0_off91 i) := ⟨![p, 5, 128, 0], congrArg (![·, 5, 128, 0]) Par.cur⟩
instance : ClosedOff (k0_off92 i) := ⟨![p, 6, 128, 0], congrArg (![·, 6, 128, 0]) Par.cur⟩
instance : ClosedOff (k0_off93 i) := ⟨![p, 7, 128, 0], congrArg (![·, 7, 128, 0]) Par.cur⟩
instance : ClosedOff (k0_off94 i) := ⟨![p, 8, 128, 0], congrArg (![·, 8, 128, 0]) Par.cur⟩
instance : ClosedOff (k0_off95 i) := ⟨![p, 9, 128, 0], congrArg (![·, 9, 128, 0]) Par.cur⟩
instance : ClosedOff (k0_off96 i) := ⟨![p, 10, 128, 0], congrArg (![·, 10, 128, 0]) Par.cur⟩
instance : ClosedOff (k0_off97 i) := ⟨![p, 11, 128, 0], congrArg (![·, 11, 128, 0]) Par.cur⟩
instance : ClosedOff (k0_off98 i) := ⟨![p, 12, 128, 0], congrArg (![·, 12, 128, 0]) Par.cur⟩
instance : ClosedOff (k0_off99 i) := ⟨![p, 13, 128, 0], congrArg (![·, 13, 128, 0]) Par.cur⟩
instance : ClosedOff (k0_off100 i) := ⟨![p, 14, 128, 0], congrArg (![·, 14, 128, 0]) Par.cur⟩
instance : ClosedOff (k0_off101 i) := ⟨![p, 0, 160, 0], congrArg (![·, 0, 160, 0]) Par.cur⟩
instance : ClosedOff (k0_off102 i) := ⟨![p, 1, 160, 0], congrArg (![·, 1, 160, 0]) Par.cur⟩
instance : ClosedOff (k0_off103 i) := ⟨![p, 2, 160, 0], congrArg (![·, 2, 160, 0]) Par.cur⟩
instance : ClosedOff (k0_off104 i) := ⟨![p, 3, 160, 0], congrArg (![·, 3, 160, 0]) Par.cur⟩
instance : ClosedOff (k0_off105 i) := ⟨![p, 4, 160, 0], congrArg (![·, 4, 160, 0]) Par.cur⟩
instance : ClosedOff (k0_off106 i) := ⟨![p, 5, 160, 0], congrArg (![·, 5, 160, 0]) Par.cur⟩
instance : ClosedOff (k0_off107 i) := ⟨![p, 6, 160, 0], congrArg (![·, 6, 160, 0]) Par.cur⟩
instance : ClosedOff (k0_off108 i) := ⟨![p, 7, 160, 0], congrArg (![·, 7, 160, 0]) Par.cur⟩
instance : ClosedOff (k0_off109 i) := ⟨![p, 8, 160, 0], congrArg (![·, 8, 160, 0]) Par.cur⟩
instance : ClosedOff (k0_off110 i) := ⟨![p, 9, 160, 0], congrArg (![·, 9, 160, 0]) Par.cur⟩
instance : ClosedOff (k0_off111 i) := ⟨![p, 10, 160, 0], congrArg (![·, 10, 160, 0]) Par.cur⟩
instance : ClosedOff (k0_off112 i) := ⟨![p, 11, 160, 0], congrArg (![·, 11, 160, 0]) Par.cur⟩
instance : ClosedOff (k0_off113 i) := ⟨![p, 12, 160, 0], congrArg (![·, 12, 160, 0]) Par.cur⟩
instance : ClosedOff (k0_off114 i) := ⟨![p, 13, 160, 0], congrArg (![·, 13, 160, 0]) Par.cur⟩
instance : ClosedOff (k0_off115 i) := ⟨![p, 14, 160, 0], congrArg (![·, 14, 160, 0]) Par.cur⟩
instance : ClosedOff (k0_off116 i) := ⟨![p, 0, 192, 0], congrArg (![·, 0, 192, 0]) Par.cur⟩
instance : ClosedOff (k0_off117 i) := ⟨![p, 1, 192, 0], congrArg (![·, 1, 192, 0]) Par.cur⟩
instance : ClosedOff (k0_off118 i) := ⟨![p, 2, 192, 0], congrArg (![·, 2, 192, 0]) Par.cur⟩
instance : ClosedOff (k0_off119 i) := ⟨![p, 3, 192, 0], congrArg (![·, 3, 192, 0]) Par.cur⟩
instance : ClosedOff (k0_off120 i) := ⟨![p, 4, 192, 0], congrArg (![·, 4, 192, 0]) Par.cur⟩
instance : ClosedOff (k0_off121 i) := ⟨![p, 5, 192, 0], congrArg (![·, 5, 192, 0]) Par.cur⟩
instance : ClosedOff (k0_off122 i) := ⟨![p, 6, 192, 0], congrArg (![·, 6, 192, 0]) Par.cur⟩
instance : ClosedOff (k0_off123 i) := ⟨![p, 7, 192, 0], congrArg (![·, 7, 192, 0]) Par.cur⟩
instance : ClosedOff (k0_off124 i) := ⟨![p, 8, 192, 0], congrArg (![·, 8, 192, 0]) Par.cur⟩
instance : ClosedOff (k0_off125 i) := ⟨![p, 9, 192, 0], congrArg (![·, 9, 192, 0]) Par.cur⟩
instance : ClosedOff (k0_off126 i) := ⟨![p, 10, 192, 0], congrArg (![·, 10, 192, 0]) Par.cur⟩
instance : ClosedOff (k0_off127 i) := ⟨![p, 11, 192, 0], congrArg (![·, 11, 192, 0]) Par.cur⟩
instance : ClosedOff (k0_off128 i) := ⟨![p, 12, 192, 0], congrArg (![·, 12, 192, 0]) Par.cur⟩
instance : ClosedOff (k0_off129 i) := ⟨![p, 13, 192, 0], congrArg (![·, 13, 192, 0]) Par.cur⟩
instance : ClosedOff (k0_off130 i) := ⟨![p, 14, 192, 0], congrArg (![·, 14, 192, 0]) Par.cur⟩
instance : ClosedOff (k0_off131 i) := ⟨![p, 0, 224, 0], congrArg (![·, 0, 224, 0]) Par.cur⟩
instance : ClosedOff (k0_off132 i) := ⟨![p, 1, 224, 0], congrArg (![·, 1, 224, 0]) Par.cur⟩
instance : ClosedOff (k0_off133 i) := ⟨![p, 2, 224, 0], congrArg (![·, 2, 224, 0]) Par.cur⟩
instance : ClosedOff (k0_off134 i) := ⟨![p, 3, 224, 0], congrArg (![·, 3, 224, 0]) Par.cur⟩
instance : ClosedOff (k0_off135 i) := ⟨![p, 4, 224, 0], congrArg (![·, 4, 224, 0]) Par.cur⟩
instance : ClosedOff (k0_off136 i) := ⟨![p, 5, 224, 0], congrArg (![·, 5, 224, 0]) Par.cur⟩
instance : ClosedOff (k0_off137 i) := ⟨![p, 6, 224, 0], congrArg (![·, 6, 224, 0]) Par.cur⟩
instance : ClosedOff (k0_off138 i) := ⟨![p, 7, 224, 0], congrArg (![·, 7, 224, 0]) Par.cur⟩
instance : ClosedOff (k0_off139 i) := ⟨![p, 8, 224, 0], congrArg (![·, 8, 224, 0]) Par.cur⟩
instance : ClosedOff (k0_off140 i) := ⟨![p, 9, 224, 0], congrArg (![·, 9, 224, 0]) Par.cur⟩
instance : ClosedOff (k0_off141 i) := ⟨![p, 10, 224, 0], congrArg (![·, 10, 224, 0]) Par.cur⟩
instance : ClosedOff (k0_off142 i) := ⟨![p, 11, 224, 0], congrArg (![·, 11, 224, 0]) Par.cur⟩
instance : ClosedOff (k0_off143 i) := ⟨![p, 12, 224, 0], congrArg (![·, 12, 224, 0]) Par.cur⟩
instance : ClosedOff (k0_off144 i) := ⟨![p, 13, 224, 0], congrArg (![·, 13, 224, 0]) Par.cur⟩
instance : ClosedOff (k0_off145 i) := ⟨![p, 14, 224, 0], congrArg (![·, 14, 224, 0]) Par.cur⟩

end Cert.KernelIdeal.Own
-- ==== Proof.Common.lean ====
/-
  Names that the runs of the kernel body share: a buffer's contents and a buffer held whole.
-/
module

public import proofs.«01_k».proof.Proof.Gen.KernelIdeal.Frame
public import proofs.«01_k».proof.Proof.Offs

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

end Cert.KernelIdeal.Own

end
-- ==== Proof.Body.lean ====
/-
  The body obligation and the frame run of the kernel, for any description `Step` of what one run of the body makes of the
  contents it finds: the scratch meets an invariant `J`, and what the body leaves in the three output windows meets `Rl`.
-/
module

public import proofs.«01_k».proof.Proof.Common
public import Idealize.ShloMosaic.Lib.Pipeline.DatRel
public import Idealize.ShloMosaic.Lib.Pipeline.ArrRel
public import Idealize.ShloMosaic.Lib.Pipeline.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)

variable {F : FTy → Type} [FloatOps F]

local notation "𝕄" => MT nD τ sig Unit (Elt F) ℕ (UR sig nD τ) ℕ

/-- A whole memref owned at contents is its buffer held at some contents that read so. -/
theorem owns_pt (c : Dev nD) {sp : Space} {sh : Shape} {e : EltTy} {M : Memref sig .tc sp sh e} (hw : M.IsWhole) (X : sh.Idx → Elt F e) :
    (owns (c : Thread nD τ) M fullShare X : sProp 𝕄) = iprop(∃ f : Bf F c M, ⌜M.view.read (Elt F) f = X⌝ ∗ pt c M f) := by
  obtain ⟨b, hsp, hsh, he, h⟩ := hw
  subst hsp hsh he
  cases h
  exact owns_whole_eq (c : Thread nD τ) b fullShare X

/-- The contents of the four scratch buffers: the block read at the last point, its partial maxima, the two slots of codes and
    the two slots of scales. -/
structure Sc (F : FTy → Type) where
  gf : Vec F S8x480x512 .f32
  mx : Vec F S8x32x128 .f32
  code : Vec F S2x15x256x512 .fp8e4m3
  sc : Vec F S2x256x128 .f32

/-- What the body reads: the four input windows, the scales' window as found, the scratch. -/
structure In (F : FTy → Type) where
  g : Vec F S8x480x512 .f32
  w : Vec F S7680x1024 .fp8e4m3
  ws : Vec F S1x1024 .f32
  b : Vec F S1x1024 .f32
  gs : Vec F S192x128 .f32
  s : Sc F

/-- What the body leaves: the three output windows and the scratch. -/
structure Out (F : FTy → Type) where
  y : Vec F S256x1024 .bf16
  gc : Vec F S1x15x256x512 .fp8e4m3
  gs : Vec F S192x128 .f32
  s : Sc F

/-- Equal contents, buffer by buffer, are equal inputs. -/
theorem in_eq {a1 b1 : Vec F S8x480x512 .f32} {a2 b2 : Vec F S7680x1024 .fp8e4m3} {a3 b3 a4 b4 : Vec F S1x1024 .f32} {a7 b7 : Vec F S192x128 .f32}
    {a8 : Vec F S8x480x512 .f32} {a9 : Vec F S8x32x128 .f32} {a10 : Vec F S2x15x256x512 .fp8e4m3} {a11 : Vec F S2x256x128 .f32} {s : Sc F}
    (e1 : a1 = b1) (e2 : a2 = b2) (e3 : a3 = b3) (e4 : a4 = b4) (e7 : a7 = b7) (e8 : a8 = s.gf) (e9 : a9 = s.mx) (e10 : a10 = s.code) (e11 : a11 = s.sc) :
    (⟨a1, a2, a3, a4, a7, ⟨a8, a9, a10, a11⟩⟩ : In F) = ⟨b1, b2, b3, b4, b7, s⟩ := by
  subst e1 e2 e3 e4 e7 e8 e9 e10 e11; rfl

/-- The body at every grid point runs, and what it leaves is described by `Step`. -/
def Runs (Step : Fin cfg0.N → In F → Out F → Prop) : Prop :=
  ∀ (c : Dev nD) (t : Fin cfg0.N)
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11),
    ∃ W : Bf F c M5 × Bf F c M6 × Bf F c M7 × Bf F c M8 × Bf F c M9 × Bf F c M10 × Bf F c M11,
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) W.1, M6.view.read (Elt F) W.2.1, M7.view.read (Elt F) W.2.2.1,
          ⟨M8.view.read (Elt F) W.2.2.2.1, M9.view.read (Elt F) W.2.2.2.2.1, M10.view.read (Elt F) W.2.2.2.2.2.1, M11.view.read (Elt F) W.2.2.2.2.2.2⟩⟩
      ∧ ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E (cc0_kpconv (grid0.coords t) M1 h1 M2 h2 M3 h3 M4 h4 M5 h5 M6 h6 M7 h7 M8 h8 M9 h9 M10 h10 M11 h11) Q

variable (m : (ℓ : Loc nD τ sig) → Buf (Elt F) ℓ) (ρ : Dev nD → PrngReg)

/-- The invariant before point `n`: the scratch at some contents that meet `J`, the generator register at something. -/
def inv (J : Dev nD → Nat → Sc F → Prop) (c : Dev nD) (n : Nat) : sProp 𝕄 :=
  iprop((∃ s : Sc F, ⌜J c n s⌝ ∗ owns (c : Thread nD τ) (Memref.whole cc0_scratch0) fullShare s.gf
    ∗ owns (c : Thread nD τ) (Memref.whole cc0_scratch1) fullShare s.mx
    ∗ owns (c : Thread nD τ) (Memref.whole cc0_scratch2) fullShare s.code
    ∗ owns (c : Thread nD τ) (Memref.whole cc0_scratch3) fullShare s.sc) ∗ ∃ r, prngReg c r)

/-- The proof data of the one pipeline: the arrays as the region finds them; each input's buffer at its block. -/
def dat (J : Dev nD → Nat → Sc F → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := inv J c t.val
  q _ := fullShare
  owed _ := 0

/-- The output windows, which are held to a predicate. -/
def outs : Fin cfg0.W → Bool := fun w => match w with
  | ⟨0, _⟩ => false | ⟨1, _⟩ => false | ⟨2, _⟩ => false | ⟨3, _⟩ => false
  | ⟨4, _⟩ => true | ⟨5, _⟩ => true | ⟨6, _⟩ => true

/-- The predicates of the three output windows, as one family over the windows. -/
def rel (Y : Fin cfg0.N → Vec F S256x1024 .bf16 → Prop) (G : Fin cfg0.N → Vec F S1x15x256x512 .fp8e4m3 → Prop)
    (S : Fin cfg0.N → Vec F S192x128 .f32 → Prop) :
    (w : Fin cfg0.W) → Fin cfg0.N → ((cfg0.win w).block.Idx → Elt F (cfg0.win w).elt) → Prop := fun w t => match w with
  | ⟨0, _⟩ => fun _ => True | ⟨1, _⟩ => fun _ => True | ⟨2, _⟩ => fun _ => True | ⟨3, _⟩ => fun _ => True
  | ⟨4, _⟩ => fun X => Y t X | ⟨5, _⟩ => fun X => G t X | ⟨6, _⟩ => fun X => S t X

variable (Step : Fin cfg0.N → In F → Out F → Prop) (J : Dev nD → Nat → Sc F → Prop)
  (Y : Dev nD → Fin cfg0.N → Vec F S256x1024 .bf16 → Prop) (G : Dev nD → Fin cfg0.N → Vec F S1x15x256x512 .fp8e4m3 → Prop)
  (S : Dev nD → Fin cfg0.N → Vec F S192x128 .f32 → Prop)

/-- One point keeps the invariant and leaves contents that meet the output windows' predicates. -/
def Keeps : Prop := ∀ (c : Dev nD) (t : Fin cfg0.N) (x7 : Vec F S192x128 .f32) (s : Sc F) (o : Out F),
  J c t.val s → (∀ u : Fin cfg0.N, u.val + 1 = t.val → S c u x7) →
  Step t ⟨iblk m c 0 t, iblk m c 1 t, iblk m c 2 t, iblk m c 3 t, x7, s⟩ o →
  J c (t.val + 1) o.s ∧ Y c t o.y ∧ G c t o.gc ∧ S c t o.gs

/-- The data of the run: exact at the inputs, the predicates at the outputs. -/
abbrev rdat (c : Dev nD) : RDat τ (Elt F) Unit ℕ (UR sig nD τ) ℕ cfg0 c := (dat m J c).toRRel outs (rel (Y c) (G c) (S c))

omit [FloatOps F] in
/-- The scales' window is never read in. -/
theorem nofetch6 (t : Fin cfg0.N) : (cfg0.win 6).fetch t = false := by
  revert t; exact (by decide +kernel : ∀ t : Fin grid0.N, win0_6.fetch t = false)

omit [FloatOps F] in
/-- The scales' window is not written back before the last step. -/
theorem noflush6 (t : Fin cfg0.N) (h : t.val + 1 < 99) : (cfg0.win 6).flush t = false := by
  rcases hf : (cfg0.win 6).flush t
  · rfl
  · have := (flush0_6 t).mp hf; omega

/-- What the body may find in the scales' window after the first point is what it left there. -/
theorem finds6 (c : Dev nD) (t : Fin cfg0.N) (X) (h : (rdat m J Y G S c).Finds 6 t X) (u : Fin cfg0.N) (hu : u.val + 1 = t.val) : S c u X := by
  have ht : t.val ≠ 0 := by omega
  have hN : t.val < 99 := lt_of_lt_of_eq t.isLt N_0
  rcases (RDat.finds_of_pos _ (nofetch6 t) ht X).mp h with h | h
  · rw [noflush6 _ (by show t.val - 1 + 1 < 99; omega)] at h; cases h
  · have e : (⟨t.val - 1, Nat.lt_of_le_of_lt (Nat.sub_le _ _) t.isLt⟩ : Fin cfg0.N) = u := Fin.ext (by show t.val - 1 = u.val; omega)
    rw [e] at h
    exact (dat m J c).toRRel_leaves (fgt := outs) (w := 6) rfl h

set_option maxHeartbeats 4000000 in
/-- The body obligation. -/
theorem obligation (hruns : Runs Step) (hkeeps : Keeps m Step J Y G S) (c : Dev nD) :
    BodyObligationRel (dat m J c) (defs₀ (F := F)) Variants.none () Set.univ outs (rel (Y c) (G c) (S c)) := fun t => by
  rw [bigSep_W0, bigSep_W0]
  show iprop(inv J c t.val ∗ (dat m J c).owesAt () t.castSucc
    ∗ (∃ d, owns (c : Thread nD τ) (st0_0 t) fullShare ((dat m J c).before 0 t d))
    ∗ (∃ d, owns (c : Thread nD τ) (st0_1 t) fullShare ((dat m J c).before 1 t d))
    ∗ (∃ d, owns (c : Thread nD τ) (st0_2 t) fullShare ((dat m J c).before 2 t d))
    ∗ (∃ d, owns (c : Thread nD τ) (st0_3 t) fullShare ((dat m J c).before 3 t d))
    ∗ (∃ X, ⌜(rdat m J Y G S c).Finds 4 t X⌝ ∗ owns (c : Thread nD τ) (st0_4 t) fullShare X)
    ∗ (∃ X, ⌜(rdat m J Y G S c).Finds 5 t X⌝ ∗ owns (c : Thread nD τ) (st0_5 t) fullShare X)
    ∗ (∃ X, ⌜(rdat m J Y G S c).Finds 6 t X⌝ ∗ owns (c : Thread nD τ) (st0_6 t) fullShare X))
    ⊢ wp frame (wpE (defs₀ (F := F)) Variants.none c none) Set.univ (bodyAt0 t) fun _ =>
      iprop(inv J c (t.val + 1) ∗ (dat m J c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ (∃ X : Vec F S256x1024 .bf16, ⌜Y c t X⌝ ∗ owns (c : Thread nD τ) (st0_4 t) fullShare X)
        ∗ (∃ X : Vec F S1x15x256x512 .fp8e4m3, ⌜G c t X⌝ ∗ owns (c : Thread nD τ) (st0_5 t) fullShare X)
        ∗ (∃ X : Vec F S192x128 .f32, ⌜S c t X⌝ ∗ owns (c : Thread nD τ) (st0_6 t) fullShare X))
  simp only [before0_0_of m (dat m J c) rfl (fun _ => by dsimp only [dat]), before0_1_of m (dat m J c) rfl (fun _ => by dsimp only [dat]),
    before0_2_of m (dat m J c) rfl (fun _ => by dsimp only [dat]), before0_3_of m (dat m J c) rfl (fun _ => by dsimp only [dat])]
  simp only [inv, owns_pt c (M := st0_0 t) (hstage0_0 ((cfg0.slots t 0).cast nbuf0_0)), owns_pt c (M := st0_1 t) (hstage0_1 ((cfg0.slots t 1).cast nbuf0_1)),
    owns_pt c (M := st0_2 t) (hstage0_2 ((cfg0.slots t 2).cast nbuf0_2)), owns_pt c (M := st0_3 t) (hstage0_3 ((cfg0.slots t 3).cast nbuf0_3)),
    owns_pt c (M := st0_4 t) (hstage0_4 ((cfg0.slots t 4).cast nbuf0_4)), owns_pt c (M := st0_5 t) (hstage0_5 ((cfg0.slots t 5).cast nbuf0_5)),
    owns_pt c (M := st0_6 t) (hstage0_6 ((cfg0.slots t 6).cast nbuf0_6)), owns_pt c (Memref.isWhole_whole cc0_scratch0),
    owns_pt c (Memref.isWhole_whole cc0_scratch1), owns_pt c (Memref.isWhole_whole cc0_scratch2), owns_pt c (Memref.isWhole_whole cc0_scratch3)]
  unfold bodyAt0
  iintro ⟨⟨⟨%s, %hJ, ⟨%f8, %e8, H8⟩, ⟨%f9, %e9, H9⟩, ⟨%f10, %e10, H10⟩, ⟨%f11, %e11, H11⟩⟩, Hg⟩, Ho,
    ⟨%d1, %f1, %e1, H1⟩, ⟨%d2, %f2, %e2, H2⟩, ⟨%d3, %f3, %e3, H3⟩, ⟨%d4, %f4, %e4, H4⟩,
    ⟨%x5, %k5, %f5, %e5, H5⟩, ⟨%x6, %k6, %f6, %e6, H6⟩, ⟨%x7, %k7, %f7, %e7, H7⟩⟩
  obtain ⟨W, hstep, hwp⟩ := hruns c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    f1 f2 f3 f4 f7 f8 f9 f10 f11
  have hk := hkeeps c t x7 s _ hJ (fun u hu => finds6 m J Y G S c t x7 k7 u hu)
    (Eq.mp (congrArg (fun a => Step t a _) (in_eq e1 e2 e3 e4 e7 e8 e9 e10 e11)) hstep)
  iapply (hwp f5 f6 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H8 H9 H10 H11 Hg]
  · isplitr [Hg]
    · iexists _; isplitr; · ipureintro; exact hk.1
      isplitl [H8]; · iexists _; isplitr; swap; (· iexact H8); ipureintro; rfl
      isplitl [H9]; · iexists _; isplitr; swap; (· iexact H9); ipureintro; rfl
      isplitl [H10]; · iexists _; isplitr; swap; (· iexact H10); ipureintro; rfl
      iexists _; isplitr; swap; (· iexact H11); ipureintro; rfl
    · iexact Hg
  isplitl [Ho]; · iexact Ho
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; · ipureintro; exact hk.2.1
    iexists _; isplitr; swap; (· iexact H5); ipureintro; rfl
  isplitl [H6]
  · iexists _; isplitr; · ipureintro; exact hk.2.2.1
    iexists _; isplitr; swap; (· iexact H6); ipureintro; rfl
  iexists _; isplitr; · ipureintro; exact hk.2.2.2
  iexists _; isplitr; swap; (· iexact H7); ipureintro; rfl

/-- The frame run: every array ends at contents that the data allow. -/
theorem run_main (hruns : Runs Step) (hkeeps : Keeps m Step J Y G S) (hJ : ∀ c s, J c 0 s)
    (Q' : PUnit × MemSt nD τ sig (Elt F) → Prop)
    (hQ' : ∀ r, RDat.FramePost cfg0 (rdat m J Y G S) (V m) r ∧ r.2.sem = (fun _ => 0) → Q' r) :
    θ_run defs (onTc (τ := τ) (main (F := F))) ⟨m, fun _ => 0, ρ⟩ Q' :=
  RDat.θ_run_frame_track cfgs 0 launch0 defs₀ Variants.none (rdat m J Y G S) m ρ main
    (fun c => (obligation m Step J Y G S hruns hkeeps c).toRRel) (fun c w => by unfold RDat.share; split <;> rfl) (fun _ _ => rfl)
    (V m) (hmain m Variants.none) (fun _ _ => rfl)
    (fun c => by
      show Pipeline.ΦA spec0 c ⊢ inv J c 0
      unfold Pipeline.ΦA inv; rw [scopedRest0_eq]; simp only [owns_whole_eq]
      iintro ⟨⟨⟨%f8, H8⟩, ⟨%f9, H9⟩, ⟨%f10, H10⟩, ⟨%f11, H11⟩⟩, Hg⟩
      isplitr [Hg]
      · iexists (⟨f8, f9, f10, f11⟩ : Sc F); isplitr; · ipureintro; exact hJ c _
        isplitl [H8]; · iexists _; isplitr; swap; (· iexact H8); ipureintro; rfl
        isplitl [H9]; · iexists _; isplitr; swap; (· iexact H9); ipureintro; rfl
        isplitl [H10]; · iexists _; isplitr; swap; (· iexact H10); ipureintro; rfl
        iexists _; isplitr; swap; (· iexact H11); ipureintro; rfl
      · iexact Hg)
    (fun c => by
      show inv J c (Fin.last cfg0.N).val ⊢ Pipeline.ΦA spec0 c
      unfold Pipeline.ΦA inv; rw [scopedRest0_eq]; simp only [owns_whole_eq]
      iintro ⟨⟨%s, -, ⟨%f8, -, H8⟩, ⟨%f9, -, H9⟩, ⟨%f10, -, H10⟩, ⟨%f11, -, H11⟩⟩, Hg⟩
      isplitr [Hg]
      · isplitl [H8]; · iexists _; iexact H8
        isplitl [H9]; · iexists _; iexact H9
        isplitl [H10]; · iexists _; iexact H10
        iexists _; iexact H11
      · iexact Hg) Q' hQ'

/-- The frame: the run ends with the arguments unchanged and every counter at zero. -/
theorem frame (hruns : Runs (F := F) fun _ _ _ => True) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run_main m ρ (fun _ _ _ => True) (fun _ _ _ => True) (fun _ _ _ => True) (fun _ _ _ => True) (fun _ _ _ => True) hruns
    (fun _ _ _ _ _ _ _ _ => ⟨trivial, trivial, trivial, trivial⟩) (fun _ _ => trivial) _
    (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.KernelIdeal.Own

end
-- ==== Proof.RunZero.lean ====
/-
  The kernel body run once at symbolic contents, at the first grid point, where the body clears its scratch. What it leaves in each buffer is found by the run.
-/
module

public import proofs.«01_k».proof.Proof.Common

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at the first grid point. -/
noncomputable def runZero (c : Dev nD) (i : grid0.Coords) (hc : Scalar.cmpi .ne ((Scalar.extui (Scalar.cmpi .eq (BitVec.ofNat 32 (i 0).val) 0#32) : BitVec 32)) 0#32 = 1#1)
    [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Own

end
-- ==== Proof.RunEven.lean ====
/-
  The kernel body run once at symbolic contents, at an even grid point after the first. What it leaves in each buffer is found by the run.
-/
module

public import proofs.«01_k».proof.Proof.Common

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at an even grid point after the first. -/
noncomputable def runEven (c : Dev nD) (i : grid0.Coords) (hc : ¬ (Scalar.cmpi .ne ((Scalar.extui (Scalar.cmpi .eq (BitVec.ofNat 32 (i 0).val) 0#32) : BitVec 32)) 0#32 = 1#1))
    [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Own

end
-- ==== Proof.RunOdd.lean ====
/-
  The kernel body run once at symbolic contents, at an odd grid point. What it leaves in each buffer is found by the run.
-/
module

public import proofs.«01_k».proof.Proof.Common

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at an odd grid point. -/
noncomputable def runOdd (c : Dev nD) (i : grid0.Coords) (hc : ¬ (Scalar.cmpi .ne ((Scalar.extui (Scalar.cmpi .eq (BitVec.ofNat 32 (i 0).val) 0#32) : BitVec 32)) 0#32 = 1#1))
    [Par i 1 0]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Own

end
-- ==== Proof.Run.lean ====
/-
  The three runs of the body put together: the body runs at every grid point, and a description that each of the three runs
  meets describes all points. With the description that says nothing this is the frame.
-/
module

public import proofs.«01_k».proof.Proof.Body
public import proofs.«01_k».proof.Proof.RunZero
public import proofs.«01_k».proof.Proof.RunEven
public import proofs.«01_k».proof.Proof.RunOdd

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)

variable {F : FTy → Type} [FloatOps F]

local notation "𝕄" => MT nD τ sig Unit (Elt F) ℕ (UR sig nD τ) ℕ

/-- The kernel's test for the first grid point. -/
abbrev First (i : grid0.Coords) : Prop :=
  Scalar.cmpi .ne ((Scalar.extui (Scalar.cmpi .eq (BitVec.ofNat 32 (i 0).val) 0#32) : BitVec 32)) 0#32 = 1#1

/-- The grid's only coordinate is the number of the step. -/
theorem coords_val : ∀ t : Fin grid0.N, ((grid0.coords t) 0).val = t.val := by decide +kernel

/-- The first step is step 0. -/
theorem first_iff (t : Fin cfg0.N) : First (grid0.coords t) ↔ t.val = 0 := by
  rw [← coords_val t]
  exact (by decide +kernel : ∀ x : Fin 99, Scalar.cmpi .ne ((Scalar.extui (Scalar.cmpi .eq (BitVec.ofNat 32 x.val) 0#32) : BitVec 32)) 0#32 = 1#1 ↔ x.val = 0)
    ((grid0.coords t) 0)

/-- A description that each of the three runs meets describes the body at every point. -/
theorem runs_of (Step : Fin cfg0.N → In F → Out F → Prop)
    (hZ : ∀ (c : Dev nD) (t : Fin cfg0.N) (h : First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runZero c (grid0.coords t) h M1 h1 M2 h2 M3 h3 M4 h4 M5 h5 M6 h6 M7 h7 M8 h8 M9 h9 M10 h10 M11 h11 f1 f2 f3 f4 f7 f8 f9 f10 f11).1.1,
          M6.view.read (Elt F) (runZero c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runZero c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.2⟩⟩)
    (hE : ∀ (c : Dev nD) (t : Fin cfg0.N) (h : ¬ First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runEven c (grid0.coords t) h M1 h1 M2 h2 M3 h3 M4 h4 M5 h5 M6 h6 M7 h7 M8 h8 M9 h9 M10 h10 M11 h11 f1 f2 f3 f4 f7 f8 f9 f10 f11).1.1,
          M6.view.read (Elt F) (runEven c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runEven c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.2⟩⟩)
    (hO : ∀ (c : Dev nD) (t : Fin cfg0.N) (h : ¬ First (grid0.coords t)) [Par (grid0.coords t) 1 0]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 1 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runOdd c (grid0.coords t) h M1 h1 M2 h2 M3 h3 M4 h4 M5 h5 M6 h6 M7 h7 M8 h8 M9 h9 M10 h10 M11 h11 f1 f2 f3 f4 f7 f8 f9 f10 f11).1.1,
          M6.view.read (Elt F) (runOdd c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.2⟩⟩) : Runs Step := by
  intro c t M1 h1 M2 h2 M3 h3 M4 h4 M5 h5 M6 h6 M7 h7 M8 h8 M9 h9 M10 h10 M11 h11 f1 f2 f3 f4 f7 f8 f9 f10 f11
  by_cases h : First (grid0.coords t)
  · have h0 : t.val = 0 := (first_iff t).mp h
    haveI := par_even (grid0.coords t) (by rw [coords_val t, h0])
    exact ⟨_, hZ c t h M1 h1 M2 h2 M3 h3 M4 h4 M5 h5 M6 h6 M7 h7 M8 h8 M9 h9 M10 h10 M11 h11 f1 f2 f3 f4 f7 f8 f9 f10 f11 h0, (runZero c (grid0.coords t) h M1 h1 M2 h2 M3 h3 M4 h4 M5 h5 M6 h6 M7 h7 M8 h8 M9 h9 M10 h10 M11 h11 f1 f2 f3 f4 f7 f8 f9 f10 f11).2⟩
  · rcases Nat.mod_two_eq_zero_or_one t.val with h0 | h0
    · haveI := par_even (grid0.coords t) (by rw [coords_val t, h0])
      exact ⟨_, hE c t h M1 h1 M2 h2 M3 h3 M4 h4 M5 h5 M6 h6 M7 h7 M8 h8 M9 h9 M10 h10 M11 h11 f1 f2 f3 f4 f7 f8 f9 f10 f11 h0, (runEven c (grid0.coords t) h M1 h1 M2 h2 M3 h3 M4 h4 M5 h5 M6 h6 M7 h7 M8 h8 M9 h9 M10 h10 M11 h11 f1 f2 f3 f4 f7 f8 f9 f10 f11).2⟩
    · haveI := par_odd (grid0.coords t) (by rw [coords_val t, h0])
      exact ⟨_, hO c t h M1 h1 M2 h2 M3 h3 M4 h4 M5 h5 M6 h6 M7 h7 M8 h8 M9 h9 M10 h10 M11 h11 f1 f2 f3 f4 f7 f8 f9 f10 f11 h0, (runOdd c (grid0.coords t) h M1 h1 M2 h2 M3 h3 M4 h4 M5 h5 M6 h6 M7 h7 M8 h8 M9 h9 M10 h10 M11 h11 f1 f2 f3 f4 f7 f8 f9 f10 f11).2⟩

/-- The body runs at every point. -/
theorem runs : Runs (F := F) fun _ _ _ => True :=
  runs_of _ (by intros; trivial) (by intros; trivial) (by intros; trivial)

end Cert.KernelIdeal.Own

end
-- ==== Proof.Bits.Offs.lean ====
/-
  The slots of the two double-buffered scratch buffers as numerals: at a grid point of known parity the row that the body writes
  (`s % 2`) and the row that it reads (`1 - s % 2`) are numerals, and with them every printed offset into those buffers.
-/
module

public import proofs.«01_k».proof.Proof.Gen.Kernel.Skeleton
public import Idealize.ShloMosaic.Lib.Tactic

@[expose] public section

namespace Cert.Kernel.Own

open Cert.Kernel Cert.Kernel.Gen
open Idealize.ShloMosaic Idealize.ShloMosaic.Tactic Idealize.ShloMosaic.Exec

/-- At grid point `i` the body writes slot `p` and reads slot `p'`, as the kernel computes them. -/
class Par (i : grid0.Coords) (p p' : outParam Nat) : Prop where
  cur : (Scalar.indexCast (Scalar.remsi (BitVec.ofNat 32 (i 0).val) 2#32)).toNat = p
  prv : (Scalar.indexCast (Scalar.subi 1#32 (Scalar.remsi (BitVec.ofNat 32 (i 0).val) 2#32))).toNat = p'

/-- An even point writes slot 0 and reads slot 1. -/
theorem par_even : ∀ i : grid0.Coords, (i 0).val % 2 = 0 → Par i 0 1 := fun i h =>
  ⟨(by decide +kernel : ∀ x : Fin 99, x.val % 2 = 0 → (Scalar.indexCast (Scalar.remsi (BitVec.ofNat 32 x.val) 2#32)).toNat = 0) (i 0) h,
   (by decide +kernel : ∀ x : Fin 99, x.val % 2 = 0 → (Scalar.indexCast (Scalar.subi 1#32 (Scalar.remsi (BitVec.ofNat 32 x.val) 2#32))).toNat = 1) (i 0) h⟩

/-- An odd point writes slot 1 and reads slot 0. -/
theorem par_odd : ∀ i : grid0.Coords, (i 0).val % 2 = 1 → Par i 1 0 := fun i h =>
  ⟨(by decide +kernel : ∀ x : Fin 99, x.val % 2 = 1 → (Scalar.indexCast (Scalar.remsi (BitVec.ofNat 32 x.val) 2#32)).toNat = 1) (i 0) h,
   (by decide +kernel : ∀ x : Fin 99, x.val % 2 = 1 → (Scalar.indexCast (Scalar.subi 1#32 (Scalar.remsi (BitVec.ofNat 32 x.val) 2#32))).toNat = 0) (i 0) h⟩

variable {i : grid0.Coords} {p p' : Nat} [Par i p p']

instance : ClosedOff (k0_off1 i) := ⟨![p, 0, 0], congrArg (![·, 0, 0]) Par.cur⟩
instance : ClosedOff (k0_off2 i) := ⟨![p, 32, 0], congrArg (![·, 32, 0]) Par.cur⟩
instance : ClosedOff (k0_off3 i) := ⟨![p, 64, 0], congrArg (![·, 64, 0]) Par.cur⟩
instance : ClosedOff (k0_off4 i) := ⟨![p, 96, 0], congrArg (![·, 96, 0]) Par.cur⟩
instance : ClosedOff (k0_off5 i) := ⟨![p, 128, 0], congrArg (![·, 128, 0]) Par.cur⟩
instance : ClosedOff (k0_off6 i) := ⟨![p, 160, 0], congrArg (![·, 160, 0]) Par.cur⟩
instance : ClosedOff (k0_off7 i) := ⟨![p, 192, 0], congrArg (![·, 192, 0]) Par.cur⟩
instance : ClosedOff (k0_off8 i) := ⟨![p, 224, 0], congrArg (![·, 224, 0]) Par.cur⟩
instance : ClosedOff (k0_off10 i) := ⟨![p, 0, 0, 0], congrArg (![·, 0, 0, 0]) Par.cur⟩
instance : ClosedOff (k0_off11 i) := ⟨![p, 1, 0, 0], congrArg (![·, 1, 0, 0]) Par.cur⟩
instance : ClosedOff (k0_off12 i) := ⟨![p, 2, 0, 0], congrArg (![·, 2, 0, 0]) Par.cur⟩
instance : ClosedOff (k0_off13 i) := ⟨![p, 3, 0, 0], congrArg (![·, 3, 0, 0]) Par.cur⟩
instance : ClosedOff (k0_off14 i) := ⟨![p, 4, 0, 0], congrArg (![·, 4, 0, 0]) Par.cur⟩
instance : ClosedOff (k0_off15 i) := ⟨![p, 5, 0, 0], congrArg (![·, 5, 0, 0]) Par.cur⟩
instance : ClosedOff (k0_off16 i) := ⟨![p, 6, 0, 0], congrArg (![·, 6, 0, 0]) Par.cur⟩
instance : ClosedOff (k0_off17 i) := ⟨![p, 7, 0, 0], congrArg (![·, 7, 0, 0]) Par.cur⟩
instance : ClosedOff (k0_off18 i) := ⟨![p, 8, 0, 0], congrArg (![·, 8, 0, 0]) Par.cur⟩
instance : ClosedOff (k0_off19 i) := ⟨![p, 9, 0, 0], congrArg (![·, 9, 0, 0]) Par.cur⟩
instance : ClosedOff (k0_off20 i) := ⟨![p, 10, 0, 0], congrArg (![·, 10, 0, 0]) Par.cur⟩
instance : ClosedOff (k0_off21 i) := ⟨![p, 11, 0, 0], congrArg (![·, 11, 0, 0]) Par.cur⟩
instance : ClosedOff (k0_off22 i) := ⟨![p, 12, 0, 0], congrArg (![·, 12, 0, 0]) Par.cur⟩
instance : ClosedOff (k0_off23 i) := ⟨![p, 13, 0, 0], congrArg (![·, 13, 0, 0]) Par.cur⟩
instance : ClosedOff (k0_off24 i) := ⟨![p, 14, 0, 0], congrArg (![·, 14, 0, 0]) Par.cur⟩
instance : ClosedOff (k0_off25 i) := ⟨![p', 0, 0, 0], congrArg (![·, 0, 0, 0]) Par.prv⟩
instance : ClosedOff (k0_off26 i) := ⟨![p', 1, 0, 0], congrArg (![·, 1, 0, 0]) Par.prv⟩
instance : ClosedOff (k0_off27 i) := ⟨![p', 2, 0, 0], congrArg (![·, 2, 0, 0]) Par.prv⟩
instance : ClosedOff (k0_off28 i) := ⟨![p', 3, 0, 0], congrArg (![·, 3, 0, 0]) Par.prv⟩
instance : ClosedOff (k0_off29 i) := ⟨![p', 4, 0, 0], congrArg (![·, 4, 0, 0]) Par.prv⟩
instance : ClosedOff (k0_off30 i) := ⟨![p', 5, 0, 0], congrArg (![·, 5, 0, 0]) Par.prv⟩
instance : ClosedOff (k0_off31 i) := ⟨![p', 6, 0, 0], congrArg (![·, 6, 0, 0]) Par.prv⟩
instance : ClosedOff (k0_off32 i) := ⟨![p', 7, 0, 0], congrArg (![·, 7, 0, 0]) Par.prv⟩
instance : ClosedOff (k0_off33 i) := ⟨![p', 8, 0, 0], congrArg (![·, 8, 0, 0]) Par.prv⟩
instance : ClosedOff (k0_off34 i) := ⟨![p', 9, 0, 0], congrArg (![·, 9, 0, 0]) Par.prv⟩
instance : ClosedOff (k0_off35 i) := ⟨![p', 10, 0, 0], congrArg (![·, 10, 0, 0]) Par.prv⟩
instance : ClosedOff (k0_off36 i) := ⟨![p', 11, 0, 0], congrArg (![·, 11, 0, 0]) Par.prv⟩
instance : ClosedOff (k0_off37 i) := ⟨![p', 12, 0, 0], congrArg (![·, 12, 0, 0]) Par.prv⟩
instance : ClosedOff (k0_off38 i) := ⟨![p', 13, 0, 0], congrArg (![·, 13, 0, 0]) Par.prv⟩
instance : ClosedOff (k0_off39 i) := ⟨![p', 14, 0, 0], congrArg (![·, 14, 0, 0]) Par.prv⟩
instance : ClosedOff (k0_off40 i) := ⟨![p', 0, 0], congrArg (![·, 0, 0]) Par.prv⟩
instance : ClosedOff (k0_off41 i) := ⟨![p, 0, 32, 0], congrArg (![·, 0, 32, 0]) Par.cur⟩
instance : ClosedOff (k0_off42 i) := ⟨![p, 1, 32, 0], congrArg (![·, 1, 32, 0]) Par.cur⟩
instance : ClosedOff (k0_off43 i) := ⟨![p, 2, 32, 0], congrArg (![·, 2, 32, 0]) Par.cur⟩
instance : ClosedOff (k0_off44 i) := ⟨![p, 3, 32, 0], congrArg (![·, 3, 32, 0]) Par.cur⟩
instance : ClosedOff (k0_off45 i) := ⟨![p, 4, 32, 0], congrArg (![·, 4, 32, 0]) Par.cur⟩
instance : ClosedOff (k0_off46 i) := ⟨![p, 5, 32, 0], congrArg (![·, 5, 32, 0]) Par.cur⟩
instance : ClosedOff (k0_off47 i) := ⟨![p, 6, 32, 0], congrArg (![·, 6, 32, 0]) Par.cur⟩
instance : ClosedOff (k0_off48 i) := ⟨![p, 7, 32, 0], congrArg (![·, 7, 32, 0]) Par.cur⟩
instance : ClosedOff (k0_off49 i) := ⟨![p, 8, 32, 0], congrArg (![·, 8, 32, 0]) Par.cur⟩
instance : ClosedOff (k0_off50 i) := ⟨![p, 9, 32, 0], congrArg (![·, 9, 32, 0]) Par.cur⟩
instance : ClosedOff (k0_off51 i) := ⟨![p, 10, 32, 0], congrArg (![·, 10, 32, 0]) Par.cur⟩
instance : ClosedOff (k0_off52 i) := ⟨![p, 11, 32, 0], congrArg (![·, 11, 32, 0]) Par.cur⟩
instance : ClosedOff (k0_off53 i) := ⟨![p, 12, 32, 0], congrArg (![·, 12, 32, 0]) Par.cur⟩
instance : ClosedOff (k0_off54 i) := ⟨![p, 13, 32, 0], congrArg (![·, 13, 32, 0]) Par.cur⟩
instance : ClosedOff (k0_off55 i) := ⟨![p, 14, 32, 0], congrArg (![·, 14, 32, 0]) Par.cur⟩
instance : ClosedOff (k0_off56 i) := ⟨![p, 0, 64, 0], congrArg (![·, 0, 64, 0]) Par.cur⟩
instance : ClosedOff (k0_off57 i) := ⟨![p, 1, 64, 0], congrArg (![·, 1, 64, 0]) Par.cur⟩
instance : ClosedOff (k0_off58 i) := ⟨![p, 2, 64, 0], congrArg (![·, 2, 64, 0]) Par.cur⟩
instance : ClosedOff (k0_off59 i) := ⟨![p, 3, 64, 0], congrArg (![·, 3, 64, 0]) Par.cur⟩
instance : ClosedOff (k0_off60 i) := ⟨![p, 4, 64, 0], congrArg (![·, 4, 64, 0]) Par.cur⟩
instance : ClosedOff (k0_off61 i) := ⟨![p, 5, 64, 0], congrArg (![·, 5, 64, 0]) Par.cur⟩
instance : ClosedOff (k0_off62 i) := ⟨![p, 6, 64, 0], congrArg (![·, 6, 64, 0]) Par.cur⟩
instance : ClosedOff (k0_off63 i) := ⟨![p, 7, 64, 0], congrArg (![·, 7, 64, 0]) Par.cur⟩
instance : ClosedOff (k0_off64 i) := ⟨![p, 8, 64, 0], congrArg (![·, 8, 64, 0]) Par.cur⟩
instance : ClosedOff (k0_off65 i) := ⟨![p, 9, 64, 0], congrArg (![·, 9, 64, 0]) Par.cur⟩
instance : ClosedOff (k0_off66 i) := ⟨![p, 10, 64, 0], congrArg (![·, 10, 64, 0]) Par.cur⟩
instance : ClosedOff (k0_off67 i) := ⟨![p, 11, 64, 0], congrArg (![·, 11, 64, 0]) Par.cur⟩
instance : ClosedOff (k0_off68 i) := ⟨![p, 12, 64, 0], congrArg (![·, 12, 64, 0]) Par.cur⟩
instance : ClosedOff (k0_off69 i) := ⟨![p, 13, 64, 0], congrArg (![·, 13, 64, 0]) Par.cur⟩
instance : ClosedOff (k0_off70 i) := ⟨![p, 14, 64, 0], congrArg (![·, 14, 64, 0]) Par.cur⟩
instance : ClosedOff (k0_off71 i) := ⟨![p, 0, 96, 0], congrArg (![·, 0, 96, 0]) Par.cur⟩
instance : ClosedOff (k0_off72 i) := ⟨![p, 1, 96, 0], congrArg (![·, 1, 96, 0]) Par.cur⟩
instance : ClosedOff (k0_off73 i) := ⟨![p, 2, 96, 0], congrArg (![·, 2, 96, 0]) Par.cur⟩
instance : ClosedOff (k0_off74 i) := ⟨![p, 3, 96, 0], congrArg (![·, 3, 96, 0]) Par.cur⟩
instance : ClosedOff (k0_off75 i) := ⟨![p, 4, 96, 0], congrArg (![·, 4, 96, 0]) Par.cur⟩
instance : ClosedOff (k0_off76 i) := ⟨![p, 5, 96, 0], congrArg (![·, 5, 96, 0]) Par.cur⟩
instance : ClosedOff (k0_off77 i) := ⟨![p, 6, 96, 0], congrArg (![·, 6, 96, 0]) Par.cur⟩
instance : ClosedOff (k0_off78 i) := ⟨![p, 7, 96, 0], congrArg (![·, 7, 96, 0]) Par.cur⟩
instance : ClosedOff (k0_off79 i) := ⟨![p, 8, 96, 0], congrArg (![·, 8, 96, 0]) Par.cur⟩
instance : ClosedOff (k0_off80 i) := ⟨![p, 9, 96, 0], congrArg (![·, 9, 96, 0]) Par.cur⟩
instance : ClosedOff (k0_off81 i) := ⟨![p, 10, 96, 0], congrArg (![·, 10, 96, 0]) Par.cur⟩
instance : ClosedOff (k0_off82 i) := ⟨![p, 11, 96, 0], congrArg (![·, 11, 96, 0]) Par.cur⟩
instance : ClosedOff (k0_off83 i) := ⟨![p, 12, 96, 0], congrArg (![·, 12, 96, 0]) Par.cur⟩
instance : ClosedOff (k0_off84 i) := ⟨![p, 13, 96, 0], congrArg (![·, 13, 96, 0]) Par.cur⟩
instance : ClosedOff (k0_off85 i) := ⟨![p, 14, 96, 0], congrArg (![·, 14, 96, 0]) Par.cur⟩
instance : ClosedOff (k0_off86 i) := ⟨![p, 0, 128, 0], congrArg (![·, 0, 128, 0]) Par.cur⟩
instance : ClosedOff (k0_off87 i) := ⟨![p, 1, 128, 0], congrArg (![·, 1, 128, 0]) Par.cur⟩
instance : ClosedOff (k0_off88 i) := ⟨![p, 2, 128, 0], congrArg (![·, 2, 128, 0]) Par.cur⟩
instance : ClosedOff (k0_off89 i) := ⟨![p, 3, 128, 0], congrArg (![·, 3, 128, 0]) Par.cur⟩
instance : ClosedOff (k0_off90 i) := ⟨![p, 4, 128, 0], congrArg (![·, 4, 128, 0]) Par.cur⟩
instance : ClosedOff (k0_off91 i) := ⟨![p, 5, 128, 0], congrArg (![·, 5, 128, 0]) Par.cur⟩
instance : ClosedOff (k0_off92 i) := ⟨![p, 6, 128, 0], congrArg (![·, 6, 128, 0]) Par.cur⟩
instance : ClosedOff (k0_off93 i) := ⟨![p, 7, 128, 0], congrArg (![·, 7, 128, 0]) Par.cur⟩
instance : ClosedOff (k0_off94 i) := ⟨![p, 8, 128, 0], congrArg (![·, 8, 128, 0]) Par.cur⟩
instance : ClosedOff (k0_off95 i) := ⟨![p, 9, 128, 0], congrArg (![·, 9, 128, 0]) Par.cur⟩
instance : ClosedOff (k0_off96 i) := ⟨![p, 10, 128, 0], congrArg (![·, 10, 128, 0]) Par.cur⟩
instance : ClosedOff (k0_off97 i) := ⟨![p, 11, 128, 0], congrArg (![·, 11, 128, 0]) Par.cur⟩
instance : ClosedOff (k0_off98 i) := ⟨![p, 12, 128, 0], congrArg (![·, 12, 128, 0]) Par.cur⟩
instance : ClosedOff (k0_off99 i) := ⟨![p, 13, 128, 0], congrArg (![·, 13, 128, 0]) Par.cur⟩
instance : ClosedOff (k0_off100 i) := ⟨![p, 14, 128, 0], congrArg (![·, 14, 128, 0]) Par.cur⟩
instance : ClosedOff (k0_off101 i) := ⟨![p, 0, 160, 0], congrArg (![·, 0, 160, 0]) Par.cur⟩
instance : ClosedOff (k0_off102 i) := ⟨![p, 1, 160, 0], congrArg (![·, 1, 160, 0]) Par.cur⟩
instance : ClosedOff (k0_off103 i) := ⟨![p, 2, 160, 0], congrArg (![·, 2, 160, 0]) Par.cur⟩
instance : ClosedOff (k0_off104 i) := ⟨![p, 3, 160, 0], congrArg (![·, 3, 160, 0]) Par.cur⟩
instance : ClosedOff (k0_off105 i) := ⟨![p, 4, 160, 0], congrArg (![·, 4, 160, 0]) Par.cur⟩
instance : ClosedOff (k0_off106 i) := ⟨![p, 5, 160, 0], congrArg (![·, 5, 160, 0]) Par.cur⟩
instance : ClosedOff (k0_off107 i) := ⟨![p, 6, 160, 0], congrArg (![·, 6, 160, 0]) Par.cur⟩
instance : ClosedOff (k0_off108 i) := ⟨![p, 7, 160, 0], congrArg (![·, 7, 160, 0]) Par.cur⟩
instance : ClosedOff (k0_off109 i) := ⟨![p, 8, 160, 0], congrArg (![·, 8, 160, 0]) Par.cur⟩
instance : ClosedOff (k0_off110 i) := ⟨![p, 9, 160, 0], congrArg (![·, 9, 160, 0]) Par.cur⟩
instance : ClosedOff (k0_off111 i) := ⟨![p, 10, 160, 0], congrArg (![·, 10, 160, 0]) Par.cur⟩
instance : ClosedOff (k0_off112 i) := ⟨![p, 11, 160, 0], congrArg (![·, 11, 160, 0]) Par.cur⟩
instance : ClosedOff (k0_off113 i) := ⟨![p, 12, 160, 0], congrArg (![·, 12, 160, 0]) Par.cur⟩
instance : ClosedOff (k0_off114 i) := ⟨![p, 13, 160, 0], congrArg (![·, 13, 160, 0]) Par.cur⟩
instance : ClosedOff (k0_off115 i) := ⟨![p, 14, 160, 0], congrArg (![·, 14, 160, 0]) Par.cur⟩
instance : ClosedOff (k0_off116 i) := ⟨![p, 0, 192, 0], congrArg (![·, 0, 192, 0]) Par.cur⟩
instance : ClosedOff (k0_off117 i) := ⟨![p, 1, 192, 0], congrArg (![·, 1, 192, 0]) Par.cur⟩
instance : ClosedOff (k0_off118 i) := ⟨![p, 2, 192, 0], congrArg (![·, 2, 192, 0]) Par.cur⟩
instance : ClosedOff (k0_off119 i) := ⟨![p, 3, 192, 0], congrArg (![·, 3, 192, 0]) Par.cur⟩
instance : ClosedOff (k0_off120 i) := ⟨![p, 4, 192, 0], congrArg (![·, 4, 192, 0]) Par.cur⟩
instance : ClosedOff (k0_off121 i) := ⟨![p, 5, 192, 0], congrArg (![·, 5, 192, 0]) Par.cur⟩
instance : ClosedOff (k0_off122 i) := ⟨![p, 6, 192, 0], congrArg (![·, 6, 192, 0]) Par.cur⟩
instance : ClosedOff (k0_off123 i) := ⟨![p, 7, 192, 0], congrArg (![·, 7, 192, 0]) Par.cur⟩
instance : ClosedOff (k0_off124 i) := ⟨![p, 8, 192, 0], congrArg (![·, 8, 192, 0]) Par.cur⟩
instance : ClosedOff (k0_off125 i) := ⟨![p, 9, 192, 0], congrArg (![·, 9, 192, 0]) Par.cur⟩
instance : ClosedOff (k0_off126 i) := ⟨![p, 10, 192, 0], congrArg (![·, 10, 192, 0]) Par.cur⟩
instance : ClosedOff (k0_off127 i) := ⟨![p, 11, 192, 0], congrArg (![·, 11, 192, 0]) Par.cur⟩
instance : ClosedOff (k0_off128 i) := ⟨![p, 12, 192, 0], congrArg (![·, 12, 192, 0]) Par.cur⟩
instance : ClosedOff (k0_off129 i) := ⟨![p, 13, 192, 0], congrArg (![·, 13, 192, 0]) Par.cur⟩
instance : ClosedOff (k0_off130 i) := ⟨![p, 14, 192, 0], congrArg (![·, 14, 192, 0]) Par.cur⟩
instance : ClosedOff (k0_off131 i) := ⟨![p, 0, 224, 0], congrArg (![·, 0, 224, 0]) Par.cur⟩
instance : ClosedOff (k0_off132 i) := ⟨![p, 1, 224, 0], congrArg (![·, 1, 224, 0]) Par.cur⟩
instance : ClosedOff (k0_off133 i) := ⟨![p, 2, 224, 0], congrArg (![·, 2, 224, 0]) Par.cur⟩
instance : ClosedOff (k0_off134 i) := ⟨![p, 3, 224, 0], congrArg (![·, 3, 224, 0]) Par.cur⟩
instance : ClosedOff (k0_off135 i) := ⟨![p, 4, 224, 0], congrArg (![·, 4, 224, 0]) Par.cur⟩
instance : ClosedOff (k0_off136 i) := ⟨![p, 5, 224, 0], congrArg (![·, 5, 224, 0]) Par.cur⟩
instance : ClosedOff (k0_off137 i) := ⟨![p, 6, 224, 0], congrArg (![·, 6, 224, 0]) Par.cur⟩
instance : ClosedOff (k0_off138 i) := ⟨![p, 7, 224, 0], congrArg (![·, 7, 224, 0]) Par.cur⟩
instance : ClosedOff (k0_off139 i) := ⟨![p, 8, 224, 0], congrArg (![·, 8, 224, 0]) Par.cur⟩
instance : ClosedOff (k0_off140 i) := ⟨![p, 9, 224, 0], congrArg (![·, 9, 224, 0]) Par.cur⟩
instance : ClosedOff (k0_off141 i) := ⟨![p, 10, 224, 0], congrArg (![·, 10, 224, 0]) Par.cur⟩
instance : ClosedOff (k0_off142 i) := ⟨![p, 11, 224, 0], congrArg (![·, 11, 224, 0]) Par.cur⟩
instance : ClosedOff (k0_off143 i) := ⟨![p, 12, 224, 0], congrArg (![·, 12, 224, 0]) Par.cur⟩
instance : ClosedOff (k0_off144 i) := ⟨![p, 13, 224, 0], congrArg (![·, 13, 224, 0]) Par.cur⟩
instance : ClosedOff (k0_off145 i) := ⟨![p, 14, 224, 0], congrArg (![·, 14, 224, 0]) Par.cur⟩

end Cert.Kernel.Own
-- ==== Proof.Bits.Common.lean ====
/-
  Names that the runs of the kernel body share: a buffer's contents and a buffer held whole.
-/
module

public import proofs.«01_k».proof.Proof.Gen.Kernel.Frame
public import proofs.«01_k».proof.Proof.Bits.Offs

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

end Cert.Kernel.Own

end
-- ==== Proof.Bits.Body.lean ====
/-
  The body obligation and the frame run of the kernel, for any description `Step` of what one run of the body makes of the
  contents it finds: the scratch meets an invariant `J`, and what the body leaves in the three output windows meets `Rl`.
-/
module

public import proofs.«01_k».proof.Proof.Bits.Common
public import Idealize.ShloMosaic.Lib.Pipeline.DatRel
public import Idealize.ShloMosaic.Lib.Pipeline.ArrRel
public import Idealize.ShloMosaic.Lib.Pipeline.Frame

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)

variable {F : FTy → Type} [FloatOps F]

local notation "𝕄" => MT nD τ sig Unit (Elt F) ℕ (UR sig nD τ) ℕ

/-- A whole memref owned at contents is its buffer held at some contents that read so. -/
theorem owns_pt (c : Dev nD) {sp : Space} {sh : Shape} {e : EltTy} {M : Memref sig .tc sp sh e} (hw : M.IsWhole) (X : sh.Idx → Elt F e) :
    (owns (c : Thread nD τ) M fullShare X : sProp 𝕄) = iprop(∃ f : Bf F c M, ⌜M.view.read (Elt F) f = X⌝ ∗ pt c M f) := by
  obtain ⟨b, hsp, hsh, he, h⟩ := hw
  subst hsp hsh he
  cases h
  exact owns_whole_eq (c : Thread nD τ) b fullShare X

/-- The contents of the four scratch buffers: the block read at the last point, its partial maxima, the two slots of codes and
    the two slots of scales. -/
structure Sc (F : FTy → Type) where
  gf : Vec F S8x480x512 .f32
  mx : Vec F S8x32x128 .f32
  code : Vec F S2x15x256x512 .fp8e4m3
  sc : Vec F S2x256x128 .f32

/-- What the body reads: the four input windows, the scales' window as found, the scratch. -/
structure In (F : FTy → Type) where
  g : Vec F S8x480x512 .f32
  w : Vec F S7680x1024 .fp8e4m3
  ws : Vec F S1x1024 .f32
  b : Vec F S1x1024 .f32
  gs : Vec F S192x128 .f32
  s : Sc F

/-- What the body leaves: the three output windows and the scratch. -/
structure Out (F : FTy → Type) where
  y : Vec F S256x1024 .bf16
  gc : Vec F S1x15x256x512 .fp8e4m3
  gs : Vec F S192x128 .f32
  s : Sc F

/-- Equal contents, buffer by buffer, are equal inputs. -/
theorem in_eq {a1 b1 : Vec F S8x480x512 .f32} {a2 b2 : Vec F S7680x1024 .fp8e4m3} {a3 b3 a4 b4 : Vec F S1x1024 .f32} {a7 b7 : Vec F S192x128 .f32}
    {a8 : Vec F S8x480x512 .f32} {a9 : Vec F S8x32x128 .f32} {a10 : Vec F S2x15x256x512 .fp8e4m3} {a11 : Vec F S2x256x128 .f32} {s : Sc F}
    (e1 : a1 = b1) (e2 : a2 = b2) (e3 : a3 = b3) (e4 : a4 = b4) (e7 : a7 = b7) (e8 : a8 = s.gf) (e9 : a9 = s.mx) (e10 : a10 = s.code) (e11 : a11 = s.sc) :
    (⟨a1, a2, a3, a4, a7, ⟨a8, a9, a10, a11⟩⟩ : In F) = ⟨b1, b2, b3, b4, b7, s⟩ := by
  subst e1 e2 e3 e4 e7 e8 e9 e10 e11; rfl

/-- The body at every grid point runs, and what it leaves is described by `Step`. -/
def Runs (Step : Fin cfg0.N → In F → Out F → Prop) : Prop :=
  ∀ (c : Dev nD) (t : Fin cfg0.N)
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11),
    ∃ W : Bf F c M5 × Bf F c M6 × Bf F c M7 × Bf F c M8 × Bf F c M9 × Bf F c M10 × Bf F c M11,
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) W.1, M6.view.read (Elt F) W.2.1, M7.view.read (Elt F) W.2.2.1,
          ⟨M8.view.read (Elt F) W.2.2.2.1, M9.view.read (Elt F) W.2.2.2.2.1, M10.view.read (Elt F) W.2.2.2.2.2.1, M11.view.read (Elt F) W.2.2.2.2.2.2⟩⟩
      ∧ ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E (cc0_kpconv (grid0.coords t) M1 h1 M2 h2 M3 h3 M4 h4 M5 h5 M6 h6 M7 h7 M8 h8 M9 h9 M10 h10 M11 h11) Q

variable (m : (ℓ : Loc nD τ sig) → Buf (Elt F) ℓ) (ρ : Dev nD → PrngReg)

/-- The invariant before point `n`: the scratch at some contents that meet `J`, the generator register at something. -/
def inv (J : Dev nD → Nat → Sc F → Prop) (c : Dev nD) (n : Nat) : sProp 𝕄 :=
  iprop((∃ s : Sc F, ⌜J c n s⌝ ∗ owns (c : Thread nD τ) (Memref.whole cc0_scratch0) fullShare s.gf
    ∗ owns (c : Thread nD τ) (Memref.whole cc0_scratch1) fullShare s.mx
    ∗ owns (c : Thread nD τ) (Memref.whole cc0_scratch2) fullShare s.code
    ∗ owns (c : Thread nD τ) (Memref.whole cc0_scratch3) fullShare s.sc) ∗ ∃ r, prngReg c r)

/-- The proof data of the one pipeline: the arrays as the region finds them; each input's buffer at its block. -/
def dat (J : Dev nD → Nat → Sc F → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := inv J c t.val
  q _ := fullShare
  owed _ := 0

/-- The output windows, which are held to a predicate. -/
def outs : Fin cfg0.W → Bool := fun w => match w with
  | ⟨0, _⟩ => false | ⟨1, _⟩ => false | ⟨2, _⟩ => false | ⟨3, _⟩ => false
  | ⟨4, _⟩ => true | ⟨5, _⟩ => true | ⟨6, _⟩ => true

/-- The predicates of the three output windows, as one family over the windows. -/
def rel (Y : Fin cfg0.N → Vec F S256x1024 .bf16 → Prop) (G : Fin cfg0.N → Vec F S1x15x256x512 .fp8e4m3 → Prop)
    (S : Fin cfg0.N → Vec F S192x128 .f32 → Prop) :
    (w : Fin cfg0.W) → Fin cfg0.N → ((cfg0.win w).block.Idx → Elt F (cfg0.win w).elt) → Prop := fun w t => match w with
  | ⟨0, _⟩ => fun _ => True | ⟨1, _⟩ => fun _ => True | ⟨2, _⟩ => fun _ => True | ⟨3, _⟩ => fun _ => True
  | ⟨4, _⟩ => fun X => Y t X | ⟨5, _⟩ => fun X => G t X | ⟨6, _⟩ => fun X => S t X

variable (Step : Fin cfg0.N → In F → Out F → Prop) (J : Dev nD → Nat → Sc F → Prop)
  (Y : Dev nD → Fin cfg0.N → Vec F S256x1024 .bf16 → Prop) (G : Dev nD → Fin cfg0.N → Vec F S1x15x256x512 .fp8e4m3 → Prop)
  (S : Dev nD → Fin cfg0.N → Vec F S192x128 .f32 → Prop)

/-- One point keeps the invariant and leaves contents that meet the output windows' predicates. -/
def Keeps : Prop := ∀ (c : Dev nD) (t : Fin cfg0.N) (x7 : Vec F S192x128 .f32) (s : Sc F) (o : Out F),
  J c t.val s → (∀ u : Fin cfg0.N, u.val + 1 = t.val → S c u x7) →
  Step t ⟨iblk m c 0 t, iblk m c 1 t, iblk m c 2 t, iblk m c 3 t, x7, s⟩ o →
  J c (t.val + 1) o.s ∧ Y c t o.y ∧ G c t o.gc ∧ S c t o.gs

/-- The data of the run: exact at the inputs, the predicates at the outputs. -/
abbrev rdat (c : Dev nD) : RDat τ (Elt F) Unit ℕ (UR sig nD τ) ℕ cfg0 c := (dat m J c).toRRel outs (rel (Y c) (G c) (S c))

omit [FloatOps F] in
/-- The scales' window is never read in. -/
theorem nofetch6 (t : Fin cfg0.N) : (cfg0.win 6).fetch t = false := by
  revert t; exact (by decide +kernel : ∀ t : Fin grid0.N, win0_6.fetch t = false)

omit [FloatOps F] in
/-- The scales' window is not written back before the last step. -/
theorem noflush6 (t : Fin cfg0.N) (h : t.val + 1 < 99) : (cfg0.win 6).flush t = false := by
  rcases hf : (cfg0.win 6).flush t
  · rfl
  · have := (flush0_6 t).mp hf; omega

/-- What the body may find in the scales' window after the first point is what it left there. -/
theorem finds6 (c : Dev nD) (t : Fin cfg0.N) (X) (h : (rdat m J Y G S c).Finds 6 t X) (u : Fin cfg0.N) (hu : u.val + 1 = t.val) : S c u X := by
  have ht : t.val ≠ 0 := by omega
  have hN : t.val < 99 := lt_of_lt_of_eq t.isLt N_0
  rcases (RDat.finds_of_pos _ (nofetch6 t) ht X).mp h with h | h
  · rw [noflush6 _ (by show t.val - 1 + 1 < 99; omega)] at h; cases h
  · have e : (⟨t.val - 1, Nat.lt_of_le_of_lt (Nat.sub_le _ _) t.isLt⟩ : Fin cfg0.N) = u := Fin.ext (by show t.val - 1 = u.val; omega)
    rw [e] at h
    exact (dat m J c).toRRel_leaves (fgt := outs) (w := 6) rfl h

set_option maxHeartbeats 4000000 in
/-- The body obligation. -/
theorem obligation (hruns : Runs Step) (hkeeps : Keeps m Step J Y G S) (c : Dev nD) :
    BodyObligationRel (dat m J c) (defs₀ (F := F)) Variants.none () Set.univ outs (rel (Y c) (G c) (S c)) := fun t => by
  rw [bigSep_W0, bigSep_W0]
  show iprop(inv J c t.val ∗ (dat m J c).owesAt () t.castSucc
    ∗ (∃ d, owns (c : Thread nD τ) (st0_0 t) fullShare ((dat m J c).before 0 t d))
    ∗ (∃ d, owns (c : Thread nD τ) (st0_1 t) fullShare ((dat m J c).before 1 t d))
    ∗ (∃ d, owns (c : Thread nD τ) (st0_2 t) fullShare ((dat m J c).before 2 t d))
    ∗ (∃ d, owns (c : Thread nD τ) (st0_3 t) fullShare ((dat m J c).before 3 t d))
    ∗ (∃ X, ⌜(rdat m J Y G S c).Finds 4 t X⌝ ∗ owns (c : Thread nD τ) (st0_4 t) fullShare X)
    ∗ (∃ X, ⌜(rdat m J Y G S c).Finds 5 t X⌝ ∗ owns (c : Thread nD τ) (st0_5 t) fullShare X)
    ∗ (∃ X, ⌜(rdat m J Y G S c).Finds 6 t X⌝ ∗ owns (c : Thread nD τ) (st0_6 t) fullShare X))
    ⊢ wp frame (wpE (defs₀ (F := F)) Variants.none c none) Set.univ (bodyAt0 t) fun _ =>
      iprop(inv J c (t.val + 1) ∗ (dat m J c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ (∃ X : Vec F S256x1024 .bf16, ⌜Y c t X⌝ ∗ owns (c : Thread nD τ) (st0_4 t) fullShare X)
        ∗ (∃ X : Vec F S1x15x256x512 .fp8e4m3, ⌜G c t X⌝ ∗ owns (c : Thread nD τ) (st0_5 t) fullShare X)
        ∗ (∃ X : Vec F S192x128 .f32, ⌜S c t X⌝ ∗ owns (c : Thread nD τ) (st0_6 t) fullShare X))
  simp only [before0_0_of m (dat m J c) rfl (fun _ => by dsimp only [dat]), before0_1_of m (dat m J c) rfl (fun _ => by dsimp only [dat]),
    before0_2_of m (dat m J c) rfl (fun _ => by dsimp only [dat]), before0_3_of m (dat m J c) rfl (fun _ => by dsimp only [dat])]
  simp only [inv, owns_pt c (M := st0_0 t) (hstage0_0 ((cfg0.slots t 0).cast nbuf0_0)), owns_pt c (M := st0_1 t) (hstage0_1 ((cfg0.slots t 1).cast nbuf0_1)),
    owns_pt c (M := st0_2 t) (hstage0_2 ((cfg0.slots t 2).cast nbuf0_2)), owns_pt c (M := st0_3 t) (hstage0_3 ((cfg0.slots t 3).cast nbuf0_3)),
    owns_pt c (M := st0_4 t) (hstage0_4 ((cfg0.slots t 4).cast nbuf0_4)), owns_pt c (M := st0_5 t) (hstage0_5 ((cfg0.slots t 5).cast nbuf0_5)),
    owns_pt c (M := st0_6 t) (hstage0_6 ((cfg0.slots t 6).cast nbuf0_6)), owns_pt c (Memref.isWhole_whole cc0_scratch0),
    owns_pt c (Memref.isWhole_whole cc0_scratch1), owns_pt c (Memref.isWhole_whole cc0_scratch2), owns_pt c (Memref.isWhole_whole cc0_scratch3)]
  unfold bodyAt0
  iintro ⟨⟨⟨%s, %hJ, ⟨%f8, %e8, H8⟩, ⟨%f9, %e9, H9⟩, ⟨%f10, %e10, H10⟩, ⟨%f11, %e11, H11⟩⟩, Hg⟩, Ho,
    ⟨%d1, %f1, %e1, H1⟩, ⟨%d2, %f2, %e2, H2⟩, ⟨%d3, %f3, %e3, H3⟩, ⟨%d4, %f4, %e4, H4⟩,
    ⟨%x5, %k5, %f5, %e5, H5⟩, ⟨%x6, %k6, %f6, %e6, H6⟩, ⟨%x7, %k7, %f7, %e7, H7⟩⟩
  obtain ⟨W, hstep, hwp⟩ := hruns c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)
    f1 f2 f3 f4 f7 f8 f9 f10 f11
  have hk := hkeeps c t x7 s _ hJ (fun u hu => finds6 m J Y G S c t x7 k7 u hu)
    (Eq.mp (congrArg (fun a => Step t a _) (in_eq e1 e2 e3 e4 e7 e8 e9 e10 e11)) hstep)
  iapply (hwp f5 f6 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H8 H9 H10 H11 Hg]
  · isplitr [Hg]
    · iexists _; isplitr; · ipureintro; exact hk.1
      isplitl [H8]; · iexists _; isplitr; swap; (· iexact H8); ipureintro; rfl
      isplitl [H9]; · iexists _; isplitr; swap; (· iexact H9); ipureintro; rfl
      isplitl [H10]; · iexists _; isplitr; swap; (· iexact H10); ipureintro; rfl
      iexists _; isplitr; swap; (· iexact H11); ipureintro; rfl
    · iexact Hg
  isplitl [Ho]; · iexact Ho
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; · ipureintro; exact hk.2.1
    iexists _; isplitr; swap; (· iexact H5); ipureintro; rfl
  isplitl [H6]
  · iexists _; isplitr; · ipureintro; exact hk.2.2.1
    iexists _; isplitr; swap; (· iexact H6); ipureintro; rfl
  iexists _; isplitr; · ipureintro; exact hk.2.2.2
  iexists _; isplitr; swap; (· iexact H7); ipureintro; rfl

/-- The frame run: every array ends at contents that the data allow. -/
theorem run_main (hruns : Runs Step) (hkeeps : Keeps m Step J Y G S) (hJ : ∀ c s, J c 0 s)
    (Q' : PUnit × MemSt nD τ sig (Elt F) → Prop)
    (hQ' : ∀ r, RDat.FramePost cfg0 (rdat m J Y G S) (V m) r ∧ r.2.sem = (fun _ => 0) → Q' r) :
    θ_run defs (onTc (τ := τ) (main (F := F))) ⟨m, fun _ => 0, ρ⟩ Q' :=
  RDat.θ_run_frame_track cfgs 0 launch0 defs₀ Variants.none (rdat m J Y G S) m ρ main
    (fun c => (obligation m Step J Y G S hruns hkeeps c).toRRel) (fun c w => by unfold RDat.share; split <;> rfl) (fun _ _ => rfl)
    (V m) (hmain m Variants.none) (fun _ _ => rfl)
    (fun c => by
      show Pipeline.ΦA spec0 c ⊢ inv J c 0
      unfold Pipeline.ΦA inv; rw [scopedRest0_eq]; simp only [owns_whole_eq]
      iintro ⟨⟨⟨%f8, H8⟩, ⟨%f9, H9⟩, ⟨%f10, H10⟩, ⟨%f11, H11⟩⟩, Hg⟩
      isplitr [Hg]
      · iexists (⟨f8, f9, f10, f11⟩ : Sc F); isplitr; · ipureintro; exact hJ c _
        isplitl [H8]; · iexists _; isplitr; swap; (· iexact H8); ipureintro; rfl
        isplitl [H9]; · iexists _; isplitr; swap; (· iexact H9); ipureintro; rfl
        isplitl [H10]; · iexists _; isplitr; swap; (· iexact H10); ipureintro; rfl
        iexists _; isplitr; swap; (· iexact H11); ipureintro; rfl
      · iexact Hg)
    (fun c => by
      show inv J c (Fin.last cfg0.N).val ⊢ Pipeline.ΦA spec0 c
      unfold Pipeline.ΦA inv; rw [scopedRest0_eq]; simp only [owns_whole_eq]
      iintro ⟨⟨%s, -, ⟨%f8, -, H8⟩, ⟨%f9, -, H9⟩, ⟨%f10, -, H10⟩, ⟨%f11, -, H11⟩⟩, Hg⟩
      isplitr [Hg]
      · isplitl [H8]; · iexists _; iexact H8
        isplitl [H9]; · iexists _; iexact H9
        isplitl [H10]; · iexists _; iexact H10
        iexists _; iexact H11
      · iexact Hg) Q' hQ'

/-- The frame: the run ends with the arguments unchanged and every counter at zero. -/
theorem frame (hruns : Runs (F := F) fun _ _ _ => True) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run_main m ρ (fun _ _ _ => True) (fun _ _ _ => True) (fun _ _ _ => True) (fun _ _ _ => True) (fun _ _ _ => True) hruns
    (fun _ _ _ _ _ _ _ _ => ⟨trivial, trivial, trivial, trivial⟩) (fun _ _ => trivial) _
    (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel.Own

end
-- ==== Proof.Bits.RunZero.lean ====
/-
  The kernel body run once at symbolic contents, at the first grid point, where the body clears its scratch. What it leaves in each buffer is found by the run.
-/
module

public import proofs.«01_k».proof.Proof.Bits.Common

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at the first grid point. -/
noncomputable def runZero (c : Dev nD) (i : grid0.Coords) (hc : Scalar.cmpi .ne ((Scalar.extui (Scalar.cmpi .eq (BitVec.ofNat 32 (i 0).val) 0#32) : BitVec 32)) 0#32 = 1#1)
    [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Own

end
-- ==== Proof.Bits.RunEven.lean ====
/-
  The kernel body run once at symbolic contents, at an even grid point after the first. What it leaves in each buffer is found by the run.
-/
module

public import proofs.«01_k».proof.Proof.Bits.Common

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at an even grid point after the first. -/
noncomputable def runEven (c : Dev nD) (i : grid0.Coords) (hc : ¬ (Scalar.cmpi .ne ((Scalar.extui (Scalar.cmpi .eq (BitVec.ofNat 32 (i 0).val) 0#32) : BitVec 32)) 0#32 = 1#1))
    [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Own

end
-- ==== Proof.Bits.RunOdd.lean ====
/-
  The kernel body run once at symbolic contents, at an odd grid point. What it leaves in each buffer is found by the run.
-/
module

public import proofs.«01_k».proof.Proof.Bits.Common

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option sl_exec.closedPieces true in
/-- The body at an odd grid point. -/
noncomputable def runOdd (c : Dev nD) (i : grid0.Coords) (hc : ¬ (Scalar.cmpi .ne ((Scalar.extui (Scalar.cmpi .eq (BitVec.ofNat 32 (i 0).val) 0#32) : BitVec 32)) 0#32 = 1#1))
    [Par i 1 0]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11) :
    { W : Bf F c M5 × Bf F c M6 × Bf F c M7 × Bf F c M8 × Bf F c M9 × Bf F c M10 × Bf F c M11 //
      ∀ (f5 : Bf F c M5) (f6 : Bf F c M6) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 W.1 ∗ pt c M6 W.2.1 ∗ pt c M7 W.2.2.1 ∗ pt c M8 W.2.2.2.1 ∗ pt c M9 W.2.2.2.2.1 ∗ pt c M10 W.2.2.2.2.2.1 ∗ pt c M11 W.2.2.2.2.2.2) -∗ Q ⟨⟩))
        ⊢ wp frame (wpE (defs₀ (F := F)) Variants.none c none) E
            (cc0_kpconv i M1 h1 M2 h2 M3 h3 M4 h4 M5 h5 M6 h6 M7 h7 M8 h8 M9 h9 M10 h10 M11 h11) Q } := by
  refine ⟨⟨?_, ?_, ?_, ?_, ?_, ?_, ?_⟩, fun f5 f6 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Own

end
-- ==== Proof.Bits.Run.lean ====
/-
  The three runs of the body put together: the body runs at every grid point, and a description that each of the three runs
  meets describes all points. With the description that says nothing this is the frame.
-/
module

public import proofs.«01_k».proof.Proof.Bits.Body
public import proofs.«01_k».proof.Proof.Bits.RunZero
public import proofs.«01_k».proof.Proof.Bits.RunEven
public import proofs.«01_k».proof.Proof.Bits.RunOdd

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)

variable {F : FTy → Type} [FloatOps F]

local notation "𝕄" => MT nD τ sig Unit (Elt F) ℕ (UR sig nD τ) ℕ

/-- The kernel's test for the first grid point. -/
abbrev First (i : grid0.Coords) : Prop :=
  Scalar.cmpi .ne ((Scalar.extui (Scalar.cmpi .eq (BitVec.ofNat 32 (i 0).val) 0#32) : BitVec 32)) 0#32 = 1#1

/-- The grid's only coordinate is the number of the step. -/
theorem coords_val : ∀ t : Fin grid0.N, ((grid0.coords t) 0).val = t.val := by decide +kernel

/-- The first step is step 0. -/
theorem first_iff (t : Fin cfg0.N) : First (grid0.coords t) ↔ t.val = 0 := by
  rw [← coords_val t]
  exact (by decide +kernel : ∀ x : Fin 99, Scalar.cmpi .ne ((Scalar.extui (Scalar.cmpi .eq (BitVec.ofNat 32 x.val) 0#32) : BitVec 32)) 0#32 = 1#1 ↔ x.val = 0)
    ((grid0.coords t) 0)

/-- A description that each of the three runs meets describes the body at every point. -/
theorem runs_of (Step : Fin cfg0.N → In F → Out F → Prop)
    (hZ : ∀ (c : Dev nD) (t : Fin cfg0.N) (h : First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runZero c (grid0.coords t) h M1 h1 M2 h2 M3 h3 M4 h4 M5 h5 M6 h6 M7 h7 M8 h8 M9 h9 M10 h10 M11 h11 f1 f2 f3 f4 f7 f8 f9 f10 f11).1.1,
          M6.view.read (Elt F) (runZero c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runZero c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.2⟩⟩)
    (hE : ∀ (c : Dev nD) (t : Fin cfg0.N) (h : ¬ First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runEven c (grid0.coords t) h M1 h1 M2 h2 M3 h3 M4 h4 M5 h5 M6 h6 M7 h7 M8 h8 M9 h9 M10 h10 M11 h11 f1 f2 f3 f4 f7 f8 f9 f10 f11).1.1,
          M6.view.read (Elt F) (runEven c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runEven c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.2⟩⟩)
    (hO : ∀ (c : Dev nD) (t : Fin cfg0.N) (h : ¬ First (grid0.coords t)) [Par (grid0.coords t) 1 0]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 1 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runOdd c (grid0.coords t) h M1 h1 M2 h2 M3 h3 M4 h4 M5 h5 M6 h6 M7 h7 M8 h8 M9 h9 M10 h10 M11 h11 f1 f2 f3 f4 f7 f8 f9 f10 f11).1.1,
          M6.view.read (Elt F) (runOdd c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.2⟩⟩) : Runs Step := by
  intro c t M1 h1 M2 h2 M3 h3 M4 h4 M5 h5 M6 h6 M7 h7 M8 h8 M9 h9 M10 h10 M11 h11 f1 f2 f3 f4 f7 f8 f9 f10 f11
  by_cases h : First (grid0.coords t)
  · have h0 : t.val = 0 := (first_iff t).mp h
    haveI := par_even (grid0.coords t) (by rw [coords_val t, h0])
    exact ⟨_, hZ c t h M1 h1 M2 h2 M3 h3 M4 h4 M5 h5 M6 h6 M7 h7 M8 h8 M9 h9 M10 h10 M11 h11 f1 f2 f3 f4 f7 f8 f9 f10 f11 h0, (runZero c (grid0.coords t) h M1 h1 M2 h2 M3 h3 M4 h4 M5 h5 M6 h6 M7 h7 M8 h8 M9 h9 M10 h10 M11 h11 f1 f2 f3 f4 f7 f8 f9 f10 f11).2⟩
  · rcases Nat.mod_two_eq_zero_or_one t.val with h0 | h0
    · haveI := par_even (grid0.coords t) (by rw [coords_val t, h0])
      exact ⟨_, hE c t h M1 h1 M2 h2 M3 h3 M4 h4 M5 h5 M6 h6 M7 h7 M8 h8 M9 h9 M10 h10 M11 h11 f1 f2 f3 f4 f7 f8 f9 f10 f11 h0, (runEven c (grid0.coords t) h M1 h1 M2 h2 M3 h3 M4 h4 M5 h5 M6 h6 M7 h7 M8 h8 M9 h9 M10 h10 M11 h11 f1 f2 f3 f4 f7 f8 f9 f10 f11).2⟩
    · haveI := par_odd (grid0.coords t) (by rw [coords_val t, h0])
      exact ⟨_, hO c t h M1 h1 M2 h2 M3 h3 M4 h4 M5 h5 M6 h6 M7 h7 M8 h8 M9 h9 M10 h10 M11 h11 f1 f2 f3 f4 f7 f8 f9 f10 f11 h0, (runOdd c (grid0.coords t) h M1 h1 M2 h2 M3 h3 M4 h4 M5 h5 M6 h6 M7 h7 M8 h8 M9 h9 M10 h10 M11 h11 f1 f2 f3 f4 f7 f8 f9 f10 f11).2⟩

/-- The body runs at every point. -/
theorem runs : Runs (F := F) fun _ _ _ => True :=
  runs_of _ (by intros; trivial) (by intros; trivial) (by intros; trivial)

end Cert.Kernel.Own

end
-- ==== Proof.Spec.lean ====
/-
  What the kernel body computes, tile by tile, as functions of whole arrays. The body repeats the same few steps for each of
  its tiles; each step is named once here, and each store of the body is shown to be one of these functions on its tile.
-/
module

public import proofs.«01_k».proof.Proof.Common
public import Idealize.ShloMosaic.Lib.Pipeline.ReadBack
public import Idealize.ShloMosaic.Lib.Ring
public import Idealize.ShloMosaic.Lib.WritesUnit

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]

/-- An index of a unit-stride rectangle, placed: the offset plus the index. -/
theorem emb_unit_val {s : Shape} (off size : Fin s.rank → ℕ) (inb) (j : (Rect.unit off size inb).shape.Idx) (a : Fin s.rank) :
    ((Rect.unit off size inb).emb j a : ℕ) = off a + (j a : ℕ) := by
  rw [Rect.emb_apply]; show off a + 1 * (j a : ℕ) = _; omega

/-- An index of a unit-stride rectangle, coordinate by coordinate: the offset plus the index inside. -/
theorem idx_unit_val {s : Shape} (off size : Fin s.rank → ℕ) (inb) (j : (Rect.unit off size inb).shape.Idx) (a : Fin s.rank) :
    ((Rect.unit off size inb).idx j a : ℕ) = off a + (j a : ℕ) := emb_unit_val off size inb j a

/-- Pieces that tile the part of the shape whose block index along axis `a0` is `p` cover it. -/
theorem cover_slot {Val : EltTy → Type} {s : Shape} {e : EltTy} (L : List (View.Piece Val s e)) (size : Fin s.rank → ℕ) (a0 : Fin s.rank) (p : ℕ)
    (h : decide ((∀ a, 0 < size a ∧ size a ∣ s.size a)
      ∧ ∀ ix : ((a : Fin s.rank) → Fin (s.size a / size a)), (ix a0).val = p →
          ∃ p ∈ L, (∀ a, p.1.off a = ix a * size a) ∧ (∀ a, p.1.size a = size a) ∧ ∀ a, p.1.stride a = 1) = true)
    (y : s.Idx) (hy : (y a0).val / size a0 = p) : ∃ p ∈ L, y ∈ p.1.set := by
  obtain ⟨hsz, h⟩ := of_decide_eq_true h
  have hix (a : Fin s.rank) : (y a).val / size a < s.size a / size a := by
    refine (Nat.div_lt_iff_lt_mul (hsz a).1).mpr ?_
    have h₁ := (y a).isLt
    have h₂ : s.size a / size a * size a = s.size a := Nat.div_mul_cancel (hsz a).2
    omega
  obtain ⟨p, hp, hoff, hsize, hstride⟩ := h (fun a => ⟨(y a).val / size a, hix a⟩) hy
  refine ⟨p, hp, p.1.mem_set.mpr fun a => ⟨(y a).val % size a, ?_, ?_⟩⟩
  · rw [hsize]; exact Nat.mod_lt _ (hsz a).1
  · rw [hoff, hstride, Nat.one_mul]; exact (Nat.div_add_mod' _ _).symm

/-- What writes that are blocks of `G` leave at an index that one of them covers. -/
theorem read_pieces {κ : Kind} {sp : Space} {s : Shape} {e : EltTy} (v : View sig κ sp s e) (f : v.ty.Contents (Elt F)) {G : s.Idx → Elt F e}
    {L : List (View.Piece (Elt F) s e)} (hp : View.PiecesOf G L) (y : s.Idx) (hc : ∃ p ∈ L, y ∈ p.1.set) :
    v.read (Elt F) (v.writes (Elt F) f L) y = G y := by
  rw [View.read_writes_apply_eq_canon v f y L hc]
  have h := View.canon_append_of_piecesOf G [] L hp y hc
  rwa [List.append_nil] at h

/-- The same when the last `n` writes are blocks of `G`, whatever came before them. -/
theorem read_take {κ : Kind} {sp : Space} {s : Shape} {e : EltTy} (v : View sig κ sp s e) (f : v.ty.Contents (Elt F)) {G : s.Idx → Elt F e}
    {L : List (View.Piece (Elt F) s e)} (n : ℕ) (hp : View.PiecesOf G (L.take n)) (y : s.Idx) (hc : ∃ p ∈ L.take n, y ∈ p.1.set) :
    v.read (Elt F) (v.writes (Elt F) f L) y = G y := by
  rw [View.read_writes_apply_eq_canon v f y L (hc.imp fun p h => ⟨List.mem_of_mem_take h.1, h.2⟩)]
  have h := View.canon_append_of_piecesOf G (L.drop n) (L.take n) hp y hc
  rwa [List.take_append_drop] at h

/-- Tile `q` (32 rows) of the partial maxima. -/
def mxT (x9 : Vec F S8x32x128 .f32) (q : ℕ) : Vec F S1x32x128 .f32 :=
  View.ld x9 (Rect.unit (s := S8x32x128) ![q % 8, 0, 0] S1x32x128.size (by
    intro a; have := Nat.mod_lt q (show 0 < 8 by decide)
    match a with
    | ⟨0, _⟩ => show q % 8 + 1 ≤ 8; omega
    | ⟨1, _⟩ => show 0 + 32 ≤ 32; omega
    | ⟨2, _⟩ => show 0 + 128 ≤ 128; omega))

/-- The 32 rows of kernel point `k` in tile `q` of the block. -/
def gT (x8 : Vec F S8x480x512 .f32) (q k : ℕ) : Vec F S1x32x512 .f32 :=
  View.ld x8 (Rect.unit (s := S8x480x512) ![q % 8, 32 * (k % 15), 0] S1x32x512.size (by
    intro a; have := Nat.mod_lt q (show 0 < 8 by decide); have := Nat.mod_lt k (show 0 < 15 by decide)
    match a with
    | ⟨0, _⟩ => show q % 8 + 1 ≤ 8; omega
    | ⟨1, _⟩ => show 32 * (k % 15) + 32 ≤ 480; omega
    | ⟨2, _⟩ => show 0 + 512 ≤ 512; omega))

/-- The exponents of a tile's rows, the same in each of the 128 lanes. -/
def eV (v : Vec F S1x32x128 .f32) : IVec S32x128 32 := k0_pay6 v

/-- The scales of a tile's rows. -/
def scV (v : Vec F S1x32x128 .f32) : FVec F S32x128 .f32 := k0_pay8 (eV v)

/-- The inverse scales of a tile's rows. -/
def invV (v : Vec F S1x32x128 .f32) : FVec F S32x128 .f32 := k0_pay7 (eV v) 127#32

/-- The codes of one kernel point in a tile. -/
def codeV (v : Vec F S1x32x128 .f32) (u : Vec F S1x32x512 .f32) : FVec F S32x512 .fp8e4m3 := k0_pay56 (invV v) u

/-- The index of a row and a lane in a tile's codes. -/
abbrev ixC (r c : ℕ) : S32x512.Idx := fun a => match a with | ⟨0, _⟩ => ⟨r % 32, Nat.mod_lt _ (by decide)⟩ | ⟨1, _⟩ => ⟨c % 512, Nat.mod_lt _ (by decide)⟩

/-- The index of a row and a lane in a tile's scales. -/
abbrev ixS (r l : ℕ) : S32x128.Idx := fun a => match a with | ⟨0, _⟩ => ⟨r % 32, Nat.mod_lt _ (by decide)⟩ | ⟨1, _⟩ => ⟨l % 128, Nat.mod_lt _ (by decide)⟩

/-- The codes of a block: of each row, with the tile's partial maxima. -/
def codeAt (x8 : Vec F S8x480x512 .f32) (x9 : Vec F S8x32x128 .f32) (k r c : ℕ) : Elt F .fp8e4m3 :=
  codeV (mxT x9 (r / 32)) (gT x8 (r / 32) k) (ixC r c)

/-- The scales of a block, row by row. -/
def scAt (x9 : Vec F S8x32x128 .f32) (r l : ℕ) : Elt F .f32 := scV (mxT x9 (r / 32)) (ixS r l)

/-- A tile of codes, entry by entry. -/
theorem codeTile_apply (x8 : Vec F S8x480x512 .f32) (x9 : Vec F S8x32x128 .f32) (q k : ℕ) (j : S1x1x32x512.Idx) :
    shapeCast S1x1x32x512 (codeV (mxT x9 q) (gT x8 q k)) shapeCasts_S32x512_S1x1x32x512 j = codeAt x8 x9 k (32 * q + (j 2).val) (j 3).val := by
  have h0 : (j 0).val < 1 := (j 0).isLt
  have h1 : (j 1).val < 1 := (j 1).isLt
  have h2 : (j 2).val < 32 := (j 2).isLt
  have h3 : (j 3).val < 512 := (j 3).isLt
  rw [shapeCast_apply _ _ j (ixC (j 2).val (j 3).val) (by
    rw [Shape.rowMajor_val_two, Shape.rowMajor_val_four]
    show (j 2).val % 32 * 512 + (j 3).val % 512 = (((j 0).val * 1 + (j 1).val) * 32 + (j 2).val) * 512 + (j 3).val
    omega)]
  have e : (32 * q + (j 2).val) / 32 = q := by omega
  have e' : ixC (32 * q + (j 2).val) (j 3).val = ixC (j 2).val (j 3).val := by
    funext a; match a with
    | ⟨0, _⟩ => exact Fin.ext (show (32 * q + (j 2).val) % 32 = (j 2).val % 32 by omega)
    | ⟨1, _⟩ => rfl
  unfold codeAt
  rw [e, e']

/-- The codes of a block in the window. -/
def codeG6 (x8 : Vec F S8x480x512 .f32) (x9 : Vec F S8x32x128 .f32) : Vec F S1x15x256x512 .fp8e4m3 :=
  fun j => codeAt x8 x9 (j 1).val (j 2).val (j 3).val

/-- Codes stored at rows `o 2 …` of kernel point `o 1` are the block's codes there. -/
theorem codeCons6 {x8 : Vec F S8x480x512 .f32} {x9 : Vec F S8x32x128 .f32} {o : Fin 4 → ℕ} {inb} {P : FVec F S1x1x32x512 .fp8e4m3} {L}
    (h2 : 32 * (o 2 / 32) = o 2) (h3 : o 3 = 0)
    (hP : P = shapeCast S1x1x32x512 (codeV (mxT x9 (o 2 / 32)) (gT x8 (o 2 / 32) (o 1))) shapeCasts_S32x512_S1x1x32x512)
    (hL : View.PiecesOf (codeG6 x8 x9) L) :
    View.PiecesOf (codeG6 x8 x9) (⟨Rect.unit (s := S1x15x256x512) o S1x1x32x512.size inb, P⟩ :: L) := by
  refine ⟨fun y => ?_, hL⟩
  have h1 : (y 1).val < 1 := (y 1).isLt
  show P y = codeAt x8 x9 _ _ _
  rw [hP, codeTile_apply]
  simp only [emb_unit_val]
  congr 1 <;> omega

/-- The codes of a block in a slot of the scratch. -/
def codeG10 (x8 : Vec F S8x480x512 .f32) (x9 : Vec F S8x32x128 .f32) : Vec F S2x15x256x512 .fp8e4m3 :=
  fun j => codeAt x8 x9 (j 1).val (j 2).val (j 3).val

/-- Codes stored at rows `o 2 …` of kernel point `o 1` are the block's codes there. -/
theorem codeCons10 {x8 : Vec F S8x480x512 .f32} {x9 : Vec F S8x32x128 .f32} {o : Fin 4 → ℕ} {inb} {P : FVec F S1x1x32x512 .fp8e4m3} {L}
    (h2 : 32 * (o 2 / 32) = o 2) (h3 : o 3 = 0)
    (hP : P = shapeCast S1x1x32x512 (codeV (mxT x9 (o 2 / 32)) (gT x8 (o 2 / 32) (o 1))) shapeCasts_S32x512_S1x1x32x512)
    (hL : View.PiecesOf (codeG10 x8 x9) L) :
    View.PiecesOf (codeG10 x8 x9) (⟨Rect.unit (s := S2x15x256x512) o S1x1x32x512.size inb, P⟩ :: L) := by
  refine ⟨fun y => ?_, hL⟩
  have h1 : (y 1).val < 1 := (y 1).isLt
  show P y = codeAt x8 x9 _ _ _
  rw [hP, codeTile_apply]
  simp only [emb_unit_val]
  congr 1 <;> omega

/-! ### The scales of a block -/

/-- The scales of a block in a slot of the scratch. -/
def scG (x9 : Vec F S8x32x128 .f32) : Vec F S2x256x128 .f32 := fun j => scAt x9 (j 1).val (j 2).val

/-- Scales stored at rows `o 1 …` are the block's scales there. -/
theorem scCons {x9 : Vec F S8x32x128 .f32} {o : Fin 3 → ℕ} {inb} {P : FVec F S1x32x128 .f32} {L}
    (h1 : 32 * (o 1 / 32) = o 1) (h2 : o 2 = 0)
    (hP : P = shapeCast S1x32x128 (scV (mxT x9 (o 1 / 32))) shapeCasts_S32x128_S1x32x128) (hL : View.PiecesOf (scG x9) L) :
    View.PiecesOf (scG x9) (⟨Rect.unit (s := S2x256x128) o S1x32x128.size inb, P⟩ :: L) := by
  refine ⟨fun y => ?_, hL⟩
  have y0 : (y 0).val < 1 := (y 0).isLt
  have y1 : (y 1).val < 32 := (y 1).isLt
  have y2 : (y 2).val < 128 := (y 2).isLt
  show P y = scAt x9 _ _
  rw [hP]
  refine (shapeCast_apply _ _ y (ixS (y 1).val (y 2).val) (by
    rw [Shape.rowMajor_val_two, Shape.rowMajor_val_three]
    show (y 1).val % 32 * 128 + (y 2).val % 128 = ((y 0).val * 32 + (y 1).val) * 128 + (y 2).val
    omega)).trans ?_
  simp only [emb_unit_val]
  have e : (o 1 + (y 1).val) / 32 = o 1 / 32 := by omega
  have e' : ixS (o 1 + (y 1).val) (o 2 + (y 2).val) = ixS (y 1).val (y 2).val := by
    funext a; match a with
    | ⟨0, _⟩ => exact Fin.ext (show (o 1 + (y 1).val) % 32 = (y 1).val % 32 by omega)
    | ⟨1, _⟩ => exact Fin.ext (show (o 2 + (y 2).val) % 128 = (y 2).val % 128 by omega)
  unfold scAt
  rw [e, e']

/-! ### The block copied and its partial maxima -/

/-- Tile `q` of the block. -/
def bT (x1 : Vec F S8x480x512 .f32) (q : ℕ) : Vec F S1x480x512 .f32 :=
  View.ld x1 (Rect.unit (s := S8x480x512) ![q % 8, 0, 0] S1x480x512.size (by
    intro a; have := Nat.mod_lt q (show 0 < 8 by decide)
    match a with
    | ⟨0, _⟩ => show q % 8 + 1 ≤ 8; omega
    | ⟨1, _⟩ => show 0 + 480 ≤ 480; omega
    | ⟨2, _⟩ => show 0 + 512 ≤ 512; omega))

/-- A tile copied is the tile. -/
theorem gfCons {x1 : Vec F S8x480x512 .f32} {o : Fin 3 → ℕ} {inb} {P : FVec F S1x480x512 .f32} {L} (h0 : o 0 % 8 = o 0) (h1 : o 1 = 0) (h2 : o 2 = 0)
    (hP : P = k0_pay558 (bT x1 (o 0))) (hL : View.PiecesOf x1 L) :
    View.PiecesOf x1 (⟨Rect.unit (s := S8x480x512) o S1x480x512.size inb, P⟩ :: L) := by
  refine ⟨fun y => ?_, hL⟩
  show P y = _
  rw [hP]
  show shapeCast S1x480x512 (shapeCast S480x512 (bT x1 (o 0)) shapeCasts_S1x480x512_S480x512) shapeCasts_S480x512_S1x480x512 y = _
  rw [shapeCast_shapeCast]
  refine congrArg x1 ?_
  funext a
  refine Fin.ext ?_
  refine (idx_unit_val (s := S8x480x512) ![o 0 % 8, 0, 0] _ _ y a).trans (Eq.trans ?_ (emb_unit_val (s := S8x480x512) o _ inb y a).symm)
  match a with
  | ⟨0, _⟩ => exact congrArg (· + (y 0).val) h0
  | ⟨1, _⟩ => exact congrArg (· + (y 1).val) h1.symm
  | ⟨2, _⟩ => exact congrArg (· + (y 2).val) h2.symm

/-- The partial maxima of a tile: over the 15 kernel points and the 4 groups of 128 lanes. -/
def mxV (x : Vec F S1x480x512 .f32) : FVec F S1x32x128 .f32 :=
  k0_pay565 (k0_pay557 x) (k0_pay563 (k0_pay557 x) (k0_pay561 (k0_pay557 x) (k0_pay559 x) (k0_pay560 x)) (k0_pay562 (k0_pay557 x))) (k0_pay564 (k0_pay557 x))

/-- The index of a row and a lane in a tile of partial maxima. -/
abbrev ixM (r l : ℕ) : S1x32x128.Idx := fun a => match a with
  | ⟨0, _⟩ => ⟨0, Nat.one_pos⟩ | ⟨1, _⟩ => ⟨r % 32, Nat.mod_lt _ (by decide)⟩ | ⟨2, _⟩ => ⟨l % 128, Nat.mod_lt _ (by decide)⟩

/-- The partial maxima of a block. -/
def mxG (x1 : Vec F S8x480x512 .f32) : Vec F S8x32x128 .f32 := fun j => mxV (bT x1 (j 0).val) (ixM (j 1).val (j 2).val)

/-- The partial maxima stored for tile `o 0` are the block's. -/
theorem mxCons {x1 : Vec F S8x480x512 .f32} {o : Fin 3 → ℕ} {inb} {P : FVec F S1x32x128 .f32} {L} (h1 : o 1 = 0) (h2 : o 2 = 0)
    (hP : P = mxV (bT x1 (o 0))) (hL : View.PiecesOf (mxG x1) L) :
    View.PiecesOf (mxG x1) (⟨Rect.unit (s := S8x32x128) o S1x32x128.size inb, P⟩ :: L) := by
  refine ⟨fun y => ?_, hL⟩
  have y0 : (y 0).val < 1 := (y 0).isLt
  have y1 : (y 1).val < 32 := (y 1).isLt
  have y2 : (y 2).val < 128 := (y 2).isLt
  show P y = mxV (bT x1 _) (ixM _ _)
  simp only [emb_unit_val]
  have e : o 0 + (y 0).val = o 0 := by omega
  have e' : ixM (o 1 + (y 1).val) (o 2 + (y 2).val) = y := by
    funext a; match a with
    | ⟨0, _⟩ => exact Fin.ext (show 0 = (y 0).val by omega)
    | ⟨1, _⟩ => exact Fin.ext (show (o 1 + (y 1).val) % 32 = (y 1).val by omega)
    | ⟨2, _⟩ => exact Fin.ext (show (o 2 + (y 2).val) % 128 = (y 2).val by omega)
  rw [hP, e, e']

/-! ### The product -/

/-- One kernel point's codes as a matrix. -/
def sq (x : Vec F S1x1x256x512 .fp8e4m3) : FVec F S256x512 .fp8e4m3 := shapeCast S256x512 x shapeCasts_S1x1x256x512_S256x512

/-- The product of a block's codes with 256 columns of the weights. -/
def accV (cd : Fin 15 → Vec F S1x1x256x512 .fp8e4m3) (w : Vec F S7680x256 .fp8e4m3) : FVec F S256x256 .f32 :=
  k0_pay111 (sq (cd 0)) (sq (cd 1)) (sq (cd 2)) (sq (cd 3)) (sq (cd 4)) (sq (cd 5)) (sq (cd 6)) (sq (cd 7)) (sq (cd 8)) (sq (cd 9)) (cd 10) (cd 11) (cd 12) (cd 13) (cd 14) w

/-- 128 columns of the result, from the first half of a product. -/
def yE (cd : Fin 15 → Vec F S1x1x256x512 .fp8e4m3) (w : Vec F S7680x256 .fp8e4m3) (sc : Vec F S1x256x128 .f32) (ws b : Vec F S1x128 .f32) : FVec F S256x128 .bf16 :=
  k0_pay113 (sq (cd 0)) (sq (cd 1)) (sq (cd 2)) (sq (cd 3)) (sq (cd 4)) (sq (cd 5)) (sq (cd 6)) (sq (cd 7)) (sq (cd 8)) (sq (cd 9)) (cd 10) (cd 11) (cd 12) (cd 13) (cd 14) w sc ws b

/-- 128 columns of the result, from the second half of a product. -/
def yO (cd : Fin 15 → Vec F S1x1x256x512 .fp8e4m3) (w : Vec F S7680x256 .fp8e4m3) (sc : Vec F S1x256x128 .f32) (ws b : Vec F S1x128 .f32) : FVec F S256x128 .bf16 :=
  k0_pay114 (accV cd w) (k0_pay112 sc) ws b

/-- Columns `256 q …` of the weights. -/
def wT (x2 : Vec F S7680x1024 .fp8e4m3) (q : ℕ) : Vec F S7680x256 .fp8e4m3 :=
  View.ld x2 (Rect.unit (s := S7680x1024) ![0, 256 * (q % 4)] S7680x256.size (by
    intro a; have := Nat.mod_lt q (show 0 < 4 by decide)
    match a with
    | ⟨0, _⟩ => show 0 + 7680 ≤ 7680; omega
    | ⟨1, _⟩ => show 256 * (q % 4) + 256 ≤ 1024; omega))

/-- Columns `128 l …` of a row of 1024. -/
def rT (x3 : Vec F S1x1024 .f32) (l : ℕ) : Vec F S1x128 .f32 :=
  View.ld x3 (Rect.unit (s := S1x1024) ![0, 128 * (l % 8)] S1x128.size (by
    intro a; have := Nat.mod_lt l (show 0 < 8 by decide)
    match a with
    | ⟨0, _⟩ => show 0 + 1 ≤ 1; omega
    | ⟨1, _⟩ => show 128 * (l % 8) + 128 ≤ 1024; omega))

/-- Columns `128 l …` of the result. -/
def yV (cd : Fin 15 → Vec F S1x1x256x512 .fp8e4m3) (sc : Vec F S1x256x128 .f32) (x2 : Vec F S7680x1024 .fp8e4m3) (x3 x4 : Vec F S1x1024 .f32) (l : ℕ) :
    FVec F S256x128 .bf16 :=
  if l % 2 = 0 then yE cd (wT x2 (l / 2)) sc (rT x3 l) (rT x4 l) else yO cd (wT x2 (l / 2)) sc (rT x3 l) (rT x4 l)

/-- The index of a row and a column in 128 columns of the result. -/
abbrev ixY (r c : ℕ) : S256x128.Idx := fun a => match a with | ⟨0, _⟩ => ⟨r % 256, Nat.mod_lt _ (by decide)⟩ | ⟨1, _⟩ => ⟨c % 128, Nat.mod_lt _ (by decide)⟩

/-- The result of a block. -/
def yG (cd : Fin 15 → Vec F S1x1x256x512 .fp8e4m3) (sc : Vec F S1x256x128 .f32) (x2 : Vec F S7680x1024 .fp8e4m3) (x3 x4 : Vec F S1x1024 .f32) :
    Vec F S256x1024 .bf16 :=
  fun j => yV cd sc x2 x3 x4 ((j 1).val / 128) (ixY (j 0).val (j 1).val)

/-- Columns stored at `o 1 …` are the result's. -/
theorem yCons {cd : Fin 15 → Vec F S1x1x256x512 .fp8e4m3} {sc : Vec F S1x256x128 .f32} {x2 : Vec F S7680x1024 .fp8e4m3} {x3 x4 : Vec F S1x1024 .f32}
    {o : Fin 2 → ℕ} {inb} {P : FVec F S256x128 .bf16} {L} (h0 : o 0 = 0) (h1 : 128 * (o 1 / 128) = o 1)
    (hP : P = yV cd sc x2 x3 x4 (o 1 / 128)) (hL : View.PiecesOf (yG cd sc x2 x3 x4) L) :
    View.PiecesOf (yG cd sc x2 x3 x4) (⟨Rect.unit (s := S256x1024) o S256x128.size inb, P⟩ :: L) := by
  refine ⟨fun y => ?_, hL⟩
  have y0 : (y 0).val < 256 := (y 0).isLt
  have y1 : (y 1).val < 128 := (y 1).isLt
  show P y = yV cd sc x2 x3 x4 _ (ixY _ _)
  simp only [emb_unit_val]
  have e : (o 1 + (y 1).val) / 128 = o 1 / 128 := by omega
  have e' : ixY (o 0 + (y 0).val) (o 1 + (y 1).val) = y := by
    funext a; match a with
    | ⟨0, _⟩ => exact Fin.ext (show (o 0 + (y 0).val) % 256 = (y 0).val by omega)
    | ⟨1, _⟩ => exact Fin.ext (show (o 1 + (y 1).val) % 128 = (y 1).val by omega)
  rw [hP, e, e']

/-- The codes that the body reads at a grid point, kernel point by kernel point. -/
def cdR (i : grid0.Coords) (x10 : Vec F S2x15x256x512 .fp8e4m3) : Fin 15 → Vec F S1x1x256x512 .fp8e4m3 :=
  ![View.ld x10 (Rect.unit (s := S2x15x256x512) (k0_off25 i) S1x1x256x512.size (k0_off25_inb i)),
    View.ld x10 (Rect.unit (s := S2x15x256x512) (k0_off26 i) S1x1x256x512.size (k0_off26_inb i)),
    View.ld x10 (Rect.unit (s := S2x15x256x512) (k0_off27 i) S1x1x256x512.size (k0_off27_inb i)),
    View.ld x10 (Rect.unit (s := S2x15x256x512) (k0_off28 i) S1x1x256x512.size (k0_off28_inb i)),
    View.ld x10 (Rect.unit (s := S2x15x256x512) (k0_off29 i) S1x1x256x512.size (k0_off29_inb i)),
    View.ld x10 (Rect.unit (s := S2x15x256x512) (k0_off30 i) S1x1x256x512.size (k0_off30_inb i)),
    View.ld x10 (Rect.unit (s := S2x15x256x512) (k0_off31 i) S1x1x256x512.size (k0_off31_inb i)),
    View.ld x10 (Rect.unit (s := S2x15x256x512) (k0_off32 i) S1x1x256x512.size (k0_off32_inb i)),
    View.ld x10 (Rect.unit (s := S2x15x256x512) (k0_off33 i) S1x1x256x512.size (k0_off33_inb i)),
    View.ld x10 (Rect.unit (s := S2x15x256x512) (k0_off34 i) S1x1x256x512.size (k0_off34_inb i)),
    View.ld x10 (Rect.unit (s := S2x15x256x512) (k0_off35 i) S1x1x256x512.size (k0_off35_inb i)),
    View.ld x10 (Rect.unit (s := S2x15x256x512) (k0_off36 i) S1x1x256x512.size (k0_off36_inb i)),
    View.ld x10 (Rect.unit (s := S2x15x256x512) (k0_off37 i) S1x1x256x512.size (k0_off37_inb i)),
    View.ld x10 (Rect.unit (s := S2x15x256x512) (k0_off38 i) S1x1x256x512.size (k0_off38_inb i)),
    View.ld x10 (Rect.unit (s := S2x15x256x512) (k0_off39 i) S1x1x256x512.size (k0_off39_inb i))]

/-- The scales that the body reads at a grid point. -/
def scR (i : grid0.Coords) (x11 : Vec F S2x256x128 .f32) : Vec F S1x256x128 .f32 :=
  View.ld x11 (Rect.unit (s := S2x256x128) (k0_off40 i) S1x256x128.size (k0_off40_inb i))

/-- The index of slot `p`, kernel point `k` of the codes' scratch. -/
abbrev ixD (p : ℕ) (k : Fin 15) (y : S1x1x256x512.Idx) : S2x15x256x512.Idx := fun a => match a with
  | ⟨0, _⟩ => ⟨p % 2, Nat.mod_lt _ (by decide)⟩ | ⟨1, _⟩ => k | ⟨2, _⟩ => y 2 | ⟨3, _⟩ => y 3

/-- A load of one kernel point of slot `p`. -/
theorem ld10 (x10 : Vec F S2x15x256x512 .fp8e4m3) {p k : ℕ} (hk : k < 15) {o : Fin 4 → ℕ} {inb} (ho : o = ![p, k, 0, 0]) (hp : p < 2)
    (y : S1x1x256x512.Idx) :
    View.ld x10 (Rect.unit (s := S2x15x256x512) o S1x1x256x512.size inb) y = x10 (ixD p ⟨k, hk⟩ y) := by
  have y0 : (y 0).val < 1 := (y 0).isLt
  have y1 : (y 1).val < 1 := (y 1).isLt
  subst ho
  refine congrArg x10 ?_
  funext a
  refine Fin.ext ?_
  refine (idx_unit_val (s := S2x15x256x512) _ _ _ y a).trans ?_
  match a with
  | ⟨0, _⟩ => show p + (y 0).val = p % 2; omega
  | ⟨1, _⟩ => show k + (y 1).val = k; omega
  | ⟨2, _⟩ => show 0 + (y 2).val = (y 2).val; omega
  | ⟨3, _⟩ => show 0 + (y 3).val = (y 3).val; omega

/-- What the body reads is the other slot. -/
theorem cdR_apply (i : grid0.Coords) {p p' : ℕ} [Par i p p'] (hp : p' < 2) (x10 : Vec F S2x15x256x512 .fp8e4m3) :
    ∀ (k : Fin 15) (y : S1x1x256x512.Idx), cdR i x10 k y = x10 (ixD p' k y) := by
  intro k y
  fin_cases k <;> exact ld10 x10 _ (ClosedOff.eq) hp y

/-- The same for the scales. -/
theorem scR_apply (i : grid0.Coords) {p p' : ℕ} [Par i p p'] (hp : p' < 2) (x11 : Vec F S2x256x128 .f32) (y : S1x256x128.Idx) :
    scR i x11 y = x11 (fun a => match a with | ⟨0, _⟩ => ⟨p' % 2, Nat.mod_lt _ (by decide)⟩ | ⟨1, _⟩ => y 1 | ⟨2, _⟩ => y 2) := by
  have y0 : (y 0).val < 1 := (y 0).isLt
  have h : k0_off40 i = ![p', 0, 0] := congrArg (![·, 0, 0]) Par.prv
  refine congrArg x11 ?_
  funext a
  refine Fin.ext ?_
  refine (idx_unit_val (s := S2x256x128) _ _ _ y a).trans ((congrArg (fun f : Fin 3 → ℕ => f a + (y a).val) h).trans ?_)
  match a with
  | ⟨0, _⟩ => show p' + (y 0).val = p' % 2; omega
  | ⟨1, _⟩ => show 0 + (y 1).val = (y 1).val; omega
  | ⟨2, _⟩ => show 0 + (y 2).val = (y 2).val; omega

/-! ### The rows of scales -/

/-- A tile's scales laid along a row of 128: row `o + r` of the tile at lane `o + r`, zero elsewhere. -/
def rowV (o : BitVec 32) (v : Vec F S1x32x128 .f32) : FVec F S1x128 .f32 :=
  shapeCast S1x128 (multiReduction .add [0] S128
    (select (cmpi .eq (addi (iota .tc S32x128 32 [0] iota_S32x128_d0_w32) (broadcast S32x128 o)) (iota .tc S32x128 32 [1] iota_S32x128_d1_w32))
      (scV v) (broadcast S32x128 (Scalar.ofBits .f32 0x00000000#32))) 0x00000000#32 reduces_S32x128_S128 (.inl rfl) rfl) shapeCasts_S128_S1x128

/-- The scales of four tiles laid along a row of 128. -/
def rowsV (x9 : Vec F S8x32x128 .f32) (g : ℕ) : FVec F S1x128 .f32 :=
  k0_pay54 (rowV 0#32 (mxT x9 (4 * g))) (rowV 32#32 (mxT x9 (4 * g + 1))) (rowV 64#32 (mxT x9 (4 * g + 2))) (rowV 96#32 (mxT x9 (4 * g + 3)))

/-- Lane `l` of a one-row array. -/
def ixL (l : Fin 128) : S1x128.Idx := fun a => match a with | ⟨0, _⟩ => ⟨0, Nat.one_pos⟩ | ⟨1, _⟩ => l

/-- The scales' window after a point: the two rows of the block that the point quantises, the rest as found. -/
def gsG (i : grid0.Coords) (x7 : Vec F S192x128 .f32) (x9 : Vec F S8x32x128 .f32) : Vec F S192x128 .f32 := fun j =>
  if (j 0).val = k0_off9 i 1#32 0 then rowsV x9 1 (ixL (j 1))
  else if (j 0).val = k0_off9 i 0#32 0 then rowsV x9 0 (ixL (j 1))
  else x7 j

/-- Two rows stored into an array of 128 columns, the last on top. -/
theorem read_two_rows {κ : Kind} {sp : Space} (v : View sig κ sp S192x128 .f32) (f : v.ty.Contents (Elt F)) (o1 o0 : Fin 2 → ℕ)
    (i1 : ∀ a, o1 a + S1x128.size a ≤ S192x128.size a) (i0 : ∀ a, o0 a + S1x128.size a ≤ S192x128.size a) (e1 : o1 = ![o1 0, 0]) (e0 : o0 = ![o0 0, 0])
    (w1 w0 : Vec F S1x128 .f32) (y : S192x128.Idx) :
    v.read (Elt F) (v.writes (Elt F) f [⟨Rect.unit (s := S192x128) o1 S1x128.size i1, w1⟩, ⟨Rect.unit (s := S192x128) o0 S1x128.size i0, w0⟩]) y
      = if (y 0).val = o1 0 then w1 (ixL (y 1))
        else if (y 0).val = o0 0 then w0 (ixL (y 1)) else v.read (Elt F) f y := by
  by_cases h1 : (y 0).val = o1 0
  · rw [if_pos h1]
    exact View.read_writes_cons_rows_of_mem v f i1 w1 [⟨Rect.unit (s := S192x128) o0 S1x128.size i0, w0⟩] y (ixL (y 1)) e1 h1 rfl
  · rw [if_neg h1]
    refine (View.read_writes_cons_rows_of_not_mem (W := 1) v f i1 w1 _ y e1 rfl (by omega)).trans ?_
    by_cases h0 : (y 0).val = o0 0
    · rw [if_pos h0]
      exact View.read_writes_cons_rows_of_mem v f i0 w0 [] y (ixL (y 1)) e0 h0 rfl
    · rw [if_neg h0]
      exact View.read_writes_cons_rows_of_not_mem (W := 1) v f i0 w0 _ y e0 rfl (by omega)

/-- Two rows stored into the scales' window. -/
theorem read_rows (i : grid0.Coords) {κ : Kind} {sp : Space} (v : View sig κ sp S192x128 .f32) (f : v.ty.Contents (Elt F)) (x9 : Vec F S8x32x128 .f32) (y : S192x128.Idx) :
    v.read (Elt F) (v.writes (Elt F) f [⟨Rect.unit (s := S192x128) (k0_off9 i 1#32) S1x128.size (k0_off9_inb i 1), rowsV x9 1⟩,
      ⟨Rect.unit (s := S192x128) (k0_off9 i 0#32) S1x128.size (k0_off9_inb i 0), rowsV x9 0⟩]) y = gsG i (v.read (Elt F) f) x9 y :=
  read_two_rows v f _ _ (k0_off9_inb i 1) (k0_off9_inb i 0) (by funext a; match a with | ⟨0, _⟩ => rfl | ⟨1, _⟩ => rfl)
    (by funext a; match a with | ⟨0, _⟩ => rfl | ⟨1, _⟩ => rfl) (rowsV x9 1) (rowsV x9 0) y

end Cert.KernelIdeal.Own

end
-- ==== Proof.ListOdd.lean ====
/-
  The stores of the body at an odd grid point, list by list: each list is blocks of one array, and the blocks cover what the point leaves.
-/
module

public import proofs.«01_k».proof.Proof.Spec
public import proofs.«01_k».proof.Proof.RunOdd
public import Idealize.ShloMosaic.Lib.Ring

@[expose] public section

set_option maxRecDepth 16384
set_option maxHeartbeats 4000000

noncomputable section

namespace Cert.KernelIdeal.Own

open Cert.KernelIdeal Cert.KernelIdeal.Gen
open Idealize.ShloMosaic Idealize.ShloMosaic.TcCoe

variable {F : FTy → Type} [FloatOps F] (c : Dev nD) (i : grid0.Coords) [Par i 1 0]
  (M1 : Memref sig .tc .vmem S8x480x512 .f32) (M2 : Memref sig .tc .vmem S7680x1024 .fp8e4m3) (M3 M4 : Memref sig .tc .vmem S1x1024 .f32)
  (M8 : Memref sig .tc .vmem S8x480x512 .f32) (M9 : Memref sig .tc .vmem S8x32x128 .f32)
  (M10 : Memref sig .tc .vmem S2x15x256x512 .fp8e4m3) (M11 : Memref sig .tc .vmem S2x256x128 .f32)
  (f1 : Bf F c M1) (f2 : Bf F c M2) (f3 : Bf F c M3) (f4 : Bf F c M4) (f8 : Bf F c M8) (f9 : Bf F c M9) (f10 : Bf F c M10) (f11 : Bf F c M11)

namespace Odd

/-- Every store of a step into the codes' window writes a piece of one and the same array. -/
theorem pieces6 : View.PiecesOf (codeG6 (M8.view.read (Elt F) f8) (M9.view.read (Elt F) f9)) (runOdd.sl.H6_120 c M8 M9 f8 f9) := by
  iterate 120 refine codeCons6 rfl rfl rfl ?_
  exact trivial

/-- Every store of a step into the codes' scratch buffer writes a piece of one and the same array. -/
theorem pieces10 : View.PiecesOf (codeG10 (M8.view.read (Elt F) f8) (M9.view.read (Elt F) f9)) (runOdd.sl.H10_120 c i M8 M9 f8 f9) := by
  iterate 120 refine codeCons10 rfl rfl rfl ?_
  exact trivial

/-- Every store of a step into the scales' scratch buffer writes a piece of one and the same array. -/
theorem pieces11 : View.PiecesOf (scG (M9.view.read (Elt F) f9)) (runOdd.sl.H11_8 c i M9 f9) := by
  iterate 8 refine scCons rfl rfl rfl ?_
  exact trivial

/-- Every store of a step into the features' scratch buffer writes a piece of one and the same array. -/
theorem pieces8 : View.PiecesOf (M1.view.read (Elt F) f1) (runOdd.sl.H8_8 c M1 f1) := by
  iterate 8 refine gfCons rfl rfl rfl rfl ?_
  exact trivial

/-- Every store of a step into the maxima's scratch buffer writes a piece of one and the same array. -/
theorem pieces9 : View.PiecesOf (mxG (M1.view.read (Elt F) f1)) (runOdd.sl.H9_8 c M1 f1) := by
  iterate 8 refine mxCons rfl rfl rfl ?_
  exact trivial

/-- Every store of a step into the product's window writes a piece of one and the same array. -/
theorem pieces5 : View.PiecesOf (yG (cdR i (M10.view.read (Elt F) f10)) (scR i (M11.view.read (Elt F) f11)) (M2.view.read (Elt F) f2) (M3.view.read (Elt F) f3) (M4.view.read (Elt F) f4))
    (runOdd.sl.H5_8 c i M2 M3 M4 M10 M11 f2 f3 f4 f10 f11) := by
  iterate 8 refine yCons rfl rfl rfl ?_
  exact trivial

/-- The two stores of a step into the scales' window: one row for each half of the block. -/
theorem pieces7 : runOdd.sl.H7_2 c i M9 f9 = [⟨Rect.unit (s := S192x128) (k0_off9 i 1#32) S1x128.size (k0_off9_inb i 1), rowsV (M9.view.read (Elt F) f9) 1⟩,
    ⟨Rect.unit (s := S192x128) (k0_off9 i 0#32) S1x128.size (k0_off9_inb i 0), rowsV (M9.view.read (Elt F) f9) 0⟩] := rfl

/-- The stores of a step into the codes' window reach every entry that the step is to write. -/
theorem cover6 (y : S1x15x256x512.Idx) : ∃ p ∈ runOdd.sl.H6_120 c M8 M9 f8 f9, y ∈ p.1.set := View.cover_of_tiledL _ ![1, 1, 32, 512] (by rfl) y

/-- The stores of a step into the codes' scratch buffer reach every entry that the step is to write. -/
theorem cover10 (y : S2x15x256x512.Idx) (hy : (y 0).val = 1) : ∃ p ∈ runOdd.sl.H10_120 c i M8 M9 f8 f9, y ∈ p.1.set :=
  cover_slot _ ![1, 1, 32, 512] 0 1 (by rfl) y ((Nat.div_one _).trans hy)

/-- The stores of a step into the scales' scratch buffer reach every entry that the step is to write. -/
theorem cover11 (y : S2x256x128.Idx) (hy : (y 0).val = 1) : ∃ p ∈ runOdd.sl.H11_8 c i M9 f9, y ∈ p.1.set :=
  cover_slot _ ![1, 32, 128] 0 1 (by rfl) y ((Nat.div_one _).trans hy)

/-- The stores of a step into the features' scratch buffer reach every entry that the step is to write. -/
theorem cover8 (y : S8x480x512.Idx) : ∃ p ∈ runOdd.sl.H8_8 c M1 f1, y ∈ p.1.set := View.cover_of_tiledL _ ![1, 480, 512] (by rfl) y

/-- The stores of a step into the maxima's scratch buffer reach every entry that the step is to write. -/
theorem cover9 (y : S8x32x128.Idx) : ∃ p ∈ runOdd.sl.H9_8 c M1 f1, y ∈ p.1.set := View.cover_of_tiledL _ ![1, 32, 128] (by rfl) y

/-- The stores of a step into the product's window reach every entry that the step is to write. -/
theorem cover5 (y : S256x1024.Idx) : ∃ p ∈ runOdd.sl.H5_8 c i M2 M3 M4 M10 M11 f2 f3 f4 f10 f11, y ∈ p.1.set :=
  View.cover_of_tiledL _ ![256, 128] (by rfl) y

end Odd

end Cert.KernelIdeal.Own

end
-- ==== Proof.ListEven.lean ====
/-
  The stores of the body at an even grid point, list by list: each list is blocks of one array, and the blocks cover what the point leaves.
-/
module

public import proofs.«01_k».proof.Proof.Spec
public import proofs.«01_k».proof.Proof.RunEven
public import Idealize.ShloMosaic.Lib.Ring

@[expose] public section

set_option maxRecDepth 16384
set_option maxHeartbeats 4000000

noncomputable section

namespace Cert.KernelIdeal.Own

open Cert.KernelIdeal Cert.KernelIdeal.Gen
open Idealize.ShloMosaic Idealize.ShloMosaic.TcCoe

variable {F : FTy → Type} [FloatOps F] (c : Dev nD) (i : grid0.Coords) [Par i 0 1]
  (M1 : Memref sig .tc .vmem S8x480x512 .f32) (M2 : Memref sig .tc .vmem S7680x1024 .fp8e4m3) (M3 M4 : Memref sig .tc .vmem S1x1024 .f32)
  (M8 : Memref sig .tc .vmem S8x480x512 .f32) (M9 : Memref sig .tc .vmem S8x32x128 .f32)
  (M10 : Memref sig .tc .vmem S2x15x256x512 .fp8e4m3) (M11 : Memref sig .tc .vmem S2x256x128 .f32)
  (f1 : Bf F c M1) (f2 : Bf F c M2) (f3 : Bf F c M3) (f4 : Bf F c M4) (f8 : Bf F c M8) (f9 : Bf F c M9) (f10 : Bf F c M10) (f11 : Bf F c M11)

namespace Even

/-- Every store of a step into the codes' window writes a piece of one and the same array. -/
theorem pieces6 : View.PiecesOf (codeG6 (M8.view.read (Elt F) f8) (M9.view.read (Elt F) f9)) (runEven.sl.H6_120 c M8 M9 f8 f9) := by
  iterate 120 refine codeCons6 rfl rfl rfl ?_
  exact trivial

/-- Every store of a step into the codes' scratch buffer writes a piece of one and the same array. -/
theorem pieces10 : View.PiecesOf (codeG10 (M8.view.read (Elt F) f8) (M9.view.read (Elt F) f9)) (runEven.sl.H10_120 c i M8 M9 f8 f9) := by
  iterate 120 refine codeCons10 rfl rfl rfl ?_
  exact trivial

/-- Every store of a step into the scales' scratch buffer writes a piece of one and the same array. -/
theorem pieces11 : View.PiecesOf (scG (M9.view.read (Elt F) f9)) (runEven.sl.H11_8 c i M9 f9) := by
  iterate 8 refine scCons rfl rfl rfl ?_
  exact trivial

/-- Every store of a step into the features' scratch buffer writes a piece of one and the same array. -/
theorem pieces8 : View.PiecesOf (M1.view.read (Elt F) f1) (runEven.sl.H8_8 c M1 f1) := by
  iterate 8 refine gfCons rfl rfl rfl rfl ?_
  exact trivial

/-- Every store of a step into the maxima's scratch buffer writes a piece of one and the same array. -/
theorem pieces9 : View.PiecesOf (mxG (M1.view.read (Elt F) f1)) (runEven.sl.H9_8 c M1 f1) := by
  iterate 8 refine mxCons rfl rfl rfl ?_
  exact trivial

/-- Every store of a step into the product's window writes a piece of one and the same array. -/
theorem pieces5 : View.PiecesOf (yG (cdR i (M10.view.read (Elt F) f10)) (scR i (M11.view.read (Elt F) f11)) (M2.view.read (Elt F) f2) (M3.view.read (Elt F) f3) (M4.view.read (Elt F) f4))
    (runEven.sl.H5_8 c i M2 M3 M4 M10 M11 f2 f3 f4 f10 f11) := by
  iterate 8 refine yCons rfl rfl rfl ?_
  exact trivial

/-- The two stores of a step into the scales' window: one row for each half of the block. -/
theorem pieces7 : runEven.sl.H7_2 c i M9 f9 = [⟨Rect.unit (s := S192x128) (k0_off9 i 1#32) S1x128.size (k0_off9_inb i 1), rowsV (M9.view.read (Elt F) f9) 1⟩,
    ⟨Rect.unit (s := S192x128) (k0_off9 i 0#32) S1x128.size (k0_off9_inb i 0), rowsV (M9.view.read (Elt F) f9) 0⟩] := rfl

/-- The stores of a step into the codes' window reach every entry that the step is to write. -/
theorem cover6 (y : S1x15x256x512.Idx) : ∃ p ∈ runEven.sl.H6_120 c M8 M9 f8 f9, y ∈ p.1.set := View.cover_of_tiledL _ ![1, 1, 32, 512] (by rfl) y

/-- The stores of a step into the codes' scratch buffer reach every entry that the step is to write. -/
theorem cover10 (y : S2x15x256x512.Idx) (hy : (y 0).val = 0) : ∃ p ∈ runEven.sl.H10_120 c i M8 M9 f8 f9, y ∈ p.1.set :=
  cover_slot _ ![1, 1, 32, 512] 0 0 (by rfl) y ((Nat.div_one _).trans hy)

/-- The stores of a step into the scales' scratch buffer reach every entry that the step is to write. -/
theorem cover11 (y : S2x256x128.Idx) (hy : (y 0).val = 0) : ∃ p ∈ runEven.sl.H11_8 c i M9 f9, y ∈ p.1.set :=
  cover_slot _ ![1, 32, 128] 0 0 (by rfl) y ((Nat.div_one _).trans hy)

/-- The stores of a step into the features' scratch buffer reach every entry that the step is to write. -/
theorem cover8 (y : S8x480x512.Idx) : ∃ p ∈ runEven.sl.H8_8 c M1 f1, y ∈ p.1.set := View.cover_of_tiledL _ ![1, 480, 512] (by rfl) y

/-- The stores of a step into the maxima's scratch buffer reach every entry that the step is to write. -/
theorem cover9 (y : S8x32x128.Idx) : ∃ p ∈ runEven.sl.H9_8 c M1 f1, y ∈ p.1.set := View.cover_of_tiledL _ ![1, 32, 128] (by rfl) y

/-- The stores of a step into the product's window reach every entry that the step is to write. -/
theorem cover5 (y : S256x1024.Idx) : ∃ p ∈ runEven.sl.H5_8 c i M2 M3 M4 M10 M11 f2 f3 f4 f10 f11, y ∈ p.1.set :=
  View.cover_of_tiledL _ ![256, 128] (by rfl) y

end Even

end Cert.KernelIdeal.Own

end
-- ==== Proof.ListZero.lean ====
/-
  The stores of the body at the first grid point, list by list: each list is blocks of one array, and the blocks cover what the point leaves.
-/
module

public import proofs.«01_k».proof.Proof.Spec
public import proofs.«01_k».proof.Proof.RunZero
public import Idealize.ShloMosaic.Lib.Ring

@[expose] public section

set_option maxRecDepth 16384
set_option maxHeartbeats 4000000

noncomputable section

namespace Cert.KernelIdeal.Own

open Cert.KernelIdeal Cert.KernelIdeal.Gen
open Idealize.ShloMosaic Idealize.ShloMosaic.TcCoe

variable {F : FTy → Type} [FloatOps F] (c : Dev nD) (i : grid0.Coords)
  (M1 : Memref sig .tc .vmem S8x480x512 .f32) (M2 : Memref sig .tc .vmem S7680x1024 .fp8e4m3) (M3 M4 : Memref sig .tc .vmem S1x1024 .f32)
  (M8 : Memref sig .tc .vmem S8x480x512 .f32) (M9 : Memref sig .tc .vmem S8x32x128 .f32)
  (M10 : Memref sig .tc .vmem S2x15x256x512 .fp8e4m3) (M11 : Memref sig .tc .vmem S2x256x128 .f32)
  (f1 : Bf F c M1) (f2 : Bf F c M2) (f3 : Bf F c M3) (f4 : Bf F c M4) (f8 : Bf F c M8) (f9 : Bf F c M9) (f10 : Bf F c M10) (f11 : Bf F c M11)

namespace Zero

/-- Every store of a step into the features' scratch buffer writes a piece of one and the same array. -/
theorem pieces8 : View.PiecesOf (M1.view.read (Elt F) f1) ((runZero.sl.H8_9 c M1 f1).take 8) := by
  iterate 8 refine gfCons rfl rfl rfl rfl ?_
  exact trivial

/-- Every store of a step into the maxima's scratch buffer writes a piece of one and the same array. -/
theorem pieces9 : View.PiecesOf (mxG (M1.view.read (Elt F) f1)) ((runZero.sl.H9_9 c M1 f1).take 8) := by
  iterate 8 refine mxCons rfl rfl rfl ?_
  exact trivial

/-- The stores of a step into the features' scratch buffer reach every entry that the step is to write. -/
theorem cover8 (y : S8x480x512.Idx) : ∃ p ∈ (runZero.sl.H8_9 c M1 f1).take 8, y ∈ p.1.set := View.cover_of_tiledL _ ![1, 480, 512] (by rfl) y

/-- The stores of a step into the maxima's scratch buffer reach every entry that the step is to write. -/
theorem cover9 (y : S8x32x128.Idx) : ∃ p ∈ (runZero.sl.H9_9 c M1 f1).take 8, y ∈ p.1.set := View.cover_of_tiledL _ ![1, 32, 128] (by rfl) y

end Zero

end Cert.KernelIdeal.Own

end
-- ==== Proof.Step.lean ====
/-
  What one run of the body makes of the contents that it finds, as equations between whole arrays (`Step`), and that every run
  of the body meets them.
-/
module

public import proofs.«01_k».proof.Proof.ListOdd
public import proofs.«01_k».proof.Proof.ListEven
public import proofs.«01_k».proof.Proof.ListZero
public import proofs.«01_k».proof.Proof.Run

@[expose] public section

set_option maxRecDepth 16384
set_option maxHeartbeats 400000

noncomputable section

namespace Cert.KernelIdeal.Own

open Cert.KernelIdeal Cert.KernelIdeal.Gen
open Idealize.ShloMosaic Idealize.ShloMosaic.TcCoe

variable {F : FTy → Type} [FloatOps F]

namespace Even

section

variable (c : Dev nD) (i : grid0.Coords) (h : ¬ First i) [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11)

/-- What the step leaves in the product's window. -/
theorem val5 : (runEven c i h M1 h1 M2 h2 M3 h3 M4 h4 M5 h5 M6 h6 M7 h7 M8 h8 M9 h9 M10 h10 M11 h11 f1 f2 f3 f4 f7 f8 f9 f10 f11).1.1
    = M5.view.writes (Elt F) M5.view.junk (runEven.sl.H5_8 c i M2 M3 M4 M10 M11 f2 f3 f4 f10 f11) := by
  delta runEven; dsimp only

/-- What the step leaves in the codes' window. -/
theorem val6 : (runEven c i h M1 h1 M2 h2 M3 h3 M4 h4 M5 h5 M6 h6 M7 h7 M8 h8 M9 h9 M10 h10 M11 h11 f1 f2 f3 f4 f7 f8 f9 f10 f11).1.2.1
    = M6.view.writes (Elt F) M6.view.junk (runEven.sl.H6_120 c M8 M9 f8 f9) := by
  delta runEven; dsimp only

/-- What the step leaves in the scales' window. -/
theorem val7 : (runEven c i h M1 h1 M2 h2 M3 h3 M4 h4 M5 h5 M6 h6 M7 h7 M8 h8 M9 h9 M10 h10 M11 h11 f1 f2 f3 f4 f7 f8 f9 f10 f11).1.2.2.1
    = M7.view.writes (Elt F) f7 (runEven.sl.H7_2 c i M9 f9) := by
  delta runEven; dsimp only

/-- What the step leaves in the features' scratch buffer. -/
theorem val8 : (runEven c i h M1 h1 M2 h2 M3 h3 M4 h4 M5 h5 M6 h6 M7 h7 M8 h8 M9 h9 M10 h10 M11 h11 f1 f2 f3 f4 f7 f8 f9 f10 f11).1.2.2.2.1
    = M8.view.writes (Elt F) M8.view.junk (runEven.sl.H8_8 c M1 f1) := by
  delta runEven; dsimp only

/-- What the step leaves in the maxima's scratch buffer. -/
theorem val9 : (runEven c i h M1 h1 M2 h2 M3 h3 M4 h4 M5 h5 M6 h6 M7 h7 M8 h8 M9 h9 M10 h10 M11 h11 f1 f2 f3 f4 f7 f8 f9 f10 f11).1.2.2.2.2.1
    = M9.view.writes (Elt F) M9.view.junk (runEven.sl.H9_8 c M1 f1) := by
  delta runEven; dsimp only

/-- What the step leaves in the codes' scratch buffer. -/
theorem val10 : (runEven c i h M1 h1 M2 h2 M3 h3 M4 h4 M5 h5 M6 h6 M7 h7 M8 h8 M9 h9 M10 h10 M11 h11 f1 f2 f3 f4 f7 f8 f9 f10 f11).1.2.2.2.2.2.1
    = M10.view.writes (Elt F) f10 (runEven.sl.H10_120 c i M8 M9 f8 f9) := by
  delta runEven; dsimp only

/-- What the step leaves in the scales' scratch buffer. -/
theorem val11 : (runEven c i h M1 h1 M2 h2 M3 h3 M4 h4 M5 h5 M6 h6 M7 h7 M8 h8 M9 h9 M10 h10 M11 h11 f1 f2 f3 f4 f7 f8 f9 f10 f11).1.2.2.2.2.2.2
    = M11.view.writes (Elt F) f11 (runEven.sl.H11_8 c i M9 f9) := by
  delta runEven; dsimp only

end

end Even

namespace Odd

section

variable (c : Dev nD) (i : grid0.Coords) (h : ¬ First i) [Par i 1 0]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11)

/-- What the step leaves in the product's window. -/
theorem val5 : (runOdd c i h M1 h1 M2 h2 M3 h3 M4 h4 M5 h5 M6 h6 M7 h7 M8 h8 M9 h9 M10 h10 M11 h11 f1 f2 f3 f4 f7 f8 f9 f10 f11).1.1
    = M5.view.writes (Elt F) M5.view.junk (runOdd.sl.H5_8 c i M2 M3 M4 M10 M11 f2 f3 f4 f10 f11) := by
  delta runOdd; dsimp only

/-- What the step leaves in the codes' window. -/
theorem val6 : (runOdd c i h M1 h1 M2 h2 M3 h3 M4 h4 M5 h5 M6 h6 M7 h7 M8 h8 M9 h9 M10 h10 M11 h11 f1 f2 f3 f4 f7 f8 f9 f10 f11).1.2.1
    = M6.view.writes (Elt F) M6.view.junk (runOdd.sl.H6_120 c M8 M9 f8 f9) := by
  delta runOdd; dsimp only

/-- What the step leaves in the scales' window. -/
theorem val7 : (runOdd c i h M1 h1 M2 h2 M3 h3 M4 h4 M5 h5 M6 h6 M7 h7 M8 h8 M9 h9 M10 h10 M11 h11 f1 f2 f3 f4 f7 f8 f9 f10 f11).1.2.2.1
    = M7.view.writes (Elt F) f7 (runOdd.sl.H7_2 c i M9 f9) := by
  delta runOdd; dsimp only

/-- What the step leaves in the features' scratch buffer. -/
theorem val8 : (runOdd c i h M1 h1 M2 h2 M3 h3 M4 h4 M5 h5 M6 h6 M7 h7 M8 h8 M9 h9 M10 h10 M11 h11 f1 f2 f3 f4 f7 f8 f9 f10 f11).1.2.2.2.1
    = M8.view.writes (Elt F) M8.view.junk (runOdd.sl.H8_8 c M1 f1) := by
  delta runOdd; dsimp only

/-- What the step leaves in the maxima's scratch buffer. -/
theorem val9 : (runOdd c i h M1 h1 M2 h2 M3 h3 M4 h4 M5 h5 M6 h6 M7 h7 M8 h8 M9 h9 M10 h10 M11 h11 f1 f2 f3 f4 f7 f8 f9 f10 f11).1.2.2.2.2.1
    = M9.view.writes (Elt F) M9.view.junk (runOdd.sl.H9_8 c M1 f1) := by
  delta runOdd; dsimp only

/-- What the step leaves in the codes' scratch buffer. -/
theorem val10 : (runOdd c i h M1 h1 M2 h2 M3 h3 M4 h4 M5 h5 M6 h6 M7 h7 M8 h8 M9 h9 M10 h10 M11 h11 f1 f2 f3 f4 f7 f8 f9 f10 f11).1.2.2.2.2.2.1
    = M10.view.writes (Elt F) f10 (runOdd.sl.H10_120 c i M8 M9 f8 f9) := by
  delta runOdd; dsimp only

/-- What the step leaves in the scales' scratch buffer. -/
theorem val11 : (runOdd c i h M1 h1 M2 h2 M3 h3 M4 h4 M5 h5 M6 h6 M7 h7 M8 h8 M9 h9 M10 h10 M11 h11 f1 f2 f3 f4 f7 f8 f9 f10 f11).1.2.2.2.2.2.2
    = M11.view.writes (Elt F) f11 (runOdd.sl.H11_8 c i M9 f9) := by
  delta runOdd; dsimp only

end

end Odd

namespace Zero

section

variable (c : Dev nD) (i : grid0.Coords) (h : First i) [Par i 0 1]
    (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
    (f1 : Bf F c M1) (f2 : Bf F c M2) (f3 : Bf F c M3) (f4 : Bf F c M4) (f7 : Bf F c M7) (f8 : Bf F c M8) (f9 : Bf F c M9) (f10 : Bf F c M10) (f11 : Bf F c M11)

/-- What the step leaves in the features' scratch buffer. -/
theorem val8 : (runZero c i h M1 h1 M2 h2 M3 h3 M4 h4 M5 h5 M6 h6 M7 h7 M8 h8 M9 h9 M10 h10 M11 h11 f1 f2 f3 f4 f7 f8 f9 f10 f11).1.2.2.2.1
    = M8.view.writes (Elt F) M8.view.junk (runZero.sl.H8_9 c M1 f1) := by
  delta runZero; dsimp only

/-- What the step leaves in the maxima's scratch buffer. -/
theorem val9 : (runZero c i h M1 h1 M2 h2 M3 h3 M4 h4 M5 h5 M6 h6 M7 h7 M8 h8 M9 h9 M10 h10 M11 h11 f1 f2 f3 f4 f7 f8 f9 f10 f11).1.2.2.2.2.1
    = M9.view.writes (Elt F) M9.view.junk (runZero.sl.H9_9 c M1 f1) := by
  delta runZero; dsimp only

end

end Zero

/-- One run of the body: the block and its partial maxima go into the scratch; after the first point the block before it is
    quantised into a slot, into the codes' window and into its rows of the scales' window, and the other slot's codes are multiplied. -/
def Step (t : Fin cfg0.N) (a : In F) (o : Out F) : Prop :=
  o.s.gf = a.g ∧ o.s.mx = mxG a.g ∧ (t.val ≠ 0 →
    (∀ j : S2x15x256x512.Idx, (j 0).val = t.val % 2 → o.s.code j = codeG10 a.s.gf a.s.mx j)
    ∧ (∀ j : S2x256x128.Idx, (j 0).val = t.val % 2 → o.s.sc j = scG a.s.mx j)
    ∧ o.gc = codeG6 a.s.gf a.s.mx
    ∧ o.y = yG (cdR (grid0.coords t) a.s.code) (scR (grid0.coords t) a.s.sc) a.w a.ws a.b
    ∧ o.gs = gsG (grid0.coords t) a.gs a.s.mx)

/-- An even step but the first takes the invariant from its number to the next. -/
theorem step_even : ∀ (c : Dev nD) (t : Fin cfg0.N) (h : ¬ First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runEven c (grid0.coords t) h M1 h1 M2 h2 M3 h3 M4 h4 M5 h5 M6 h6 M7 h7 M8 h8 M9 h9 M10 h10 M11 h11 f1 f2 f3 f4 f7 f8 f9 f10 f11).1.1,
          M6.view.read (Elt F) (runEven c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runEven c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runEven c (grid0.coords t) h M1 h1 M2 h2 M3 h3 M4 h4 M5 h5 M6 h6 M7 h7 M8 h8 M9 h9 M10 h10 M11 h11 f1 f2 f3 f4 f7 f8 f9 f10 f11).1.2.2.2.2.2.2⟩⟩ := by
  intro c t h _ M1 h1 M2 h2 M3 h3 M4 h4 M5 h5 M6 h6 M7 h7 M8 h8 M9 h9 M10 h10 M11 h11 f1 f2 f3 f4 f7 f8 f9 f10 f11 ht
  refine ⟨funext fun y => (congrArg (fun f => M8.view.read (Elt F) f y) (Even.val8 c (grid0.coords t) h M1 h1 M2 h2 M3 h3 M4 h4 M5 h5 M6 h6 M7 h7 M8 h8 M9 h9 M10 h10 M11 h11 f1 f2 f3 f4 f7 f8 f9 f10 f11)).trans (read_pieces M8.view _ (Even.pieces8 c M1 f1) y (Even.cover8 c M1 f1 y)),
    funext fun y => (congrArg (fun f => M9.view.read (Elt F) f y) (Even.val9 c (grid0.coords t) h M1 h1 M2 h2 M3 h3 M4 h4 M5 h5 M6 h6 M7 h7 M8 h8 M9 h9 M10 h10 M11 h11 f1 f2 f3 f4 f7 f8 f9 f10 f11)).trans (read_pieces M9.view _ (Even.pieces9 c M1 f1) y (Even.cover9 c M1 f1 y)), fun _ => ⟨fun y hy => ?_, fun y hy => ?_, ?_, ?_, ?_⟩⟩
  · refine (congrArg (fun f => M10.view.read (Elt F) f y) (Even.val10 c (grid0.coords t) h M1 h1 M2 h2 M3 h3 M4 h4 M5 h5 M6 h6 M7 h7 M8 h8 M9 h9 M10 h10 M11 h11 f1 f2 f3 f4 f7 f8 f9 f10 f11)).trans ?_
    exact read_pieces M10.view _ (Even.pieces10 c (grid0.coords t) M8 M9 f8 f9) y (Even.cover10 c (grid0.coords t) M8 M9 f8 f9 y (hy.trans ht))
  · refine (congrArg (fun f => M11.view.read (Elt F) f y) (Even.val11 c (grid0.coords t) h M1 h1 M2 h2 M3 h3 M4 h4 M5 h5 M6 h6 M7 h7 M8 h8 M9 h9 M10 h10 M11 h11 f1 f2 f3 f4 f7 f8 f9 f10 f11)).trans ?_
    exact read_pieces M11.view _ (Even.pieces11 c (grid0.coords t) M9 f9) y (Even.cover11 c (grid0.coords t) M9 f9 y (hy.trans ht))
  · refine funext fun y => (congrArg (fun f => M6.view.read (Elt F) f y) (Even.val6 c (grid0.coords t) h M1 h1 M2 h2 M3 h3 M4 h4 M5 h5 M6 h6 M7 h7 M8 h8 M9 h9 M10 h10 M11 h11 f1 f2 f3 f4 f7 f8 f9 f10 f11)).trans ?_
    exact read_pieces M6.view _ (Even.pieces6 c M8 M9 f8 f9) y (Even.cover6 c M8 M9 f8 f9 y)
  · refine funext fun y => (congrArg (fun f => M5.view.read (Elt F) f y) (Even.val5 c (grid0.coords t) h M1 h1 M2 h2 M3 h3 M4 h4 M5 h5 M6 h6 M7 h7 M8 h8 M9 h9 M10 h10 M11 h11 f1 f2 f3 f4 f7 f8 f9 f10 f11)).trans ?_
    exact read_pieces M5.view _ (Even.pieces5 c (grid0.coords t) M2 M3 M4 M10 M11 f2 f3 f4 f10 f11) y (Even.cover5 c (grid0.coords t) M2 M3 M4 M10 M11 f2 f3 f4 f10 f11 y)
  · refine funext fun y => (congrArg (fun f => M7.view.read (Elt F) f y) (Even.val7 c (grid0.coords t) h M1 h1 M2 h2 M3 h3 M4 h4 M5 h5 M6 h6 M7 h7 M8 h8 M9 h9 M10 h10 M11 h11 f1 f2 f3 f4 f7 f8 f9 f10 f11)).trans ?_
    exact (congrArg (fun L => M7.view.read (Elt F) (M7.view.writes (Elt F) f7 L) y) (Even.pieces7 c (grid0.coords t) M9 f9)).trans (read_rows (grid0.coords t) M7.view f7 (M9.view.read (Elt F) f9) y)

/-- An odd step takes the invariant from its number to the next. -/
theorem step_odd : ∀ (c : Dev nD) (t : Fin cfg0.N) (h : ¬ First (grid0.coords t)) [Par (grid0.coords t) 1 0]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val % 2 = 1 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runOdd c (grid0.coords t) h M1 h1 M2 h2 M3 h3 M4 h4 M5 h5 M6 h6 M7 h7 M8 h8 M9 h9 M10 h10 M11 h11 f1 f2 f3 f4 f7 f8 f9 f10 f11).1.1,
          M6.view.read (Elt F) (runOdd c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runOdd c (grid0.coords t) h M1 h1 M2 h2 M3 h3 M4 h4 M5 h5 M6 h6 M7 h7 M8 h8 M9 h9 M10 h10 M11 h11 f1 f2 f3 f4 f7 f8 f9 f10 f11).1.2.2.2.2.2.2⟩⟩ := by
  intro c t h _ M1 h1 M2 h2 M3 h3 M4 h4 M5 h5 M6 h6 M7 h7 M8 h8 M9 h9 M10 h10 M11 h11 f1 f2 f3 f4 f7 f8 f9 f10 f11 ht
  refine ⟨funext fun y => (congrArg (fun f => M8.view.read (Elt F) f y) (Odd.val8 c (grid0.coords t) h M1 h1 M2 h2 M3 h3 M4 h4 M5 h5 M6 h6 M7 h7 M8 h8 M9 h9 M10 h10 M11 h11 f1 f2 f3 f4 f7 f8 f9 f10 f11)).trans (read_pieces M8.view _ (Odd.pieces8 c M1 f1) y (Odd.cover8 c M1 f1 y)),
    funext fun y => (congrArg (fun f => M9.view.read (Elt F) f y) (Odd.val9 c (grid0.coords t) h M1 h1 M2 h2 M3 h3 M4 h4 M5 h5 M6 h6 M7 h7 M8 h8 M9 h9 M10 h10 M11 h11 f1 f2 f3 f4 f7 f8 f9 f10 f11)).trans (read_pieces M9.view _ (Odd.pieces9 c M1 f1) y (Odd.cover9 c M1 f1 y)), fun _ => ⟨fun y hy => ?_, fun y hy => ?_, ?_, ?_, ?_⟩⟩
  · refine (congrArg (fun f => M10.view.read (Elt F) f y) (Odd.val10 c (grid0.coords t) h M1 h1 M2 h2 M3 h3 M4 h4 M5 h5 M6 h6 M7 h7 M8 h8 M9 h9 M10 h10 M11 h11 f1 f2 f3 f4 f7 f8 f9 f10 f11)).trans ?_
    exact read_pieces M10.view _ (Odd.pieces10 c (grid0.coords t) M8 M9 f8 f9) y (Odd.cover10 c (grid0.coords t) M8 M9 f8 f9 y (hy.trans ht))
  · refine (congrArg (fun f => M11.view.read (Elt F) f y) (Odd.val11 c (grid0.coords t) h M1 h1 M2 h2 M3 h3 M4 h4 M5 h5 M6 h6 M7 h7 M8 h8 M9 h9 M10 h10 M11 h11 f1 f2 f3 f4 f7 f8 f9 f10 f11)).trans ?_
    exact read_pieces M11.view _ (Odd.pieces11 c (grid0.coords t) M9 f9) y (Odd.cover11 c (grid0.coords t) M9 f9 y (hy.trans ht))
  · refine funext fun y => (congrArg (fun f => M6.view.read (Elt F) f y) (Odd.val6 c (grid0.coords t) h M1 h1 M2 h2 M3 h3 M4 h4 M5 h5 M6 h6 M7 h7 M8 h8 M9 h9 M10 h10 M11 h11 f1 f2 f3 f4 f7 f8 f9 f10 f11)).trans ?_
    exact read_pieces M6.view _ (Odd.pieces6 c M8 M9 f8 f9) y (Odd.cover6 c M8 M9 f8 f9 y)
  · refine funext fun y => (congrArg (fun f => M5.view.read (Elt F) f y) (Odd.val5 c (grid0.coords t) h M1 h1 M2 h2 M3 h3 M4 h4 M5 h5 M6 h6 M7 h7 M8 h8 M9 h9 M10 h10 M11 h11 f1 f2 f3 f4 f7 f8 f9 f10 f11)).trans ?_
    exact read_pieces M5.view _ (Odd.pieces5 c (grid0.coords t) M2 M3 M4 M10 M11 f2 f3 f4 f10 f11) y (Odd.cover5 c (grid0.coords t) M2 M3 M4 M10 M11 f2 f3 f4 f10 f11 y)
  · refine funext fun y => (congrArg (fun f => M7.view.read (Elt F) f y) (Odd.val7 c (grid0.coords t) h M1 h1 M2 h2 M3 h3 M4 h4 M5 h5 M6 h6 M7 h7 M8 h8 M9 h9 M10 h10 M11 h11 f1 f2 f3 f4 f7 f8 f9 f10 f11)).trans ?_
    exact (congrArg (fun L => M7.view.read (Elt F) (M7.view.writes (Elt F) f7 L) y) (Odd.pieces7 c (grid0.coords t) M9 f9)).trans (read_rows (grid0.coords t) M7.view f7 (M9.view.read (Elt F) f9) y)

/-- The first step establishes the invariant. -/
theorem step_zero : ∀ (c : Dev nD) (t : Fin cfg0.N) (h : First (grid0.coords t)) [Par (grid0.coords t) 0 1]
      (M1 : Memref sig .tc .vmem S8x480x512 .f32) (h1 : M1.IsWhole)
    (M2 : Memref sig .tc .vmem S7680x1024 .fp8e4m3) (h2 : M2.IsWhole)
    (M3 : Memref sig .tc .vmem S1x1024 .f32) (h3 : M3.IsWhole)
    (M4 : Memref sig .tc .vmem S1x1024 .f32) (h4 : M4.IsWhole)
    (M5 : Memref sig .tc .vmem S256x1024 .bf16) (h5 : M5.IsWhole)
    (M6 : Memref sig .tc .vmem S1x15x256x512 .fp8e4m3) (h6 : M6.IsWhole)
    (M7 : Memref sig .tc .vmem S192x128 .f32) (h7 : M7.IsWhole)
    (M8 : Memref sig .tc .vmem S8x480x512 .f32) (h8 : M8.IsWhole)
    (M9 : Memref sig .tc .vmem S8x32x128 .f32) (h9 : M9.IsWhole)
    (M10 : Memref sig .tc .vmem S2x15x256x512 .fp8e4m3) (h10 : M10.IsWhole)
    (M11 : Memref sig .tc .vmem S2x256x128 .f32) (h11 : M11.IsWhole)
      (f1 : Bf F c M1) (f2 : Bf F c M2) (f3 : Bf F c M3) (f4 : Bf F c M4) (f7 : Bf F c M7) (f8 : Bf F c M8) (f9 : Bf F c M9) (f10 : Bf F c M10) (f11 : Bf F c M11), t.val = 0 →
      Step t ⟨M1.view.read (Elt F) f1, M2.view.read (Elt F) f2, M3.view.read (Elt F) f3, M4.view.read (Elt F) f4, M7.view.read (Elt F) f7,
          ⟨M8.view.read (Elt F) f8, M9.view.read (Elt F) f9, M10.view.read (Elt F) f10, M11.view.read (Elt F) f11⟩⟩
        ⟨M5.view.read (Elt F) (runZero c (grid0.coords t) h M1 h1 M2 h2 M3 h3 M4 h4 M5 h5 M6 h6 M7 h7 M8 h8 M9 h9 M10 h10 M11 h11 f1 f2 f3 f4 f7 f8 f9 f10 f11).1.1,
          M6.view.read (Elt F) (runZero c (grid0.coords t) h M1 h1 M2 h2 M3 h3 M4 h4 M5 h5 M6 h6 M7 h7 M8 h8 M9 h9 M10 h10 M11 h11 f1 f2 f3 f4 f7 f8 f9 f10 f11).1.2.1,
          M7.view.read (Elt F) (runZero c (grid0.coords t) h M1 h1 M2 h2 M3 h3 M4 h4 M5 h5 M6 h6 M7 h7 M8 h8 M9 h9 M10 h10 M11 h11 f1 f2 f3 f4 f7 f8 f9 f10 f11).1.2.2.1,
          ⟨M8.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.1,
            M9.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.1,
            M10.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.1,
            M11.view.read (Elt F) (runZero c (grid0.coords t) h M1 h1 M2 h2 M3 h3 M4 h4 M5 h5 M6 h6 M7 h7 M8 h8 M9 h9 M10 h10 M11 h11 f1 f2 f3 f4 f7 f8 f9 f10 f11).1.2.2.2.2.2.2⟩⟩ := by
  intro c t h _ M1 h1 M2 h2 M3 h3 M4 h4 M5 h5 M6 h6 M7 h7 M8 h8 M9 h9 M10 h10 M11 h11 f1 f2 f3 f4 f7 f8 f9 f10 f11 ht
  exact ⟨funext fun y => (congrArg (fun f => M8.view.read (Elt F) f y) (Zero.val8 c (grid0.coords t) h M1 h1 M2 h2 M3 h3 M4 h4 M5 h5 M6 h6 M7 h7 M8 h8 M9 h9 M10 h10 M11 h11 f1 f2 f3 f4 f7 f8 f9 f10 f11)).trans (read_take M8.view _ 8 (Zero.pieces8 c M1 f1) y (Zero.cover8 c M1 f1 y)),
    funext fun y => (congrArg (fun f => M9.view.read (Elt F) f y) (Zero.val9 c (grid0.coords t) h M1 h1 M2 h2 M3 h3 M4 h4 M5 h5 M6 h6 M7 h7 M8 h8 M9 h9 M10 h10 M11 h11 f1 f2 f3 f4 f7 f8 f9 f10 f11)).trans (read_take M9.view _ 8 (Zero.pieces9 c M1 f1) y (Zero.cover9 c M1 f1 y)), fun h => absurd ht h⟩

/-- Every run of the body meets the equations. -/
theorem runs_step : Runs (F := F) Step := runs_of _ step_zero step_even step_odd

end Cert.KernelIdeal.Own

end
-- ==== Proof.Invariant.lean ====
/-
  What the scratch holds before each grid point, what each point leaves in the output windows, and that one run of the body
  keeps the one and leaves the other. Block `b` of the input is 256 rows of each of the 15 kernel points.
-/
module

public import proofs.«01_k».proof.Proof.Step
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe
open Idealize.ShloMosaic.Pipeline (Dat Cfg Window RDat)

variable {F : FTy → Type} [FloatOps F]
variable (m : (ℓ : Loc nD τ sig) → Buf (Elt F) ℓ) (ρ : Dev nD → PrngReg)

/-- Which block of its array this window holds at each step. -/
theorem index0 : ∀ t : Fin grid0.N, win0_0.index t = ![min (t.val - 1) 95, 0, 0] := by decide +kernel
/-- Which block of its array this window holds at each step. -/
theorem index1 : ∀ t : Fin grid0.N, win0_1.index t = ![0, 0] := by decide +kernel
/-- Which block of its array this window holds at each step. -/
theorem index2 : ∀ t : Fin grid0.N, win0_2.index t = ![0, 0] := by decide +kernel
/-- Which block of its array this window holds at each step. -/
theorem index3 : ∀ t : Fin grid0.N, win0_3.index t = ![0, 0] := by decide +kernel
/-- Which block of its array this window holds at each step. -/
theorem index4 : ∀ t : Fin grid0.N, win0_4.index t = ![min (t.val - 3) 95, 0] := by decide +kernel
/-- Which block of its array this window holds at each step. -/
theorem index5 : ∀ t : Fin grid0.N, win0_5.index t = ![min (t.val - 2) 95 / 48, 0, min (t.val - 2) 95 % 48, 0] := by decide +kernel
/-- Which block of its array this window holds at each step. -/
theorem index6 : ∀ t : Fin grid0.N, win0_6.index t = ![0, 0] := by decide +kernel

/-- The row of the scales' array that holds 128 rows of a block's scales. -/
def gsRow (b g : ℕ) : ℕ := (b % 48 * 2 + g) * 2 + b / 48

/-- The row of the scales' array that the first half of a block goes to. -/
theorem row0 : ∀ t : Fin grid0.N, k0_off9 (grid0.coords t) 0#32 0 = gsRow (min (t.val - 2) 95) 0 := by decide +kernel
/-- The row of the scales' array that the second half of a block goes to. -/
theorem row1 : ∀ t : Fin grid0.N, k0_off9 (grid0.coords t) 1#32 0 = gsRow (min (t.val - 2) 95) 1 := by decide +kernel

/-- Where an index of block `b` lies in the array of all rows. -/
def blkI (b : ℕ) (j : S8x480x512.Idx) : S768x480x512.Idx := fun a => match a with
  | ⟨0, _⟩ => ⟨(8 * b + (j 0).val) % 768, Nat.mod_lt _ (by decide)⟩ | ⟨1, _⟩ => j 1 | ⟨2, _⟩ => j 2

/-- Block `b` of the kernel's input, as the region finds it. -/
def gb (c : Dev nD) (b : ℕ) : Vec F S8x480x512 .f32 := fun j => V m c main_v2 (blkI b j)

/-- The features' window holds the block of the step before. -/
theorem iblk0 (c : Dev nD) (t : Fin cfg0.N) : iblk m c 0 t = gb m c (min (t.val - 1) 95) := by
  funext y
  refine congrArg (V m c main_v2) (funext fun a => Fin.ext ?_)
  refine (win0_0.rect_emb_val t y a).trans ?_
  rw [index0 t]
  have y0 : (y 0).val < 8 := (y 0).isLt
  match a with
  | ⟨0, _⟩ => show min (t.val - 1) 95 * 8 + (y 0).val = (8 * min (t.val - 1) 95 + (y 0).val) % 768; omega
  | ⟨1, _⟩ => show 0 * 480 + (y 1).val = (y 1).val; omega
  | ⟨2, _⟩ => show 0 * 512 + (y 2).val = (y 2).val; omega

/-- The weights' window holds all weights. -/
theorem iblk1 (c : Dev nD) (t : Fin cfg0.N) : iblk m c 1 t = V m c main_v3 := by
  funext y
  refine congrArg (V m c main_v3) (funext fun a => Fin.ext ?_)
  refine (win0_1.rect_emb_val t y a).trans ?_
  rw [index1 t]
  match a with
  | ⟨0, _⟩ => show 0 * 7680 + (y 0).val = (y 0).val; omega
  | ⟨1, _⟩ => show 0 * 1024 + (y 1).val = (y 1).val; omega

/-- The weight scales' window holds all of them. -/
theorem iblk2 (c : Dev nD) (t : Fin cfg0.N) : iblk m c 2 t = V m c main_v4 := by
  funext y
  refine congrArg (V m c main_v4) (funext fun a => Fin.ext ?_)
  refine (win0_2.rect_emb_val t y a).trans ?_
  rw [index2 t]
  match a with
  | ⟨0, _⟩ => show 0 * 1 + (y 0).val = (y 0).val; omega
  | ⟨1, _⟩ => show 0 * 1024 + (y 1).val = (y 1).val; omega

/-- The bias' window holds all of it. -/
theorem iblk3 (c : Dev nD) (t : Fin cfg0.N) : iblk m c 3 t = V m c main_v5 := by
  funext y
  refine congrArg (V m c main_v5) (funext fun a => Fin.ext ?_)
  refine (win0_3.rect_emb_val t y a).trans ?_
  rw [index3 t]
  match a with
  | ⟨0, _⟩ => show 0 * 1 + (y 0).val = (y 0).val; omega
  | ⟨1, _⟩ => show 0 * 1024 + (y 1).val = (y 1).val; omega

/-- The codes of a block, kernel point by kernel point. -/
def cdB (g : Vec F S8x480x512 .f32) : Fin 15 → Vec F S1x1x256x512 .fp8e4m3 := fun k y => codeAt g (mxG g) k.val (y 2).val (y 3).val

/-- The scales of a block. -/
def scB (g : Vec F S8x480x512 .f32) : Vec F S1x256x128 .f32 := fun y => scAt (mxG g) (y 1).val (y 2).val

/-- The result of a block. -/
def yB (g : Vec F S8x480x512 .f32) (w : Vec F S7680x1024 .fp8e4m3) (ws b : Vec F S1x1024 .f32) : Vec F S256x1024 .bf16 := yG (cdB g) (scB g) w ws b

/-- Before point `n`: the scratch holds the block read at point `n - 1` and its partial maxima, and the codes and the scales of
    the block before. -/
def Inv (c : Dev nD) (n : ℕ) (s : Sc F) : Prop :=
  (1 ≤ n → s.gf = gb m c (min (n - 2) 95) ∧ s.mx = mxG (gb m c (min (n - 2) 95)))
  ∧ (2 ≤ n → (∀ j : S2x15x256x512.Idx, (j 0).val = (n + 1) % 2 → s.code j = codeG10 (gb m c (min (n - 3) 95)) (mxG (gb m c (min (n - 3) 95))) j)
    ∧ (∀ j : S2x256x128.Idx, (j 0).val = (n + 1) % 2 → s.sc j = scG (mxG (gb m c (min (n - 3) 95))) j))

/-- The result's window after point `t`. -/
def YP (c : Dev nD) (t : Fin cfg0.N) (X : Vec F S256x1024 .bf16) : Prop :=
  2 ≤ t.val → X = yB (gb m c (min (t.val - 3) 95)) (V m c main_v3) (V m c main_v4) (V m c main_v5)

/-- The codes' window after point `t`. -/
def GP (c : Dev nD) (t : Fin cfg0.N) (X : Vec F S1x15x256x512 .fp8e4m3) : Prop :=
  1 ≤ t.val → X = codeG6 (gb m c (min (t.val - 2) 95)) (mxG (gb m c (min (t.val - 2) 95)))

/-- The scales' window after point `t`: the rows of every block quantised so far. -/
def SP (c : Dev nD) (t : Fin cfg0.N) (X : Vec F S192x128 .f32) : Prop :=
  1 ≤ t.val → ∀ b g : ℕ, b ≤ min (t.val - 2) 95 → g < 2 → ∀ j : S192x128.Idx, (j 0).val = gsRow b g → X j = rowsV (mxG (gb m c b)) g (ixL (j 1))

/-- The codes that a step reads are those in the other slot. -/
theorem cdR_eq (i : grid0.Coords) {p p' : ℕ} [Par i p p'] (hp : p' < 2) (s : Sc F) (g : Vec F S8x480x512 .f32)
    (h : ∀ j : S2x15x256x512.Idx, (j 0).val = p' → s.code j = codeG10 g (mxG g) j) : cdR i s.code = cdB g := by
  funext k y
  rw [cdR_apply i hp, h _ (show p' % 2 = p' by omega)]; rfl

/-- The scales that a step reads are those in the other slot. -/
theorem scR_eq (i : grid0.Coords) {p p' : ℕ} [Par i p p'] (hp : p' < 2) (s : Sc F) (g : Vec F S8x480x512 .f32)
    (h : ∀ j : S2x256x128.Idx, (j 0).val = p' → s.sc j = scG (mxG g) j) : scR i s.sc = scB g := by
  funext y
  rw [scR_apply i hp, h _ (show p' % 2 = p' by omega)]; rfl

/-- If the slot that a step reads holds the codes and the scales of the features `g`, the step reads exactly those. -/
theorem reads_eq (t : Fin cfg0.N) (s : Sc F) (g : Vec F S8x480x512 .f32)
    (h : ∀ j : S2x15x256x512.Idx, (j 0).val = (t.val + 1) % 2 → s.code j = codeG10 g (mxG g) j)
    (h' : ∀ j : S2x256x128.Idx, (j 0).val = (t.val + 1) % 2 → s.sc j = scG (mxG g) j) :
    cdR (grid0.coords t) s.code = cdB g ∧ scR (grid0.coords t) s.sc = scB g := by
  have hc := coords_val t
  rcases Nat.mod_two_eq_zero_or_one t.val with e | e
  · haveI := par_even (grid0.coords t) (by omega)
    have e' : (t.val + 1) % 2 = 1 := by omega
    rw [e'] at h h'
    exact ⟨cdR_eq _ (by omega) s g h, scR_eq _ (by omega) s g h'⟩
  · haveI := par_odd (grid0.coords t) (by omega)
    have e' : (t.val + 1) % 2 = 0 := by omega
    rw [e'] at h h'
    exact ⟨cdR_eq _ (by omega) s g h, scR_eq _ (by omega) s g h'⟩

/-- One point keeps the invariant. -/
theorem keeps : Keeps m Step (Inv m) (YP m) (GP m) (SP m) := by
  intro c t x7 s o hJ hS hstep
  rw [iblk0, iblk1, iblk2, iblk3] at hstep
  obtain ⟨hgf, hmx, hrest⟩ := hstep
  dsimp only at hgf hmx hrest
  have e1 : t.val + 1 - 2 = t.val - 1 := by omega
  have e2 : t.val + 1 - 3 = t.val - 2 := by omega
  refine ⟨⟨fun _ => ?_, fun h => ?_⟩, fun h => ?_, fun h => ?_, fun h => ?_⟩
  · rw [e1]; exact ⟨hgf, hmx⟩
  · obtain ⟨hc, hs, -⟩ := hrest (by omega)
    obtain ⟨hg, hm⟩ := hJ.1 (by omega)
    rw [hg, hm] at hc; rw [hm] at hs
    rw [e2, show (t.val + 1 + 1) % 2 = t.val % 2 by omega]
    exact ⟨hc, hs⟩
  · obtain ⟨-, -, -, hy, -⟩ := hrest (by omega)
    obtain ⟨hc, hs⟩ := hJ.2 h
    obtain ⟨r1, r2⟩ := reads_eq t s _ hc hs
    rw [hy, r1, r2]; rfl
  · obtain ⟨-, -, hc, -⟩ := hrest (by omega)
    obtain ⟨hg, hm⟩ := hJ.1 h
    rw [hc, hg, hm]
  · obtain ⟨-, -, -, -, hs⟩ := hrest (by omega)
    obtain ⟨hg, hm⟩ := hJ.1 h
    intro b g hb hg2 j hj
    rw [hs, hm]
    unfold gsG
    rw [row0 t, row1 t, hj]
    unfold gsRow
    by_cases hbt : b = min (t.val - 2) 95
    · rw [← hbt]
      rcases (show g = 0 ∨ g = 1 by omega) with rfl | rfl
      · rw [if_neg (by omega), if_pos rfl]
      · rw [if_pos rfl]
    · rw [if_neg (by omega), if_neg (by omega)]
      have hN : t.val < 99 := lt_of_lt_of_eq t.isLt N_0
      exact hS ⟨t.val - 1, Nat.lt_of_le_of_lt (Nat.sub_le _ _) t.isLt⟩ (show t.val - 1 + 1 = t.val by omega) (show 1 ≤ t.val - 1 by omega) b g
        (show b ≤ min (t.val - 1 - 2) 95 by omega) hg2 j hj

end Cert.KernelIdeal.Own

end
-- ==== Proof.KernelValue.lean ====
/-
  The kernel's three results after the run, index by index, as functions of the arrays that its region finds.
-/
module

public import proofs.«01_k».proof.Proof.Invariant

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat Cfg Window RDat)

variable {F : FTy → Type} [FloatOps F]
variable (m : (ℓ : Loc nD τ sig) → Buf (Elt F) ℓ) (ρ : Dev nD → PrngReg)

/-- The product's window is written back at every step from number 3 on. -/
theorem flush4 : ∀ t : Fin grid0.N, win0_4.flush t = true ↔ 3 ≤ t.val := by decide +kernel
/-- The codes' window is written back at every step from number 2 on except number 97, which is followed by a step on the same block. -/
theorem flush5 : ∀ t : Fin grid0.N, win0_5.flush t = true ↔ (2 ≤ t.val ∧ t.val ≠ 97) := by decide +kernel
/-- The scales' window is written back once, at the last step. -/
theorem flush6 : ∀ t : Fin grid0.N, win0_6.flush t = true ↔ t.val = 98 := by decide +kernel

/-- What an index of a view lands on is in the view. -/
theorem mem_of_emb {κ : Kind} {sp : Space} {s : Shape} {e : EltTy} {v : View sig κ sp s e} (x : s.Idx) {i} (h : v.emb x = i) : i ∈ v.set :=
  h ▸ v.emb_mem_set x

/-- Every row of the scales' array belongs to one half of one block. -/
theorem row_split (r : ℕ) (hr : r < 192) : r = gsRow (48 * (r % 2) + r / 4) (r / 2 % 2) := by
  unfold gsRow
  have h1 : (48 * (r % 2) + r / 4) / 48 = r % 2 := by omega
  have h2 : (48 * (r % 2) + r / 4) % 48 = r / 4 := by omega
  rw [h1, h2]; omega

/-- The result. -/
def yA (c : Dev nD) : Vec F S24576x1024 .bf16 := fun j =>
  yB (gb m c ((j 0).val / 256)) (V m c main_v3) (V m c main_v4) (V m c main_v5)
    (fun a => match a with | ⟨0, _⟩ => ⟨(j 0).val % 256, Nat.mod_lt _ (by decide)⟩ | ⟨1, _⟩ => j 1)

/-- The codes. -/
def gcA (c : Dev nD) : Vec F S2x15x12288x512 .fp8e4m3 := fun j =>
  codeAt (gb m c (48 * (j 0).val + (j 2).val / 256)) (mxG (gb m c (48 * (j 0).val + (j 2).val / 256))) (j 1).val ((j 2).val % 256) (j 3).val

/-- The scales. -/
def gsA (c : Dev nD) : Vec F S192x128 .f32 := fun j =>
  rowsV (mxG (gb m c (48 * ((j 0).val % 2) + (j 0).val / 4))) ((j 0).val / 2 % 2) (ixL (j 1))

section

variable {c : Dev nD} (after : (w' : Fin cfg0.W) → Fin cfg0.N → (cfg0.win w').block.Idx → Elt F (cfg0.win w').elt)
  (hL : ∀ (w : Fin cfg0.W) (u : Fin cfg0.N), (cfg0.win w).flush u = true → (rdat m (Inv m) (YP m) (GP m) (SP m) c).Leaves w u (after w u))

include hL

/-- At the end the first result holds the product of every block. -/
theorem final4 : ((rdat m (Inv m) (YP m) (GP m) (SP m) c).withAfter after).arrAt 4 cfg0.N = yA m c := by
  refine Dat.arrAt_eq_of_cover ((rdat m (Inv m) (YP m) (GP m) (SP m) c).withAfter after) 4 (yA m c) (fun t hf => ?_) (fun i => ?_)
  · have ht : 3 ≤ t.val := (flush4 t).mp hf
    have hX : YP m c t (after 4 t) := (dat m (Inv m) c).toRRel_leaves (fgt := outs) (w := 4) rfl (hL 4 t hf)
    funext y
    have y0 : (y 0).val < 256 := (y 0).isLt
    have hN : t.val < 99 := lt_of_lt_of_eq t.isLt N_0
    refine (congrFun (hX (by omega)) y).trans ?_
    have e0 : ((win0_4.rect t).emb y 0 : ℕ) = min (t.val - 3) 95 * 256 + (y 0).val := (win0_4.rect_emb_val t y 0).trans (by rw [index4 t]; rfl)
    have e1 : ((win0_4.rect t).emb y 1 : ℕ) = (y 1).val := (win0_4.rect_emb_val t y 1).trans (by rw [index4 t]; show 0 * 1024 + (y 1).val = _; omega)
    show _ = yA m c ((win0_4.rect t).emb y)
    unfold yA
    rw [show ((win0_4.rect t).emb y 0 : ℕ) / 256 = min (t.val - 3) 95 by rw [e0]; omega]
    refine congrArg _ (funext fun a => Fin.ext ?_)
    match a with
    | ⟨0, _⟩ => show (y 0).val = ((win0_4.rect t).emb y 0 : ℕ) % 256; rw [e0]; omega
    | ⟨1, _⟩ => exact e1.symm
  · have i0 : (i 0).val < 24576 := (i 0).isLt
    have hN : (i 0).val / 256 + 3 < cfg0.N := lt_of_lt_of_eq (by omega : (i 0).val / 256 + 3 < 99) N_0.symm
    refine ⟨⟨(i 0).val / 256 + 3, hN⟩, (flush4 _).mpr (show 3 ≤ (i 0).val / 256 + 3 by omega), ?_⟩
    let y : S256x1024.Idx := (fun a => match a with | ⟨0, _⟩ => ⟨(i 0).val % 256, Nat.mod_lt _ (by decide)⟩ | ⟨1, _⟩ => i 1)
    refine mem_of_emb y ?_
    refine funext fun a => Fin.ext ?_
    refine (win0_4.rect_emb_val _ _ a).trans ?_
    rw [index4]
    match a with
    | ⟨0, _⟩ => show min ((i 0).val / 256 + 3 - 3) 95 * 256 + (i 0).val % 256 = (i 0).val; omega
    | ⟨1, _⟩ => show 0 * 1024 + (i 1).val = (i 1).val; omega

/-- At the end the second result holds the codes of every block. -/
theorem final5 : ((rdat m (Inv m) (YP m) (GP m) (SP m) c).withAfter after).arrAt 5 cfg0.N = gcA m c := by
  refine Dat.arrAt_eq_of_cover ((rdat m (Inv m) (YP m) (GP m) (SP m) c).withAfter after) 5 (gcA m c) (fun t hf => ?_) (fun i => ?_)
  · have ht : 2 ≤ t.val := ((flush5 t).mp hf).1
    have hX : GP m c t (after 5 t) := (dat m (Inv m) c).toRRel_leaves (fgt := outs) (w := 5) rfl (hL 5 t hf)
    funext y
    have y0 : (y 0).val < 1 := (y 0).isLt
    have y2 : (y 2).val < 256 := (y 2).isLt
    have hN : t.val < 99 := lt_of_lt_of_eq t.isLt N_0
    refine (congrFun (hX (by omega)) y).trans ?_
    have e0 : ((win0_5.rect t).emb y 0 : ℕ) = min (t.val - 2) 95 / 48 := (win0_5.rect_emb_val t y 0).trans (by
      rw [index5 t]; show min (t.val - 2) 95 / 48 * 1 + (y 0).val = _; omega)
    have e1 : ((win0_5.rect t).emb y 1 : ℕ) = (y 1).val := (win0_5.rect_emb_val t y 1).trans (by rw [index5 t]; show 0 * 15 + (y 1).val = _; omega)
    have e2 : ((win0_5.rect t).emb y 2 : ℕ) = min (t.val - 2) 95 % 48 * 256 + (y 2).val := (win0_5.rect_emb_val t y 2).trans (by rw [index5 t]; rfl)
    have e3 : ((win0_5.rect t).emb y 3 : ℕ) = (y 3).val := (win0_5.rect_emb_val t y 3).trans (by rw [index5 t]; show 0 * 512 + (y 3).val = _; omega)
    show codeAt _ _ (y 1).val (y 2).val (y 3).val = gcA m c ((win0_5.rect t).emb y)
    unfold gcA
    rw [e0, e1, e2, e3, show 48 * (min (t.val - 2) 95 / 48) + (min (t.val - 2) 95 % 48 * 256 + (y 2).val) / 256 = min (t.val - 2) 95 by omega,
      show (min (t.val - 2) 95 % 48 * 256 + (y 2).val) % 256 = (y 2).val by omega]
  · have i0 : (i 0).val < 2 := (i 0).isLt
    have i2 : (i 2).val < 12288 := (i 2).isLt
    obtain ⟨t, ht, h2, hm⟩ : ∃ t : ℕ, t < 99 ∧ (2 ≤ t ∧ t ≠ 97) ∧ min (t - 2) 95 = 48 * (i 0).val + (i 2).val / 256 := by
      by_cases h : 48 * (i 0).val + (i 2).val / 256 = 95
      · exact ⟨98, by omega, by omega, by omega⟩
      · exact ⟨48 * (i 0).val + (i 2).val / 256 + 2, by omega, by omega, by omega⟩
    refine ⟨⟨t, lt_of_lt_of_eq ht N_0.symm⟩, (flush5 _).mpr h2, ?_⟩
    let y : S1x15x256x512.Idx := (fun a => match a with
      | ⟨0, _⟩ => ⟨0, Nat.one_pos⟩ | ⟨1, _⟩ => i 1 | ⟨2, _⟩ => ⟨(i 2).val % 256, Nat.mod_lt _ (by decide)⟩ | ⟨3, _⟩ => i 3)
    refine mem_of_emb y ?_
    refine funext fun a => Fin.ext ?_
    refine (win0_5.rect_emb_val _ _ a).trans ?_
    rw [index5]
    match a with
    | ⟨0, _⟩ => show min (t - 2) 95 / 48 * 1 + 0 = (i 0).val; omega
    | ⟨1, _⟩ => show 0 * 15 + (i 1).val = (i 1).val; omega
    | ⟨2, _⟩ => show min (t - 2) 95 % 48 * 256 + (i 2).val % 256 = (i 2).val; omega
    | ⟨3, _⟩ => show 0 * 512 + (i 3).val = (i 3).val; omega

/-- At the end the third result holds the scales of every block. -/
theorem final6 : ((rdat m (Inv m) (YP m) (GP m) (SP m) c).withAfter after).arrAt 6 cfg0.N = gsA m c := by
  refine Dat.arrAt_eq_of_cover ((rdat m (Inv m) (YP m) (GP m) (SP m) c).withAfter after) 6 (gsA m c) (fun t hf => ?_) (fun i => ?_)
  · have ht : t.val = 98 := (flush6 t).mp hf
    have hX : SP m c t (after 6 t) := (dat m (Inv m) c).toRRel_leaves (fgt := outs) (w := 6) rfl (hL 6 t hf)
    funext y
    have y0 : (y 0).val < 192 := (y 0).isLt
    refine (hX (by omega) (48 * ((y 0).val % 2) + (y 0).val / 4) ((y 0).val / 2 % 2) (by omega) (by omega) y (row_split (y 0).val (y 0).isLt)).trans ?_
    show _ = gsA m c ((win0_6.rect t).emb y)
    refine congrArg (gsA m c) (a₁ := y) (funext fun a => Fin.ext ?_)
    refine Eq.trans ?_ (win0_6.rect_emb_val t y a).symm
    rw [index6 t]
    match a with
    | ⟨0, _⟩ => show (y 0).val = 0 * 192 + (y 0).val; omega
    | ⟨1, _⟩ => show (y 1).val = 0 * 128 + (y 1).val; omega
  · refine ⟨⟨98, lt_of_lt_of_eq (by omega) N_0.symm⟩, (flush6 _).mpr rfl, ?_⟩
    refine mem_of_emb (i) ?_
    refine funext fun a => Fin.ext ?_
    refine (win0_6.rect_emb_val _ _ a).trans ?_
    rw [index6]
    match a with
    | ⟨0, _⟩ => show 0 * 192 + (i 0).val = (i 0).val; omega
    | ⟨1, _⟩ => show 0 * 128 + (i 1).val = (i 1).val; omega

end

/-- The run, with its three results named. -/
theorem run_value : θ_run defs (onTc (τ := τ) (main (F := F))) ⟨m, fun _ => 0, ρ⟩ fun r => ∀ c : Dev nD,
    r.2.mem ((c.tc : Thread nD τ).loc main_v6_0) = yA m c
    ∧ r.2.mem ((c.tc : Thread nD τ).loc main_v6_1) = gcA m c
    ∧ r.2.mem ((c.tc : Thread nD τ).loc main_v6_2) = gsA m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  run_main m ρ Step (Inv m) (YP m) (GP m) (SP m) runs_step (keeps m)
    (fun _ _ => ⟨fun h => absurd h (by decide), fun h => absurd h (by decide)⟩) _ fun r h c => by
    obtain ⟨after, hL, hA⟩ := RDat.FramePost.exists_exact h.1 c
    exact ⟨(hA 4).trans (final4 m after hL), (hA 5).trans (final5 m after hL), (hA 6).trans (final6 m after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩

end Cert.KernelIdeal.Own

end
-- ==== Proof.Exponent.lean ====
/-
  The exponent of a row's scale over the extended reals: the kernel counts the powers of two that the scaled maximum reaches,
  the reference takes the floor of a logarithm. On normal numbers (and on zero) both give the same integer, and a power of two
  assembled from its exponent bits is that power of two.
-/
module

public import proofs.«01_k».proof.Proof.Spec
public import Idealize.ShloMosaic.Lib.Pointwise

@[expose] public section

set_option maxRecDepth 16384

noncomputable section

namespace Cert.KernelIdeal.Own

open Idealize.ShloMosaic

/-- The float whose exponent bits are `j` and whose other bits are zero. -/
def thr (n : BitVec 32) : EReal := Ideal.ieee 8 23 (IntOp.shli ArithUnit.vector n 23#32)

/-- A threshold is the float whose bits are the number shifted into the exponent field. -/
theorem thr_eq (n : BitVec 32) : Ideal.ofBits .f32 (IntOp.shli ArithUnit.vector n 23#32) = thr n := rfl

/-- A number below 256, shifted by 23, has sign 0, itself as exponent field, and mantissa 0. -/
theorem bits_fields : ∀ j : Fin 256, ((IntOp.shli ArithUnit.vector (BitVec.ofNat 32 j.val) 23#32).extractLsb' (8 + 23) 1 == 1#1) = false
    ∧ ((IntOp.shli ArithUnit.vector (BitVec.ofNat 32 j.val) 23#32).extractLsb' 23 8).toNat = j.val
    ∧ ((IntOp.shli ArithUnit.vector (BitVec.ofNat 32 j.val) 23#32).extractLsb' 0 23).toNat = 0 := by decide +kernel

/-- A positive pattern with zero trailing bits. -/
theorem ieee_pow (b : BitVec 32) (j : ℕ) (h1 : (b.extractLsb' (8 + 23) 1 == 1#1) = false) (h2 : (b.extractLsb' 23 8).toNat = j)
    (h3 : (b.extractLsb' 0 23).toNat = 0) :
    Ideal.ieee 8 23 b = if j = 255 then ⊤ else if j = 0 then 0 else (((2 : ℝ) ^ ((j : ℤ) - 127) : ℝ) : EReal) := by
  unfold Ideal.ieee
  simp only [h1, h2, h3]
  by_cases a : j = 255
  · rw [if_pos (by rw [a]; norm_num), if_pos a]; simp
  · rw [if_neg (by norm_num; exact a), if_neg a]
    by_cases a' : j = 0
    · rw [if_pos a', if_pos a']; simp
    · rw [if_neg a', if_neg a']
      congr 1
      have e : ((j : ℤ) - (2 ^ (8 - 1) - 1) - ((23 : ℕ) : ℤ)) = ((j : ℤ) - 127) - 23 := by norm_num
      rw [e, zpow_sub₀ (by norm_num : (2 : ℝ) ≠ 0)]
      norm_num
      field_simp

/-- The thresholds: 0, then the powers of two from 2^-126 on, and at 255 infinity. -/
theorem thr_nat (j : ℕ) (h : j < 256) :
    thr (BitVec.ofNat 32 j) = if j = 255 then ⊤ else if j = 0 then 0 else (((2 : ℝ) ^ ((j : ℤ) - 127) : ℝ) : EReal) := by
  obtain ⟨a, b, c⟩ := bits_fields ⟨j, h⟩
  exact ieee_pow _ j a b c

/-- With exponent bits between 1 and 254 it is a power of two. -/
theorem thr_mid (j : ℕ) (h1 : 1 ≤ j) (h2 : j ≤ 254) : thr (BitVec.ofNat 32 j) = (((2 : ℝ) ^ ((j : ℤ) - 127) : ℝ) : EReal) := by
  rw [thr_nat j (by omega), if_neg (by omega), if_neg (by omega)]

/-- The first threshold is 0. -/
theorem thr_zero : thr (BitVec.ofNat 32 0) = 0 := by
  rw [thr_nat 0 (by omega), if_neg (by omega), if_pos rfl]

/-- The last threshold is infinity. -/
theorem thr_top : thr (BitVec.ofNat 32 255) = ⊤ := by
  rw [thr_nat 255 (by omega), if_pos rfl]

/-- A finite sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Counting those of 256 numbers that satisfy a test that holds exactly of the first `c`. -/
theorem count_lt (p : Fin 256 → Prop) [DecidablePred p] (c : ℕ) (hc : c ≤ 256) (h : ∀ j : Fin 256, p j ↔ j.val < c) :
    (∑ j : Fin 256, if p j then (1 : EReal) else 0) = ((c : ℝ) : EReal) := by
  have e : (∑ j : Fin 256, if p j then (1 : EReal) else 0) = ((∑ j : Fin 256, if p j then (1 : ℝ) else 0 : ℝ) : EReal) := by
    rw [coe_sum]
    refine Finset.sum_congr rfl fun j _ => ?_
    split <;> simp
  rw [e, Finset.sum_boole]
  congr 2
  have : (Finset.univ.filter p) = (Finset.univ.filter fun j : Fin 256 => j.val < c) := Finset.filter_congr fun j _ => h j
  rw [this, Fin.card_filter_val_lt]
  omega

/-- The kernel's exponent of a row whose scaled maximum is `X`. -/
def kE (X : EReal) : BitVec 32 :=
  Scalar.select (IntOp.cmpi CmpIPredicate.eq
      (IntOp.subi (Ideal.fptosi 32 (∑ x : Fin 256, if thr (BitVec.ofNat 32 x.val) ≤ X then 1 else 0)) 1#32) 0#32) 0#32
    (IntOp.subi (IntOp.subi (Ideal.fptosi 32 (∑ x : Fin 256, if thr (BitVec.ofNat 32 x.val) ≤ X then 1 else 0)) 1#32) 126#32)

/-- A count converted to an integer is that count. -/
theorem fptosi_nat (c : ℕ) (hc : c ≤ 256) : Ideal.fptosi 32 (((c : ℕ) : ℝ) : EReal) = BitVec.ofNat 32 c := by
  unfold Ideal.fptosi
  rw [Ideal.toIntClamped_coe, if_pos (Nat.cast_nonneg c), Int.floor_natCast]
  have : max (-((2 ^ (32 - 1) : ℕ) : ℤ)) (min (((2 ^ (32 - 1) : ℕ) : ℤ) - 1) (c : ℤ)) = (c : ℤ) := by norm_num; omega
  rw [this]; simp

/-- If exactly the first `c` thresholds are met, the kernel's exponent is computed from `c`. -/
theorem kE_of_count (X : EReal) (c : ℕ) (hc : c ≤ 256) (h : ∀ j : Fin 256, thr (BitVec.ofNat 32 j.val) ≤ X ↔ j.val < c) :
    kE X = Scalar.select (IntOp.cmpi CmpIPredicate.eq (IntOp.subi (BitVec.ofNat 32 c) 1#32) 0#32) 0#32
      (IntOp.subi (IntOp.subi (BitVec.ofNat 32 c) 1#32) 126#32) := by
  unfold kE
  rw [count_lt _ c hc h, fptosi_nat c hc]

/-- The kernel's exponent from the count, in 32-bit words. -/
theorem exp_words : ∀ n : Fin 252, Scalar.select (IntOp.cmpi CmpIPredicate.eq (IntOp.subi (BitVec.ofNat 32 (n.val + 2)) 1#32) 0#32) 0#32
      (IntOp.subi (IntOp.subi (BitVec.ofNat 32 (n.val + 2)) 1#32) 126#32) = BitVec.ofInt 32 ((n.val : ℤ) - 125) := by decide +kernel

/-- The exponent fields of the scale and of its inverse, in 32-bit words. -/
theorem scale_words : ∀ n : Fin 252, IntOp.addi 127#32 (BitVec.ofInt 32 ((n.val : ℤ) - 125)) = BitVec.ofNat 32 (n.val + 2)
    ∧ IntOp.subi 127#32 (BitVec.ofInt 32 ((n.val : ℤ) - 125)) = BitVec.ofNat 32 (252 - n.val) := by decide +kernel

/-- A power of two assembled from its exponent bits. -/
theorem thr_scale (E : ℤ) (h1 : -125 ≤ E) (h2 : E ≤ 126) : thr (IntOp.addi 127#32 (BitVec.ofInt 32 E)) = (((2 : ℝ) ^ E : ℝ) : EReal) := by
  obtain ⟨n, rfl⟩ : ∃ n : ℕ, E = (n : ℤ) - 125 := ⟨(E + 125).toNat, by omega⟩
  rw [(scale_words ⟨n, by omega⟩).1, thr_mid _ (by omega) (by simp only; omega)]
  congr 2
  push_cast; omega

/-- The same of its reciprocal. -/
theorem thr_inv (E : ℤ) (h1 : -125 ≤ E) (h2 : E ≤ 126) : thr (IntOp.subi 127#32 (BitVec.ofInt 32 E)) = (((2 : ℝ) ^ (-E) : ℝ) : EReal) := by
  obtain ⟨n, rfl⟩ : ∃ n : ℕ, E = (n : ℤ) - 125 := ⟨(E + 125).toNat, by omega⟩
  rw [(scale_words ⟨n, by omega⟩).2, thr_mid _ (by simp only; omega) (by simp only; omega)]
  congr 2
  simp only
  omega

/-- The reference's exponent of a row whose scaled maximum is `X`. -/
def rE (X : EReal) : EReal :=
  if X = 0 then 0 else Ideal.liftRound Int.floor (Ideal.div (Ideal.log X) (Ideal.log ((2 : ℝ) : EReal))) + 1

/-- On zero and on normal numbers both exponents are one integer. -/
theorem exponent (X : EReal) (hX : X = 0 ∨ ((((2 : ℝ) ^ (-126 : ℤ) : ℝ) : EReal) ≤ X ∧ X < (((2 : ℝ) ^ (126 : ℤ) : ℝ) : EReal))) :
    ∃ E : ℤ, -125 ≤ E ∧ E ≤ 126 ∧ kE X = BitVec.ofInt 32 E ∧ rE X = ((E : ℝ) : EReal) := by
  rcases hX with rfl | ⟨hl, hu⟩
  · refine ⟨0, by norm_num, by norm_num, ?_, by simp [rE]⟩
    rw [kE_of_count 0 1 (by norm_num)]
    · decide
    · intro j
      rcases Nat.eq_zero_or_pos j.val with h0 | h0
      · rw [h0, thr_zero]; simp
      · rcases Nat.lt_or_ge j.val 255 with h | h
        · rw [thr_mid _ h0 (by omega)]
          have : (0 : ℝ) < (2 : ℝ) ^ ((j.val : ℤ) - 127) := by positivity
          constructor
          · intro h'
            exact absurd (EReal.coe_le_coe_iff.mp (by simpa using h')) (not_le.mpr this)
          · intro h'; omega
        · have : j.val = 255 := by omega
          rw [this, thr_top]; simp
  · lift X to ℝ using ⟨ne_of_lt (hu.trans (EReal.coe_lt_top _)), ne_of_gt (lt_of_lt_of_le (EReal.bot_lt_coe _) hl)⟩
    rw [EReal.coe_le_coe_iff] at hl
    rw [EReal.coe_lt_coe_iff] at hu
    have hpos : (0 : ℝ) < X := lt_of_lt_of_le (by positivity) hl
    obtain ⟨k, hk1, hk2⟩ : ∃ k : ℤ, (2 : ℝ) ^ k ≤ X ∧ X < (2 : ℝ) ^ (k + 1) := by
      obtain ⟨k, hk⟩ := exists_mem_Ico_zpow hpos (by norm_num : (1 : ℝ) < 2)
      exact ⟨k, hk.1, hk.2⟩
    have two : (1 : ℝ) < 2 := by norm_num
    have b1 : -126 < k + 1 := (zpow_lt_zpow_iff_right₀ two).mp (lt_of_le_of_lt hl hk2)
    have b2 : k < 126 := (zpow_lt_zpow_iff_right₀ two).mp (lt_of_le_of_lt hk1 hu)
    refine ⟨k + 1, by omega, by omega, ?_, ?_⟩
    · rw [kE_of_count X ((k + 128).toNat) (by omega)]
      · obtain ⟨n, hn⟩ : ∃ n : ℕ, k = (n : ℤ) - 126 := ⟨(k + 126).toNat, by omega⟩
        have := exp_words ⟨n, by omega⟩
        rw [show (k + 128).toNat = n + 2 by omega, show k + 1 = (n : ℤ) - 125 by omega]
        exact this
      · intro j
        rcases Nat.eq_zero_or_pos j.val with h0 | h0
        · rw [h0, thr_zero]
          constructor
          · intro _; omega
          · intro _; exact_mod_cast hpos.le
        · rcases Nat.lt_or_ge j.val 255 with h | h
          · rw [thr_mid _ h0 (by omega), EReal.coe_le_coe_iff]
            constructor
            · intro h'
              have := (zpow_lt_zpow_iff_right₀ two).mp (lt_of_le_of_lt h' hk2)
              omega
            · intro h'
              exact le_trans (zpow_le_zpow_right₀ two.le (by omega)) hk1
          · have : j.val = 255 := by omega
            rw [this, thr_top]
            constructor
            · intro h'; exact absurd h' (by simp)
            · intro h'; omega
    · unfold rE
      have hX0 : ((X : ℝ) : EReal) ≠ 0 := by exact_mod_cast hpos.ne'
      have l2 : (0 : ℝ) < Real.log 2 := Real.log_pos two
      rw [if_neg hX0]
      have e1 : Ideal.log ((X : ℝ) : EReal) = ((Real.log X : ℝ) : EReal) := by
        show (if X ≤ 0 then (⊥ : EReal) else _) = _
        rw [if_neg (not_le.mpr hpos)]
      have e2 : Ideal.log ((2 : ℝ) : EReal) = ((Real.log 2 : ℝ) : EReal) := by
        show (if (2 : ℝ) ≤ 0 then (⊥ : EReal) else _) = _
        rw [if_neg (by norm_num)]
      have e3 : Ideal.div ((Real.log X : ℝ) : EReal) ((Real.log 2 : ℝ) : EReal) = ((Real.log X / Real.log 2 : ℝ) : EReal) := by
        unfold Ideal.div
        rw [if_neg (by exact_mod_cast l2.ne'), div_eq_mul_inv, EReal.coe_mul, EReal.coe_inv]
      have hf : ⌊Real.log X / Real.log 2⌋ = k := by
        rw [Int.floor_eq_iff]
        constructor
        · rw [le_div_iff₀ l2, ← Real.log_zpow]
          exact Real.log_le_log (by positivity) hk1
        · rw [div_lt_iff₀ l2]
          have := Real.log_lt_log hpos hk2
          rw [Real.log_zpow] at this
          push_cast at this
          exact this
      rw [e1, e2, e3]
      show ((((⌊Real.log X / Real.log 2⌋ : ℤ) : ℝ) : EReal)) + 1 = _
      rw [hf]
      push_cast
      rfl

/-- The reference's power of two. -/
theorem pow_two (E : ℤ) : Ideal.pow ((2 : ℝ) : EReal) ((E : ℝ) : EReal) = (((2 : ℝ) ^ E : ℝ) : EReal) := by
  rw [Ideal.pow_coe_coe]
  congr 1
  exact Real.rpow_intCast 2 E

/-- Two to a negated integer, as the reference's power computes it. -/
theorem pow_two_neg (E : ℤ) : Ideal.pow ((2 : ℝ) : EReal) (-((E : ℝ) : EReal)) = (((2 : ℝ) ^ (-E) : ℝ) : EReal) := by
  rw [← EReal.coe_neg, Ideal.pow_coe_coe]
  congr 1
  have := Real.rpow_intCast 2 (-E)
  push_cast at this
  exact this

end Cert.KernelIdeal.Own
end
-- ==== Proof.Tile.lean ====
/-
  The tile functions of the kernel body over the extended reals, entry by entry.
-/
module

public import proofs.«01_k».proof.Proof.Exponent

@[expose] public section

set_option maxRecDepth 16384

noncomputable section

namespace Cert.KernelIdeal.Own

open Cert.KernelIdeal Cert.KernelIdeal.Gen
open Idealize.ShloMosaic Idealize.ShloMosaic.TcCoe

/-- The reciprocal of the largest code, as the float both sides multiply by. -/
def recip : EReal := Ideal.ofBits .f32 0x3B124925#32

/-- A number brought into the range of the codes. -/
def clip (x : EReal) : EReal := min (Ideal.ofBits .f32 0x43E00000#32) (max (Ideal.ofBits .f32 0xC3E00000#32) x)

/-- The maximum along the lanes of one row of a tile of lane maxima. -/
def lm (v : Vec Ideal S1x32x128 .f32) (r : Fin 32) : EReal :=
  Finset.fold max (Ideal.ofBits .f32 0xFF800000#32) (fun x : Fin 128 => v (ix3 0 r x)) Finset.univ

/-- The exponent of a row, the same in every lane. -/
theorem eV_apply (v : Vec Ideal S1x32x128 .f32) (r : Fin 32) (l : Fin 128) : eV v (ix2 r l) = kE (lm v r * recip) := by
  unfold eV
  pointwise [k0_pay6, k0_pay5]
  rfl

/-- The scale of a row, the same in every lane. -/
theorem scV_apply (v : Vec Ideal S1x32x128 .f32) (r : Fin 32) (l : Fin 128) :
    scV v (ix2 r l) = thr (IntOp.addi 127#32 (kE (lm v r * recip))) := by
  rw [← eV_apply v r l]
  unfold scV
  pointwise [k0_pay8]
  rfl

/-- A code, entry by entry: the feature times the inverse scale, clipped. -/
theorem codeV_apply (v : Vec Ideal S1x32x128 .f32) (u : Vec Ideal S1x32x512 .f32) (r : Fin 32) (c : Fin 512) :
    codeV v u (ix2 r c) = clip (u (ix3 0 r c) * thr (IntOp.subi 127#32 (kE (lm v r * recip)))) := by
  unfold codeV invV
  pointwise [k0_pay56, k0_pay7]
  simp only [eV_apply, dite_eq_ite, ite_self]
  rfl

/-- The lane maximum is bounded exactly when every entry of the row at that lane is. -/
theorem mxV_le (x : Vec Ideal S1x480x512 .f32) (r : Fin 32) (l : Fin 128) (B : EReal) :
    mxV x (ix3 0 r l) ≤ B ↔ ∀ (a : Fin 480) (b : Fin 512), a.val % 32 = r.val → b.val % 128 = l.val → FloatOps.absf (F := Ideal) (φ := .f32) (x (ix3 0 a b)) ≤ B := by
  have hr := r.isLt
  have hl := l.isLt
  unfold mxV
  unfold_payloads
  pointwise
  simp only [max_le_iff]
  constructor
  · intro H
    simp only [and_assoc] at H
    intro a b ha hb
    have h0 := a.isLt
    have h1 := b.isLt
    obtain ⟨h1, h2, h3, h4, h5, h6, h7, h8, h9, h10, h11, h12, h13, h14, h15, h16, h17, h18, h19, h20, h21, h22, h23, h24, h25, h26, h27, h28, h29, h30,
      h31, h32, h33, h34, h35, h36, h37, h38, h39, h40, h41, h42, h43, h44, h45, h46, h47, h48, h49, h50, h51, h52, h53, h54, h55, h56, h57, h58, h59, h60⟩ := H
    have key : ∀ K Q : ℕ, (hK : K < 15) → (hQ : Q < 4) → FloatOps.absf (F := Ideal) (φ := .f32)
        (x (ix3 0 ⟨32 * K + r.val, by omega⟩ ⟨128 * Q + l.val, by omega⟩)) ≤ B := by
      intro K Q hK hQ
      interval_cases K <;> interval_cases Q <;> simp only [Nat.reduceMul, Nat.zero_add] <;> assumption
    have e1 : a = ⟨32 * (a.val / 32) + r.val, by omega⟩ := Fin.ext (by simp only; omega)
    have e2 : b = ⟨128 * (b.val / 128) + l.val, by omega⟩ := Fin.ext (by simp only; omega)
    rw [e1, e2]
    exact key _ _ (by omega) (by omega)
  · intro H
    repeat' apply And.intro
    all_goals exact H _ _ (by simp only; omega) (by simp only; omega)

end Cert.KernelIdeal.Own
end
-- ==== Proof.Block.lean ====
/-
  The kernel's block functions over the extended reals, entry by entry: the row maximum, the codes, the scales and the product.
-/
module

public import proofs.«01_k».proof.Proof.Tile
public import proofs.«01_k».proof.Proof.Invariant

@[expose] public section

set_option maxRecDepth 16384

noncomputable section

namespace Cert.KernelIdeal.Own

open Cert.KernelIdeal Cert.KernelIdeal.Gen
open Idealize.ShloMosaic Idealize.ShloMosaic.TcCoe

/-- Reading 32 bits as a float. -/
theorem ofBits_f32 (b : BitVec 32) : Ideal.ofBits .f32 b = Ideal.ieee 8 23 b := rfl

/-- The pattern of minus infinity. -/
theorem neg_top : Ideal.ofBits .f32 0xFF800000#32 = ⊥ := by
  rw [ofBits_f32]
  unfold Ideal.ieee
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  simp only [h1, h2, h3]
  norm_num

/-- A row's maximum is bounded by `B` exactly when each of its lanes is. -/
theorem lm_le (v : Vec Ideal S1x32x128 .f32) (r : Fin 32) (B : EReal) : lm v r ≤ B ↔ ∀ x : Fin 128, v (ix3 0 r x) ≤ B := by
  unfold lm
  rw [Finset.fold_max_le, neg_top]
  simp

/-- The maximum of a row of a block. -/
def RM (g : Vec Ideal S8x480x512 .f32) (r : Fin 256) : EReal :=
  lm (mxT (mxG g) (r.val / 32)) ⟨r.val % 32, Nat.mod_lt _ (by decide)⟩

/-- The entry of a block that belongs to its row `r`, offset `k` and channel `c`. -/
def gI (r : Fin 256) (k : Fin 15) (c : Fin 512) : S8x480x512.Idx :=
  ix3 ⟨r.val / 32, by have := r.isLt; omega⟩ ⟨32 * k.val + r.val % 32, by have := k.isLt; omega⟩ c

/-- A tile of the maxima, entry by entry. -/
theorem mxT_apply (x : Vec Ideal S8x32x128 .f32) (q : ℕ) (hq : q < 8) (r : Fin 32) (l : Fin 128) : mxT x q (ix3 0 r l) = x (ix3 ⟨q, hq⟩ r l) := by
  unfold mxT
  refine congrArg x (funext fun a => Fin.ext ?_)
  refine (idx_unit_val (s := S8x32x128) _ _ _ _ a).trans ?_
  fin_cases a
  · show q % 8 + 0 = q; omega
  · show 0 + r.val = r.val; omega
  · show 0 + l.val = l.val; omega

/-- A tile of the features, entry by entry. -/
theorem bT_apply (x : Vec Ideal S8x480x512 .f32) (q : ℕ) (hq : q < 8) (a : Fin 480) (b : Fin 512) : bT x q (ix3 0 a b) = x (ix3 ⟨q, hq⟩ a b) := by
  unfold bT
  refine congrArg x (funext fun i => Fin.ext ?_)
  refine (idx_unit_val (s := S8x480x512) _ _ _ _ i).trans ?_
  fin_cases i
  · show q % 8 + 0 = q; omega
  · show 0 + a.val = a.val; omega
  · show 0 + b.val = b.val; omega

/-- The rows of one kernel point in a tile of features, entry by entry. -/
theorem gT_apply (x : Vec Ideal S8x480x512 .f32) (q k : ℕ) (hq : q < 8) (hk : k < 15) (r : Fin 32) (c : Fin 512) :
    gT x q k (ix3 0 r c) = x (ix3 ⟨q, hq⟩ ⟨32 * k + r.val, by have := r.isLt; omega⟩ c) := by
  unfold gT
  refine congrArg x (funext fun i => Fin.ext ?_)
  refine (idx_unit_val (s := S8x480x512) _ _ _ _ i).trans ?_
  fin_cases i
  · show q % 8 + 0 = q; omega
  · show 32 * (k % 15) + r.val = 32 * k + r.val; rw [Nat.mod_eq_of_lt hk]
  · show 0 + c.val = c.val; omega

/-- An index of the maxima by its coordinates. -/
theorem ixM_eq (r : Fin 32) (l : Fin 128) : ixM r.val l.val = ix3 0 r l := by
  funext a
  fin_cases a
  · rfl
  · exact Fin.ext (Nat.mod_eq_of_lt r.isLt)
  · exact Fin.ext (Nat.mod_eq_of_lt l.isLt)

/-- An index of a code tile by its coordinates. -/
theorem ixC_eq (r c : ℕ) (hc : c < 512) : ixC r c = ix2 ⟨r % 32, Nat.mod_lt _ (by decide)⟩ ⟨c, hc⟩ := by
  funext a
  fin_cases a
  · rfl
  · exact Fin.ext (Nat.mod_eq_of_lt hc)

/-- An index of a scale tile by its coordinates. -/
theorem ixS_eq (r l : ℕ) (hl : l < 128) : ixS r l = ix2 ⟨r % 32, Nat.mod_lt _ (by decide)⟩ ⟨l, hl⟩ := by
  funext a
  fin_cases a
  · rfl
  · exact Fin.ext (Nat.mod_eq_of_lt hl)

/-- The row maximum is bounded exactly when the magnitude of every entry of the row is. -/
theorem RM_le (g : Vec Ideal S8x480x512 .f32) (r : Fin 256) (B : EReal) :
    RM g r ≤ B ↔ ∀ (k : Fin 15) (c : Fin 512), FloatOps.absf (F := Ideal) (φ := .f32) (g (gI r k c)) ≤ B := by
  have hr := r.isLt
  have hq : r.val / 32 < 8 := by omega
  unfold RM
  rw [lm_le]
  have e (l : Fin 128) : mxT (mxG g) (r.val / 32) (ix3 0 ⟨r.val % 32, Nat.mod_lt _ (by decide)⟩ l)
      = mxV (bT g (r.val / 32)) (ix3 0 ⟨r.val % 32, Nat.mod_lt _ (by decide)⟩ l) := by
    rw [mxT_apply _ _ hq]
    show mxV (bT g (r.val / 32)) (ixM (r.val % 32) l.val) = _
    exact congrArg (mxV (bT g (r.val / 32))) (ixM_eq ⟨r.val % 32, Nat.mod_lt _ (by decide)⟩ l)
  simp only [e, mxV_le]
  constructor
  · intro H k c
    have := H ⟨c.val % 128, Nat.mod_lt _ (by decide)⟩ ⟨32 * k.val + r.val % 32, by have := k.isLt; omega⟩ c (by simp only; omega) rfl
    rw [bT_apply g _ hq] at this
    exact this
  · intro H l a b ha hb
    have h0 := a.isLt
    rw [bT_apply g _ hq]
    have := H ⟨a.val / 32, by omega⟩ b
    have e : gI r ⟨a.val / 32, by omega⟩ b = ix3 ⟨r.val / 32, hq⟩ a b := by
      funext i
      fin_cases i
      · rfl
      · refine Fin.ext ?_
        show 32 * (a.val / 32) + r.val % 32 = a.val
        omega
      · rfl
    rwa [e] at this

/-- A code of a block. -/
theorem codeAt_apply (g : Vec Ideal S8x480x512 .f32) (r : Fin 256) (k : Fin 15) (c : Fin 512) :
    codeAt g (mxG g) k.val r.val c.val = clip (g (gI r k c) * thr (IntOp.subi 127#32 (kE (RM g r * recip)))) := by
  have hr := r.isLt
  have hq : r.val / 32 < 8 := by omega
  unfold codeAt
  rw [ixC_eq _ _ c.isLt, codeV_apply, gT_apply _ _ _ hq k.isLt]
  rfl

/-- A scale of a block. -/
theorem scAt_apply (g : Vec Ideal S8x480x512 .f32) (r : Fin 256) (l : Fin 128) :
    scAt (mxG g) r.val l.val = thr (IntOp.addi 127#32 (kE (RM g r * recip))) := by
  unfold scAt
  rw [ixS_eq _ _ l.isLt, scV_apply]
  rfl

end Cert.KernelIdeal.Own
end
-- ==== Proof.Product.lean ====
/-
  The block's row of scales and its product over the extended reals, entry by entry.
-/
module

public import proofs.«01_k».proof.Proof.Block

@[expose] public section

set_option maxRecDepth 16384

noncomputable section

namespace Cert.KernelIdeal.Own

open Cert.KernelIdeal Cert.KernelIdeal.Gen
open Idealize.ShloMosaic Idealize.ShloMosaic.TcCoe

/-- The concatenation of the fifteen tiles of codes. -/
def catV (cd : Fin 15 → Vec Ideal S1x1x256x512 .fp8e4m3) : FVec Ideal S256x7680 .fp8e4m3 :=
  concatenate S256x7680 1 [⟨S256x512, sq (cd 0)⟩, ⟨S256x512, sq (cd 1)⟩, ⟨S256x512, sq (cd 2)⟩, ⟨S256x512, sq (cd 3)⟩, ⟨S256x512, sq (cd 4)⟩,
    ⟨S256x512, sq (cd 5)⟩, ⟨S256x512, sq (cd 6)⟩, ⟨S256x512, sq (cd 7)⟩, ⟨S256x512, sq (cd 8)⟩, ⟨S256x512, sq (cd 9)⟩, ⟨S256x512, sq (cd 10)⟩,
    ⟨S256x512, sq (cd 11)⟩, ⟨S256x512, sq (cd 12)⟩, ⟨S256x512, sq (cd 13)⟩, ⟨S256x512, sq (cd 14)⟩]
    concatenates_S256x512_S256x512_S256x512_S256x512_S256x512_S256x512_S256x512_S256x512_S256x512_S256x512_S256x512_S256x512_S256x512_S256x512_S256x512_S256x7680_d1

/-- The product of fifteen tiles side by side with the weights. -/
theorem accV_eq (cd : Fin 15 → Vec Ideal S1x1x256x512 .fp8e4m3) (w : Vec Ideal S7680x256 .fp8e4m3) :
    accV cd w = matmul dot_S256x7680_S7680x256_S256x256_1_0_0_1_n_n none (catV cd) (shapeCast S7680x256 w shapeCasts_S7680x256_S7680x256 : FVec Ideal S7680x256 .fp8e4m3)
      (constant S256x256 .f32 0x00000000#32) := rfl

/-- A tile without its two unit axes, entry by entry. -/
theorem sq_apply (x : Vec Ideal S1x1x256x512 .fp8e4m3) (r : Fin 256) (c : Fin 512) : sq x (ix2 r c) = x (ix4 0 0 r c) := by
  unfold sq
  pointwise

/-- Pieces of 512 columns laid end to end, read at a column. -/
theorem cat_at {α : Type} (j : S256x7680.Idx) : ∀ (xs : List (S256x512.Idx → α))
    (hs : ∀ s' ∈ (xs.map (fun x => (⟨S256x512, x⟩ : (s : Shape) × (s.Idx → α)))).map (·.1), s'.FitsOff S256x7680 1) (c : ℕ)
    (hc : c < (axisSizes S256x7680 1 (xs.map (fun x => (⟨S256x512, x⟩ : (s : Shape) × (s.Idx → α))))).sum) (q : ℕ) (hl : q < xs.length) (hq : c / 512 = q),
    concatenateAt S256x7680 1 j (xs.map (fun x => (⟨S256x512, x⟩ : (s : Shape) × (s.Idx → α)))) hs c hc
      = xs[q] (ix2 (j 0) ⟨c % 512, Nat.mod_lt _ (by decide)⟩)
  | [], _, c, hc, q, hl, hq => absurd hl (Nat.not_lt_zero _)
  | [x], hs, c, hc, q, hl, hq => by
    have hl' : q < 1 := hl
    have h512 : c < 512 := by omega
    refine (concatenateAt_singleton 1 j x hs c hc).trans ?_
    obtain rfl : q = 0 := by omega
    show _ = x _
    refine congrArg x (funext fun b => Fin.ext ?_)
    fin_cases b
    · rfl
    · show c = c % 512; omega
  | x :: y :: xs, hs, c, hc, q, hl, hq => by
    refine (concatenateAt_cons 1 j x _ _ hs c hc).trans ?_
    split
    · rename_i h
      have h512 : c < 512 := h
      obtain rfl : q = 0 := by omega
      show _ = x _
      refine congrArg x (funext fun b => Fin.ext ?_)
      fin_cases b
      · rfl
      · show c = c % 512; omega
    · rename_i h
      have h512 : ¬ c < 512 := h
      have hl2 : q < xs.length + 2 := hl
      obtain ⟨p, rfl⟩ : ∃ p, q = p + 1 := ⟨q - 1, by omega⟩
      refine (cat_at j (y :: xs) _ (c - 512) _ p (by show _ < xs.length + 1; omega) (by omega)).trans ?_
      have e2 : (c - 512) % 512 = c % 512 := by omega
      have hp : p < (y :: xs).length := by show p < xs.length + 1; omega
      show ((y :: xs)[p]'hp) _ = ((y :: xs)[p]'hp) _
      simp only [e2]

/-- Fifteen tiles side by side, entry by entry. -/
theorem catV_apply (cd : Fin 15 → Vec Ideal S1x1x256x512 .fp8e4m3) (r : Fin 256) (k : Fin 7680) :
    catV cd (ix2 r k) = cd ⟨k.val / 512, by have := k.isLt; omega⟩ (ix4 0 0 r ⟨k.val % 512, Nat.mod_lt _ (by decide)⟩) := by
  have hk := k.isLt
  unfold catV
  rw [concatenate_apply]
  refine (cat_at (ix2 r k) (List.ofFn fun q : Fin 15 => sq (cd q)) _ k.val _ (k.val / 512) (by rw [List.length_ofFn]; omega) rfl).trans ?_
  rw [List.getElem_ofFn]
  exact sq_apply _ _ _

/-- The product of fifteen tiles side by side with the weights, as one sum over 7680 terms. -/
theorem accV_apply (cd : Fin 15 → Vec Ideal S1x1x256x512 .fp8e4m3) (w : Vec Ideal S7680x256 .fp8e4m3) (r : Fin 256) (l : Fin 256) :
    accV cd w (ix2 r l) = ∑ k : Fin 7680, cd ⟨k.val / 512, by have := k.isLt; omega⟩ (ix4 0 0 r ⟨k.val % 512, Nat.mod_lt _ (by decide)⟩) * w (ix2 k l) := by
  rw [accV_eq]
  pointwise
  simp only [catV_apply]

/-- A quarter of the weights' columns, entry by entry. -/
theorem wT_apply (x : Vec Ideal S7680x1024 .fp8e4m3) (q : ℕ) (hq : q < 4) (k : Fin 7680) (l : Fin 256) :
    wT x q (ix2 k l) = x (ix2 k ⟨256 * q + l.val, by have := l.isLt; omega⟩) := by
  unfold wT
  refine congrArg x (funext fun a => Fin.ext ?_)
  refine (idx_unit_val (s := S7680x1024) _ _ _ _ a).trans ?_
  fin_cases a
  · show 0 + k.val = k.val; omega
  · show 256 * (q % 4) + l.val = 256 * q + l.val; omega

/-- A 128-wide piece of a row vector, entry by entry. -/
theorem rT_apply (x : Vec Ideal S1x1024 .f32) (q : ℕ) (hq : q < 8) (l : Fin 128) :
    rT x q (ix2 0 l) = x (ix2 0 ⟨128 * q + l.val, by have := l.isLt; omega⟩) := by
  unfold rT
  refine congrArg x (funext fun a => Fin.ext ?_)
  refine (idx_unit_val (s := S1x1024) _ _ _ _ a).trans ?_
  fin_cases a
  · rfl
  · show 128 * (q % 8) + l.val = 128 * q + l.val; omega

/-- The first 128-wide half of a chunk of the product, entry by entry. -/
theorem yE_apply (cd : Fin 15 → Vec Ideal S1x1x256x512 .fp8e4m3) (w : Vec Ideal S7680x256 .fp8e4m3) (sc : Vec Ideal S1x256x128 .f32) (ws b : Vec Ideal S1x128 .f32)
    (r : Fin 256) (l : Fin 128) :
    yE cd w sc ws b (ix2 r l) = accV cd w (ix2 r ⟨l.val, by have := l.isLt; omega⟩) * (sc (ix3 0 r l) * ws (ix2 0 l)) + b (ix2 0 l) := by
  unfold yE k0_pay113
  show (_ : EReal) = _
  change truncf .bf16 (addf (mulf (extractStridedSlice S256x128 ![0, 0] (accV cd w) slices_S256x256_o0_0_S256x128) _) _) _ _ = _
  generalize accV cd w = A
  pointwise [k0_pay112]

/-- The second 128-wide half of a chunk of the product, entry by entry. -/
theorem yO_apply (cd : Fin 15 → Vec Ideal S1x1x256x512 .fp8e4m3) (w : Vec Ideal S7680x256 .fp8e4m3) (sc : Vec Ideal S1x256x128 .f32) (ws b : Vec Ideal S1x128 .f32)
    (r : Fin 256) (l : Fin 128) :
    yO cd w sc ws b (ix2 r l) = accV cd w (ix2 r ⟨128 + l.val, by have := l.isLt; omega⟩) * (sc (ix3 0 r l) * ws (ix2 0 l)) + b (ix2 0 l) := by
  unfold yO
  generalize accV cd w = A
  pointwise [k0_pay114, k0_pay112]

/-- An entry of the block's product. -/
theorem yG_apply (cd : Fin 15 → Vec Ideal S1x1x256x512 .fp8e4m3) (sc : Vec Ideal S1x256x128 .f32) (x2 : Vec Ideal S7680x1024 .fp8e4m3) (x3 x4 : Vec Ideal S1x1024 .f32)
    (r : Fin 256) (n : Fin 1024) :
    yG cd sc x2 x3 x4 (ix2 r n)
      = (∑ k : Fin 7680, cd ⟨k.val / 512, by have := k.isLt; omega⟩ (ix4 0 0 r ⟨k.val % 512, Nat.mod_lt _ (by decide)⟩) * x2 (ix2 k n))
        * (sc (ix3 0 r ⟨n.val % 128, Nat.mod_lt _ (by decide)⟩) * x3 (ix2 0 n)) + x4 (ix2 0 n) := by
  have hn := n.isLt
  have hy : ixY r.val n.val = ix2 r ⟨n.val % 128, Nat.mod_lt _ (by decide)⟩ := by
    funext a
    fin_cases a
    · exact Fin.ext (Nat.mod_eq_of_lt r.isLt)
    · rfl
  show yV cd sc x2 x3 x4 (n.val / 128) (ixY r.val n.val) = _
  rw [hy]
  have e3 : (⟨128 * (n.val / 128) + n.val % 128, by omega⟩ : Fin 1024) = n := Fin.ext (by simp only; omega)
  unfold yV
  split
  · rw [yE_apply, accV_apply, rT_apply _ _ (by omega), rT_apply _ _ (by omega)]
    simp only [wT_apply _ _ (show n.val / 128 / 2 < 4 by omega), e3]
    have e4 : (⟨256 * (n.val / 128 / 2) + n.val % 128, by omega⟩ : Fin 1024) = n := Fin.ext (by simp only; omega)
    simp only [e4]
  · rw [yO_apply, accV_apply, rT_apply _ _ (by omega), rT_apply _ _ (by omega)]
    simp only [wT_apply _ _ (show n.val / 128 / 2 < 4 by omega), e3]
    have e4 : (⟨256 * (n.val / 128 / 2) + (128 + n.val % 128), by omega⟩ : Fin 1024) = n := Fin.ext (by simp only; omega)
    simp only [e4]

/-- Comparing small numbers as 32-bit words compares the numbers. -/
theorem word_eq (o : ℕ) (ho : o < 128) (x : Fin 32) (l : Fin 128) :
    (BitVec.ofNat 32 x.val + BitVec.ofNat 32 o = BitVec.ofNat 32 l.val) ↔ x.val + o = l.val := by
  have hx := x.isLt
  have hl := l.isLt
  rw [← BitVec.toNat_inj]
  simp only [BitVec.toNat_add, BitVec.toNat_ofNat]
  omega

/-- A selection on the equality of two words. -/
theorem select_eq (a b : BitVec 32) (x y : EReal) : Scalar.select (IntOp.cmpi CmpIPredicate.eq a b) x y = if a = b then x else y := by
  unfold Scalar.select
  exact if_congr IntOp.cmpi_eq rfl rfl

/-- A tile's scales summed along the shifted diagonal: the scale of the row that belongs to the lane, or 0. -/
theorem rowV_apply (o : ℕ) (ho : o < 128) (v : Vec Ideal S1x32x128 .f32) (l : Fin 128) :
    rowV (BitVec.ofNat 32 o) v (ix2 0 l) = if h : o ≤ l.val ∧ l.val < o + 32 then scV v (ix2 ⟨l.val - o, by omega⟩ l) else 0 := by
  unfold rowV
  pointwise
  have e (x : Fin 32) : Scalar.select (IntOp.cmpi CmpIPredicate.eq (IntOp.addi (BitVec.ofNat 32 x.val) (BitVec.ofNat 32 o)) (BitVec.ofNat 32 l.val))
      (scV v (ix2 x l)) (0 : EReal) = if x.val + o = l.val then scV v (ix2 x l) else 0 := by
    rw [select_eq]
    exact if_congr (word_eq o ho x l) rfl rfl
  simp only [e]
  split
  · rename_i h
    rw [Finset.sum_eq_single ⟨l.val - o, by omega⟩]
    · rw [if_pos (by simp only; omega)]
    · intro b _ hb
      rw [if_neg]
      intro h'
      exact hb (Fin.ext (by simp only; omega))
    · intro h'; exact absurd (Finset.mem_univ _) h'
  · rename_i h
    refine Finset.sum_eq_zero fun x _ => if_neg ?_
    have := x.isLt
    omega

/-- The row of scales that a block of 128 rows leaves. -/
theorem rowsV_apply (g : Vec Ideal S8x480x512 .f32) (q : ℕ) (hq : q < 2) (l : Fin 128) :
    rowsV (mxG g) q (ixL l) = thr (IntOp.addi 127#32 (kE (RM g ⟨128 * q + l.val, by have := l.isLt; omega⟩ * recip))) := by
  have hl := l.isLt
  have hx : ixL l = ix2 0 l := by
    funext a
    fin_cases a <;> rfl
  rw [hx]
  unfold rowsV
  pointwise [k0_pay54]
  have key (t : ℕ) (ht : t < 4) (h1 : 32 * t ≤ l.val) (h2 : l.val < 32 * t + 32) :
      scV (mxT (mxG g) (4 * q + t)) (ix2 ⟨l.val - 32 * t, by omega⟩ l)
        = thr (IntOp.addi 127#32 (kE (RM g ⟨128 * q + l.val, by omega⟩ * recip))) := by
    rw [scV_apply]
    have e1 : (128 * q + l.val) / 32 = 4 * q + t := by omega
    have e2 : (128 * q + l.val) % 32 = l.val - 32 * t := by omega
    unfold RM
    simp only [e1, e2]
  rw [rowV_apply 0 (by omega), rowV_apply 32 (by omega), rowV_apply 64 (by omega), rowV_apply 96 (by omega)]
  rcases Nat.lt_or_ge l.val 32 with h0 | h0
  · rw [dif_pos (by omega), dif_neg (by omega), dif_neg (by omega), dif_neg (by omega)]
    simp only [add_zero]
    exact key 0 (by omega) (by omega) (by omega)
  rcases Nat.lt_or_ge l.val 64 with h1 | h1
  · rw [dif_neg (by omega), dif_pos (by omega), dif_neg (by omega), dif_neg (by omega)]
    simp only [add_zero, zero_add]
    exact key 1 (by omega) (by omega) (by omega)
  rcases Nat.lt_or_ge l.val 96 with h2 | h2
  · rw [dif_neg (by omega), dif_neg (by omega), dif_pos (by omega), dif_neg (by omega)]
    simp only [add_zero, zero_add]
    exact key 2 (by omega) (by omega) (by omega)
  · rw [dif_neg (by omega), dif_neg (by omega), dif_neg (by omega), dif_pos (by omega)]
    simp only [zero_add]
    exact key 3 (by omega) (by omega) (by omega)

end Cert.KernelIdeal.Own
end
-- ==== Proof.KerHost.lean ====
/-
  What the kernel's windows hold when its region is entered, in terms of the arguments.
-/
module
public import proofs.«01_k».proof.Proof.KernelValue
public import proofs.«01_k».proof.Proof.Product
public import Idealize.ShloMosaic.Lib.Pointwise
public import Idealize.ShloMosaic.Lib.StableHlo.ReadAt
@[expose] public section
set_option maxRecDepth 16384
noncomputable section
namespace Cert.KernelIdeal.Own
open Cert.KernelIdeal Cert.KernelIdeal.Gen
open Idealize.ShloMosaic Idealize.ShloMosaic.TcCoe

section
variable {F : FTy → Type} [FloatOps F]
variable (m : (ℓ : Loc nD τ sig) → Buf (Elt F) ℓ) (c : Dev nD)

/-- The entries, in tiles of 32 rows. -/
theorem V2 : (V m c main_v2 : FVec F S768x480x512 .f32) =
    shapeCast S768x480x512 (transpose S768x15x32x512 [0, 2, 1, 3] (shapeCast S768x32x15x512 (m (c, Proc.tc.devRef main_arg0)) shapeCasts_S2x12288x15x512_S768x32x15x512)
      transposes_S768x32x15x512_S768x15x32x512_0_2_1_3) shapeCasts_S768x15x32x512_S768x480x512 := by
  unfold V
  after_reads_simp
  rfl

/-- The weights. -/
theorem V3 : (V m c main_v3 : FVec F S7680x1024 .fp8e4m3) = shapeCast S7680x1024 (m (c, Proc.tc.devRef main_arg1)) shapeCasts_S15x512x1024_S7680x1024 := by
  unfold V
  after_reads_simp
  rfl

/-- The weights' scales. -/
theorem V4 : (V m c main_v4 : FVec F S1x1024 .f32) = shapeCast S1x1024 (m (c, Proc.tc.devRef main_arg2)) shapeCasts_S1024_S1x1024 := by
  unfold V
  after_reads_simp
  rfl

/-- The bias. -/
theorem V5 : (V m c main_v5 : FVec F S1x1024 .f32) = shapeCast S1x1024 (m (c, Proc.tc.devRef main_arg3)) shapeCasts_S1024_S1x1024 := by
  unfold V
  after_reads_simp
  rfl
end

/-- An entry of the tiles. -/
theorem tiles_apply (x : FVec Ideal S2x12288x15x512 .f32) (t : Fin 768) (k : Fin 15) (r : Fin 32) (d : Fin 512) :
    shapeCast S768x480x512 (transpose S768x15x32x512 [0, 2, 1, 3] (shapeCast S768x32x15x512 x shapeCasts_S2x12288x15x512_S768x32x15x512)
      transposes_S768x32x15x512_S768x15x32x512_0_2_1_3) shapeCasts_S768x15x32x512_S768x480x512
      (ix3 t ⟨32 * k.val + r.val, by have := k.isLt; have := r.isLt; omega⟩ d)
      = x (ix4 ⟨(32 * t.val + r.val) / 12288, by have := t.isLt; have := r.isLt; omega⟩ ⟨(32 * t.val + r.val) % 12288, Nat.mod_lt _ (by decide)⟩ k d) := by
  have hk := k.isLt
  have hr := r.isLt
  have ht := t.isLt
  pointwise
  refine congrArg x ?_
  funext a
  refine Fin.ext ?_
  match a with
  | ⟨0, _⟩ => show t.val / 384 = (32 * t.val + r.val) / 12288; omega
  | ⟨1, _⟩ => show t.val % 384 * 32 + r.val = (32 * t.val + r.val) % 12288; omega
  | ⟨2, _⟩ => rfl
  | ⟨3, _⟩ => rfl

end Cert.KernelIdeal.Own
end
-- ==== Proof.RefHost.lean ====
module
public import proofs.«01_k».proof.Proof.Gen.ReferenceIdeal.Value
public import Idealize.ShloMosaic.Lib.Pointwise
public import Idealize.ShloMosaic.Lib.StableHlo.ReadAt
@[expose] public section
set_option maxRecDepth 16384
noncomputable section
namespace Cert.ReferenceIdeal.Own
open Cert.ReferenceIdeal Cert.ReferenceIdeal.Gen
open Idealize.ShloMosaic Idealize.ShloMosaic.TcCoe

variable {F : FTy → Type} [FloatOps F]

/-- The largest absolute value of each row. -/
def maxA (x : FVec F S2x12288x15x512 .f32) : FVec F S2x12288 .f32 :=
  Host.reduce FloatOps.maximumf (Host.absf x) (constant S_ .f32 0xFF800000#32) reducesTo_S2x12288x15x512_S2x12288_d2_3 h_S_

/-- One number at every row. -/
def bcS (s : FVec F S_ .f32) : FVec F S2x12288x1x1 .f32 := broadcastInDim S2x12288x1x1 ![] bcast_S_S2x12288x1x1 s
/-- One number at every entry. -/
def bcB (s : FVec F S_ .f32) : FVec F S2x12288x15x512 .f32 := broadcastInDim S2x12288x15x512 ![] bcast_S_S2x12288x15x512 s

/-- The exponent of each row, from its largest absolute value. -/
def expA (a : FVec F S2x12288 .f32) : FVec F S2x12288x1x1 .f32 :=
  let b : FVec F S2x12288x1x1 .f32 := broadcastInDim S2x12288x1x1 ![0, 1] bcast_S2x12288_S2x12288x1x1_0_1 a
  select (cmpf .oeq b (bcS (constant S_ .f32 0x00000000#32))) (bcS (constant S_ .f32 0x00000000#32))
    (addf (Host.floor (Host.divf (Host.log (mulf b (bcS (constant S_ .f32 0x3B124925#32))))
      (bcS (Host.log (constant S_ .f32 0x40000000#32))))) (bcS (constant S_ .f32 0x3F800000#32)))

/-- The entries divided by two to the exponent of their row and clipped. -/
def valA (x : FVec F S2x12288x15x512 .f32) (e : FVec F S2x12288x1x1 .f32) : FVec F S2x12288x15x512 .f32 :=
  minimumf (bcB (constant S_ .f32 0x43E00000#32)) (maximumf (bcB (constant S_ .f32 0xC3E00000#32))
    (mulf x (broadcastInDim S2x12288x15x512 ![0, 1, 2, 3] bcast_S2x12288x1x1_S2x12288x15x512_0_1_2_3
      (Host.powf (bcS (constant S_ .f32 0x40000000#32)) (Host.negf e)))))

/-- Two to the exponent of each row. -/
def powA (e : FVec F S2x12288x1x1 .f32) : FVec F S2x12288x1x1 .f32 :=
  Host.powf (bcS (constant S_ .f32 0x40000000#32)) e

variable (m : (ℓ : Loc nD τ sig) → Buf (Elt F) ℓ) (c : Dev nD)

/-- The rows' scales, in groups of 128 rows. -/
theorem V25 : (V m c main_v25 : FVec F S192x128 .f32) =
    shapeCast S192x128 (transpose S96x2x128 [1, 0, 2] (shapeCast S2x96x128 (powA (expA (maxA (m (c, Proc.tc.devRef main_arg0)))))
      shapeCasts_S2x12288x1x1_S2x96x128) transposes_S2x96x128_S96x2x128_1_0_2) shapeCasts_S96x2x128_S192x128 := by
  unfold V
  after_reads_simp
  simp -implicitDefEqProofs only [StableHlo.TRef.toBuf, StableHlo.TRef.ofBuf, cast_cast, cast_eq]
  rfl

/-- The clipped entries, by cloud, offset, row and channel. -/
theorem V26 : (V m c main_v26 : FVec F S2x15x12288x512 .f32) =
    transpose S2x15x12288x512 [0, 2, 1, 3] (valA (m (c, Proc.tc.devRef main_arg0)) (expA (maxA (m (c, Proc.tc.devRef main_arg0))))) transposes_S2x12288x15x512_S2x15x12288x512_0_2_1_3 := by
  unfold V
  after_reads_simp
  simp -implicitDefEqProofs only [StableHlo.TRef.toBuf, StableHlo.TRef.ofBuf, cast_cast, cast_eq]
  rfl

/-- The clipped entries, one row to each query. -/
theorem V27 : (V m c main_v27 : FVec F S24576x7680 .f32) =
    shapeCast S24576x7680 (valA (m (c, Proc.tc.devRef main_arg0)) (expA (maxA (m (c, Proc.tc.devRef main_arg0))))) shapeCasts_S2x12288x15x512_S24576x7680 := by
  unfold V
  after_reads_simp
  simp -implicitDefEqProofs only [StableHlo.TRef.toBuf, StableHlo.TRef.ofBuf, cast_cast, cast_eq]
  rfl

/-- The weights. -/
theorem V28 : (V m c main_v28 : FVec F S7680x1024 .fp8e4m3) =
    shapeCast S7680x1024 (m (c, Proc.tc.devRef main_arg1)) shapeCasts_S15x512x1024_S7680x1024 := by
  unfold V
  after_reads_simp

  rfl

/-- The rows' scales, in a column. -/
theorem V29 : (V m c main_v29 : FVec F S24576x1 .f32) =
    shapeCast S24576x1 (powA (expA (maxA (m (c, Proc.tc.devRef main_arg0))))) shapeCasts_S2x12288x1x1_S24576x1 := by
  unfold V
  after_reads_simp
  simp -implicitDefEqProofs only [StableHlo.TRef.toBuf, StableHlo.TRef.ofBuf, cast_cast, cast_eq]
  rfl

/-- The weights' scales. -/
theorem V30 : (V m c main_v30 : FVec F S1x1024 .f32) =
    shapeCast S1x1024 (m (c, Proc.tc.devRef main_arg2)) shapeCasts_S1024_S1x1024 := by
  unfold V
  after_reads_simp

  rfl

/-- The bias. -/
theorem V31 : (V m c main_v31 : FVec F S1x1024 .f32) =
    shapeCast S1x1024 (m (c, Proc.tc.devRef main_arg3)) shapeCasts_S1024_S1x1024 := by
  unfold V
  after_reads_simp

  rfl

end Cert.ReferenceIdeal.Own
end
-- ==== Proof.RefMax.lean ====
/-
  The reference's row maximum: when it is at most a bound.
-/
module
public import proofs.«01_k».proof.Proof.RefHost
public import proofs.«01_k».proof.Proof.Block
@[expose] public section
set_option maxRecDepth 16384
noncomputable section
namespace Cert.ReferenceIdeal.Own
open Cert.ReferenceIdeal Cert.ReferenceIdeal.Gen
open Idealize.ShloMosaic Idealize.ShloMosaic.TcCoe

/-- The row maximum is the fold of the maximum over the entries of the row. -/
theorem maxA_fold (x : FVec Ideal S2x12288x15x512 .f32) (b : Fin 2) (s : Fin 12288) :
    maxA x (ix2 b s) = (Finset.univ.filter fun i => reducesTo_S2x12288x15x512_S2x12288_d2_3.drop i = ix2 b s).fold FloatOps.maximumf (Ideal.ofBits .f32 0xFF800000#32) (Host.absf x) := by
  unfold maxA
  rw [Host.reduce_eq_fold]
  rfl

/-- The row maximum is bounded exactly when the magnitude of every entry of the row is. -/
theorem maxA_le (x : FVec Ideal S2x12288x15x512 .f32) (b : Fin 2) (s : Fin 12288) (B : EReal) :
    maxA x (ix2 b s) ≤ B ↔ ∀ (k : Fin 15) (d : Fin 512), FloatOps.absf (F := Ideal) (φ := .f32) (x (ix4 b s k d)) ≤ B := by
  rw [maxA_fold]
  refine (Finset.fold_max_le B).trans ?_
  rw [Cert.KernelIdeal.Own.neg_top]
  simp only [bot_le, true_and, Finset.mem_filter, Finset.mem_univ]
  constructor
  · intro H k d
    refine H (ix4 b s k d) (funext fun a => Fin.ext ?_)
    match a with
    | ⟨0, _⟩ => exact Shape.ReducesTo.drop_apply_val_of_eq reducesTo_S2x12288x15x512_S2x12288_d2_3 (ix4 b s k d) 0 0
    | ⟨1, _⟩ => exact Shape.ReducesTo.drop_apply_val_of_eq reducesTo_S2x12288x15x512_S2x12288_d2_3 (ix4 b s k d) 1 1
  · intro H i hi
    have h0 := Shape.ReducesTo.drop_apply_val_of_eq reducesTo_S2x12288x15x512_S2x12288_d2_3 i 0 0
    have h1 := Shape.ReducesTo.drop_apply_val_of_eq reducesTo_S2x12288x15x512_S2x12288_d2_3 i 1 1
    rw [hi] at h0 h1
    have e : i = ix4 b s (i 2) (i 3) := by
      funext a
      match a with
      | ⟨0, _⟩ => exact Fin.ext h0.symm
      | ⟨1, _⟩ => exact Fin.ext h1.symm
      | ⟨2, _⟩ => rfl
      | ⟨3, _⟩ => rfl
    exact le_of_eq_of_le (congrArg (fun j => FloatOps.absf (F := Ideal) (φ := .f32) (x j)) e) (H (i 2) (i 3))
end Cert.ReferenceIdeal.Own
end
-- ==== Proof.KerEnt.lean ====
/-
  The kernel's three results over the extended reals, entry by entry, in terms of the arguments.
-/
module
public import proofs.«01_k».proof.Proof.KerHost
public import proofs.«01_k».proof.Proof.RefMax
@[expose] public section
set_option maxRecDepth 16384
noncomputable section
namespace Cert.KernelIdeal.Own
open Cert.KernelIdeal Cert.KernelIdeal.Gen
open Idealize.ShloMosaic Idealize.ShloMosaic.TcCoe
open Cert.ReferenceIdeal.Own (maxA maxA_le)

variable (m : (ℓ : Loc nD τ sig) → Buf (Elt Ideal) ℓ) (c : Dev nD)

/-- The first argument. -/
abbrev A0 : FVec Ideal S2x12288x15x512 .f32 := m (c, Proc.tc.devRef main_arg0)
/-- The weights, one row to each offset and channel. -/
abbrev A1 : FVec Ideal S7680x1024 .fp8e4m3 := shapeCast S7680x1024 (m (c, Proc.tc.devRef main_arg1)) shapeCasts_S15x512x1024_S7680x1024
/-- The weights' scales. -/
abbrev A2 : FVec Ideal S1x1024 .f32 := shapeCast S1x1024 (m (c, Proc.tc.devRef main_arg2)) shapeCasts_S1024_S1x1024
/-- The bias. -/
abbrev A3 : FVec Ideal S1x1024 .f32 := shapeCast S1x1024 (m (c, Proc.tc.devRef main_arg3)) shapeCasts_S1024_S1x1024

/-- An entry of a block is the entry of the first argument at the block's place. -/
theorem gb_apply (b : ℕ) (hb : b < 96) (r : Fin 256) (k : Fin 15) (d : Fin 512) (cl : Fin 2) (s : Fin 12288) (h : 256 * b + r.val = 12288 * cl.val + s.val) :
    gb m c b (gI r k d) = A0 m c (ix4 cl s k d) := by
  have hr := r.isLt
  have hs := s.isLt
  have hk := k.isLt
  unfold gb
  rw [V2 m c]
  have e : blkI b (gI r k d) = ix3 (⟨8 * b + r.val / 32, by omega⟩ : Fin 768) (⟨32 * k.val + r.val % 32, by omega⟩ : Fin 480) d := by
    funext a
    refine Fin.ext ?_
    match a with
    | ⟨0, _⟩ => show (8 * b + r.val / 32) % 768 = 8 * b + r.val / 32; omega
    | ⟨1, _⟩ => rfl
    | ⟨2, _⟩ => rfl
  rw [e]
  refine (tiles_apply (A0 m c) ⟨8 * b + r.val / 32, by omega⟩ k ⟨r.val % 32, by omega⟩ d).trans ?_
  refine congrArg (A0 m c) (funext fun a => Fin.ext ?_)
  match a with
  | ⟨0, _⟩ => show (32 * (8 * b + r.val / 32) + r.val % 32) / 12288 = cl.val; omega
  | ⟨1, _⟩ => show (32 * (8 * b + r.val / 32) + r.val % 32) % 12288 = s.val; omega
  | ⟨2, _⟩ => rfl
  | ⟨3, _⟩ => rfl

/-- A block's row maximum is the row maximum of the first argument. -/
theorem RM_gb (b : ℕ) (hb : b < 96) (r : Fin 256) (cl : Fin 2) (s : Fin 12288) (h : 256 * b + r.val = 12288 * cl.val + s.val) :
    RM (gb m c b) r = maxA (A0 m c) (ix2 cl s) := by
  have key (B : EReal) : RM (gb m c b) r ≤ B ↔ maxA (A0 m c) (ix2 cl s) ≤ B := by
    rw [RM_le, maxA_le]
    refine forall_congr' fun k => forall_congr' fun d => ?_
    rw [gb_apply m c b hb r k d cl s h]
  exact le_antisymm ((key _).mpr le_rfl) ((key _).mp le_rfl)

/-- The code at an entry. -/
def codeK (x : FVec Ideal S2x12288x15x512 .f32) (cl : Fin 2) (s : Fin 12288) (k : Fin 15) (d : Fin 512) : EReal :=
  clip (x (ix4 cl s k d) * thr (IntOp.subi 127#32 (kE (maxA x (ix2 cl s) * recip))))
/-- The scale of a row. -/
def scaleK (x : FVec Ideal S2x12288x15x512 .f32) (cl : Fin 2) (s : Fin 12288) : EReal :=
  thr (IntOp.addi 127#32 (kE (maxA x (ix2 cl s) * recip)))

/-- The code of one entry of block `b`, from the features at their place in the whole array. -/
theorem code_gb (b : ℕ) (hb : b < 96) (r : Fin 256) (k : Fin 15) (d : Fin 512) (cl : Fin 2) (s : Fin 12288) (h : 256 * b + r.val = 12288 * cl.val + s.val) :
    codeAt (gb m c b) (mxG (gb m c b)) k.val r.val d.val = codeK (A0 m c) cl s k d := by
  rw [codeAt_apply, gb_apply m c b hb r k d cl s h, RM_gb m c b hb r cl s h]
  rfl

/-- The kernel's codes. -/
theorem gcA_apply (cl : Fin 2) (k : Fin 15) (s : Fin 12288) (d : Fin 512) : gcA m c (ix4 cl k s d) = codeK (A0 m c) cl s k d := by
  have hs := s.isLt
  have hc := cl.isLt
  exact code_gb m c (48 * cl.val + s.val / 256) (by omega) ⟨s.val % 256, by omega⟩ k d cl s (by simp only; omega)

/-- The kernel's scales. -/
theorem gsA_apply (R : Fin 192) (l : Fin 128) :
    gsA m c (ix2 R l) = scaleK (A0 m c) ⟨R.val % 2, Nat.mod_lt _ (by decide)⟩ ⟨R.val / 2 * 128 + l.val, by have := R.isLt; have := l.isLt; omega⟩ := by
  have hR := R.isLt
  have hl := l.isLt
  refine (rowsV_apply (gb m c (48 * (R.val % 2) + R.val / 4)) (R.val / 2 % 2) (by omega) l).trans ?_
  rw [RM_gb m c _ (by omega) _ ⟨R.val % 2, Nat.mod_lt _ (by decide)⟩ ⟨R.val / 2 * 128 + l.val, by omega⟩ (by simp only; omega)]
  rfl

/-- The kernel's product. -/
theorem yA_apply (R : Fin 24576) (n : Fin 1024) (cl : Fin 2) (s : Fin 12288) (h : R.val = 12288 * cl.val + s.val) :
    yA m c (ix2 R n) = (∑ k : Fin 7680, codeK (A0 m c) cl s ⟨k.val / 512, by have := k.isLt; omega⟩ ⟨k.val % 512, Nat.mod_lt _ (by decide)⟩ * A1 m c (ix2 k n))
      * (scaleK (A0 m c) cl s * A2 m c (ix2 0 n)) + A3 m c (ix2 0 n) := by
  have hR := R.isLt
  have hb : R.val / 256 < 96 := by omega
  have hr : 256 * (R.val / 256) + R.val % 256 = 12288 * cl.val + s.val := by omega
  have e : yA m c (ix2 R n) = yG (cdB (gb m c (R.val / 256))) (scB (gb m c (R.val / 256))) (V m c main_v3) (V m c main_v4) (V m c main_v5)
      (ix2 ⟨R.val % 256, Nat.mod_lt _ (by decide)⟩ n) := by
    unfold yA yB
    refine congrArg (yG (cdB (gb m c (R.val / 256))) (scB (gb m c (R.val / 256))) (V m c main_v3) (V m c main_v4) (V m c main_v5)) (funext fun a => ?_)
    match a with
    | ⟨0, _⟩ => rfl
    | ⟨1, _⟩ => rfl
  rw [e, yG_apply, V3 m c, V4 m c, V5 m c]
  have e1 (k : Fin 15) (d : Fin 512) : cdB (gb m c (R.val / 256)) k (ix4 0 0 ⟨R.val % 256, Nat.mod_lt _ (by decide)⟩ d) = codeK (A0 m c) cl s k d :=
    code_gb m c (R.val / 256) hb ⟨R.val % 256, Nat.mod_lt _ (by decide)⟩ k d cl s hr
  have e2 (l : Fin 128) : scB (gb m c (R.val / 256)) (ix3 0 ⟨R.val % 256, Nat.mod_lt _ (by decide)⟩ l) = scaleK (A0 m c) cl s := by
    refine (scAt_apply (gb m c (R.val / 256)) ⟨R.val % 256, Nat.mod_lt _ (by decide)⟩ l).trans ?_
    rw [RM_gb m c (R.val / 256) hb _ cl s hr]
    rfl
  rw [e2]
  simp only [e1]

end Cert.KernelIdeal.Own
end
-- ==== Proof.RefAt.lean ====
/-
  The reference's arrays over the extended reals, entry by entry.
-/
module
public import proofs.«01_k».proof.Proof.RefHost
@[expose] public section
set_option maxRecDepth 16384
noncomputable section
namespace Cert.ReferenceIdeal.Own
open Cert.ReferenceIdeal Cert.ReferenceIdeal.Gen
open Idealize.ShloMosaic Idealize.ShloMosaic.TcCoe

/-- The exponent the reference computes at a row whose largest absolute value is `M`. -/
def eR (M : EReal) : EReal :=
  if M = 0 then Ideal.ofBits .f32 0x00000000#32 else Ideal.liftRound Int.floor (Ideal.div (Ideal.log (M * Ideal.ofBits .f32 0x3B124925#32)) (Ideal.log (Ideal.ofBits .f32 0x40000000#32))) + Ideal.ofBits .f32 0x3F800000#32

/-- The reference's exponent of a row. -/
theorem expA_apply (a : FVec Ideal S2x12288 .f32) (b : Fin 2) (s : Fin 12288) : expA a (ix4 b s 0 0) = eR (a (ix2 b s)) := by
  unfold expA bcS eR
  pointwise
/-- The reference's scale of a row, from its exponent. -/
theorem powA_apply (a : FVec Ideal S2x12288x1x1 .f32) (b : Fin 2) (s : Fin 12288) : powA a (ix4 b s 0 0) = Ideal.pow (Ideal.ofBits .f32 0x40000000#32) (a (ix4 b s 0 0)) := by
  unfold powA bcS
  pointwise
/-- The reference's scaled and clipped entry. -/
theorem valA_apply (x : FVec Ideal S2x12288x15x512 .f32) (a : FVec Ideal S2x12288x1x1 .f32) (b : Fin 2) (s : Fin 12288) (k : Fin 15) (d : Fin 512) : valA x a (ix4 b s k d) =
   min (Ideal.ofBits .f32 0x43E00000#32) (max (Ideal.ofBits .f32 0xC3E00000#32) (x (ix4 b s k d) * Ideal.pow (Ideal.ofBits .f32 0x40000000#32) (-(a (ix4 b s 0 0))))) := by
  unfold valA bcS bcB
  pointwise

/-- The scales laid out in rows of 128, entry by entry. -/
theorem lay25 (e : FVec Ideal S2x12288x1x1 .f32) (r : Fin 192) (l : Fin 128) :
    shapeCast S192x128 (transpose S96x2x128 [1, 0, 2] (shapeCast S2x96x128 e shapeCasts_S2x12288x1x1_S2x96x128) transposes_S2x96x128_S96x2x128_1_0_2) shapeCasts_S96x2x128_S192x128 (ix2 r l)
      = e (ix4 ⟨r.val % 2, Nat.mod_lt _ (by decide)⟩ ⟨r.val / 2 * 128 + l.val, by have := r.isLt; have := l.isLt; omega⟩ 0 0) := by
  pointwise
/-- The scaled entries laid out in rows of 7680, entry by entry. -/
theorem lay27 (e : FVec Ideal S2x12288x15x512 .f32) (r : Fin 24576) (l : Fin 7680) :
    shapeCast S24576x7680 e shapeCasts_S2x12288x15x512_S24576x7680 (ix2 r l)
      = e (ix4 ⟨r.val / 12288, by have := r.isLt; omega⟩ ⟨r.val % 12288, Nat.mod_lt _ (by decide)⟩ ⟨l.val / 512, by have := l.isLt; omega⟩ ⟨l.val % 512, Nat.mod_lt _ (by decide)⟩) := by
  pointwise
/-- The scales laid out in one column, entry by entry. -/
theorem lay29 (e : FVec Ideal S2x12288x1x1 .f32) (r : Fin 24576) :
    shapeCast S24576x1 e shapeCasts_S2x12288x1x1_S24576x1 (ix2 r 0)
      = e (ix4 ⟨r.val / 12288, by have := r.isLt; omega⟩ ⟨r.val % 12288, Nat.mod_lt _ (by decide)⟩ 0 0) := by
  pointwise
/-- The scaled entries with kernel points before rows, entry by entry. -/
theorem lay26 (e : FVec Ideal S2x12288x15x512 .f32) (b : Fin 2) (s : Fin 12288) (k : Fin 15) (d : Fin 512) :
    transpose S2x15x12288x512 [0, 2, 1, 3] e transposes_S2x12288x15x512_S2x15x12288x512_0_2_1_3 (ix4 b k s d) = e (ix4 b s k d) := by
  pointwise
end Cert.ReferenceIdeal.Own
end
-- ==== Proof.RefRegion.lean ====
/-
  What the reference's region leaves in its two results.
-/
module
public import proofs.«01_k».proof.Proof.RefHost
public import Idealize.ShloMosaic.Lib.Pipeline.ValueKit
@[expose] public section
set_option maxRecDepth 16384
noncomputable section
namespace Cert.ReferenceIdeal.Own
open Cert.ReferenceIdeal Cert.ReferenceIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg) (c : Dev nD)

/-- This window holds its whole array. -/
theorem iblk0 (t : Fin cfg0.N) : iblk m c 0 t = V m c main_v26 :=
  funext fun y => congrArg (V m c main_v26) (funext fun a => Fin.ext (win0_0.rect_emb_val_of_index_zero t a rfl y))
/-- This window holds its whole array. -/
theorem iblk1 (t : Fin cfg0.N) : iblk m c 1 t = V m c main_v27 :=
  funext fun y => congrArg (V m c main_v27) (funext fun a => Fin.ext (win0_1.rect_emb_val_of_index_zero t a rfl y))
/-- This window holds its whole array. -/
theorem iblk2 (t : Fin cfg0.N) : iblk m c 2 t = V m c main_v28 :=
  funext fun y => congrArg (V m c main_v28) (funext fun a => Fin.ext (win0_2.rect_emb_val_of_index_zero t a rfl y))
/-- This window holds its whole array. -/
theorem iblk3 (t : Fin cfg0.N) : iblk m c 3 t = V m c main_v29 :=
  funext fun y => congrArg (V m c main_v29) (funext fun a => Fin.ext (win0_3.rect_emb_val_of_index_zero t a rfl y))
/-- This window holds its whole array. -/
theorem iblk4 (t : Fin cfg0.N) : iblk m c 4 t = V m c main_v30 :=
  funext fun y => congrArg (V m c main_v30) (funext fun a => Fin.ext (win0_4.rect_emb_val_of_index_zero t a rfl y))
/-- This window holds its whole array. -/
theorem iblk5 (t : Fin cfg0.N) : iblk m c 5 t = V m c main_v31 :=
  funext fun y => congrArg (V m c main_v31) (funext fun a => Fin.ext (win0_5.rect_emb_val_of_index_zero t a rfl y))

/-- Reading the whole of the window gives its contents. -/
theorem ld1 (x : Vec F S24576x7680 .f32) : View.ld x r0_1 = x :=
  funext fun y => congrArg x (funext fun a => Fin.ext (by
    refine (Rect.idx_unit_val (s := S24576x7680) _ _ _ _ a).trans ?_
    match a with | ⟨0, _⟩ => show 0 + _ = _; omega | ⟨1, _⟩ => show 0 + _ = _; omega))
/-- Reading the whole of the window gives its contents. -/
theorem ld0 (x : Vec F S2x15x12288x512 .f32) : View.ld x r0_0 = x :=
  funext fun y => congrArg x (funext fun a => Fin.ext (by
    refine (Rect.idx_unit_val (s := S2x15x12288x512) _ _ _ _ a).trans ?_
    match a with
    | ⟨0, _⟩ => show 0 + _ = _; omega | ⟨1, _⟩ => show 0 + _ = _; omega
    | ⟨2, _⟩ => show 0 + _ = _; omega | ⟨3, _⟩ => show 0 + _ = _; omega))
/-- Reading the whole of the window gives its contents. -/
theorem ld2 (x : Vec F S7680x1024 .fp8e4m3) : View.ld x r0_2 = x :=
  funext fun y => congrArg x (funext fun a => Fin.ext (by
    refine (Rect.idx_unit_val (s := S7680x1024) _ _ _ _ a).trans ?_
    match a with | ⟨0, _⟩ => show 0 + _ = _; omega | ⟨1, _⟩ => show 0 + _ = _; omega))
/-- Reading the whole of the window gives its contents. -/
theorem ld3 (x : Vec F S24576x1 .f32) : View.ld x r0_3 = x :=
  funext fun y => congrArg x (funext fun a => Fin.ext (by
    refine (Rect.idx_unit_val (s := S24576x1) _ _ _ _ a).trans ?_
    match a with | ⟨0, _⟩ => show 0 + _ = _; omega | ⟨1, _⟩ => show 0 + _ = _; omega))
/-- Reading the whole of the window gives its contents. -/
theorem ld4 (x : Vec F S1x1024 .f32) : View.ld x r0_4 = x :=
  funext fun y => congrArg x (funext fun a => Fin.ext (by
    refine (Rect.idx_unit_val (s := S1x1024) _ _ _ _ a).trans ?_
    match a with | ⟨0, _⟩ => show 0 + _ = _; omega | ⟨1, _⟩ => show 0 + _ = _; omega))

/-- The rectangle of the whole product keeps every index. -/
theorem idx5 (x : S24576x1024.Idx) : r0_5.idx x = x :=
  funext fun a => Fin.ext (by
    refine (Rect.idx_unit_val (s := S24576x1024) _ _ _ _ a).trans ?_
    match a with | ⟨0, _⟩ => show 0 + _ = _; omega | ⟨1, _⟩ => show 0 + _ = _; omega)
/-- The rectangle of the whole codes keeps every index. -/
theorem idx0 (x : S2x15x12288x512.Idx) : r0_0.idx x = x :=
  funext fun a => Fin.ext (by
    refine (Rect.idx_unit_val (s := S2x15x12288x512) _ _ _ _ a).trans ?_
    match a with
    | ⟨0, _⟩ => show 0 + _ = _; omega | ⟨1, _⟩ => show 0 + _ = _; omega
    | ⟨2, _⟩ => show 0 + _ = _; omega | ⟨3, _⟩ => show 0 + _ = _; omega)

/-- One store of the whole product leaves what was stored. -/
theorem canon6 (p : Vec F S24576x1024 .bf16) : View.canon [⟨r0_5, p⟩] = p :=
  funext fun y => View.canon_apply_of_pieces p _ (fun pc hpc => by
    rcases List.mem_cons.mp hpc with rfl | hpc
    · exact fun x => congrArg p (idx5 x).symm
    nomatch hpc) y (cover0_6 _ y)

/-- One store of the whole codes leaves what was stored. -/
theorem canon7 (p : Vec F S2x15x12288x512 .fp8e4m3) : View.canon [⟨r0_0, p⟩] = p :=
  funext fun y => View.canon_apply_of_pieces p _ (fun pc hpc => by
    rcases List.mem_cons.mp hpc with rfl | hpc
    · exact fun x => congrArg p (idx0 x).symm
    nomatch hpc) y (cover0_7 _ y)

/-- The product's array. -/
theorem arr6 : (dats m 0 c).arrAt 6 cfg0.N = k0_pay2 (V m c main_v27) (V m c main_v28) (V m c main_v29) (V m c main_v30) (V m c main_v31) := by
  refine Dat.arrAt_eq_of_covers (dats m 0 c) 6 _ (by decide +kernel) (fun t _ y => ?_)
  refine (congrFun (after0_6 m c t) y).trans ?_
  rw [iblk0, iblk1, iblk2, iblk3, iblk4, iblk5]
  unfold out0_6
  rw [ld1, ld2, ld3, ld4, ld4, canon6]
  exact congrArg (k0_pay2 (V m c main_v27) (V m c main_v28) (V m c main_v29) (V m c main_v30) (V m c main_v31))
    (funext fun a => Fin.ext (win0_6.rect_emb_val_of_index_zero t a rfl y).symm)

/-- The codes' array. -/
theorem arr7 : (dats m 0 c).arrAt 7 cfg0.N = k0_pay1 (V m c main_v26) := by
  refine Dat.arrAt_eq_of_covers (dats m 0 c) 7 _ (by decide +kernel) (fun t _ y => ?_)
  refine (congrFun (after0_7 m c t) y).trans ?_
  rw [iblk0, iblk1, iblk2, iblk3, iblk4, iblk5]
  unfold out0_7
  rw [ld0, canon7]
  exact congrArg (k0_pay1 (V m c main_v26)) (funext fun a => Fin.ext (win0_7.rect_emb_val_of_index_zero t a rfl y).symm)

/-- The run, with its three results named. -/
theorem run_value : θ_run defs (onTc (τ := τ) (main (F := F))) ⟨m, fun _ => 0, ρ⟩ fun r => ∀ c : Dev nD,
    r.2.mem ((c.tc : Thread nD τ).loc main_v32_0) = k0_pay2 (V m c main_v27) (V m c main_v28) (V m c main_v29) (V m c main_v30) (V m c main_v31)
    ∧ r.2.mem ((c.tc : Thread nD τ).loc main_v32_1) = k0_pay1 (V m c main_v26)
    ∧ r.2.mem ((c.tc : Thread nD τ).loc main_v25) = V m c main_v25
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post6 m r h c).trans (arr6 m c), (Value.post7 m r h c).trans (arr7 m c),
      (h c).2 main_v25 (Pipeline.mem_restRefs_of main_v25 (by decide) (by decide)),
      Value.kept_main_arg0 m r h c, Value.kept_main_arg1 m r h c, Value.kept_main_arg2 m r h c, Value.kept_main_arg3 m r h c⟩)
    (run_main m ρ)
end Cert.ReferenceIdeal.Own
end
-- ==== Proof.RefProduct.lean ====
/-
  The reference's product and codes over the extended reals, entry by entry.
-/
module
public import proofs.«01_k».proof.Proof.RefHost
@[expose] public section
set_option maxRecDepth 16384
noncomputable section
namespace Cert.ReferenceIdeal.Own
open Cert.ReferenceIdeal Cert.ReferenceIdeal.Gen
open Idealize.ShloMosaic Idealize.ShloMosaic.TcCoe

/-- A code is the entry itself. -/
theorem pay1_apply (x : Vec Ideal S2x15x12288x512 .f32) (j : S2x15x12288x512.Idx) : k0_pay1 x j = x j := by
  unfold k0_pay1
  rw [shapeCast_self]
  rfl

/-- An entry of the product. -/
theorem pay2_apply (x1 : Vec Ideal S24576x7680 .f32) (x2 : Vec Ideal S7680x1024 .fp8e4m3) (x3 : Vec Ideal S24576x1 .f32) (x4 x5 : Vec Ideal S1x1024 .f32)
    (r : Fin 24576) (n : Fin 1024) :
    k0_pay2 x1 x2 x3 x4 x5 (ix2 r n) = (∑ k : Fin 7680, x1 (ix2 r k) * x2 (ix2 k n)) * (x3 (ix2 r 0) * x4 (ix2 0 n)) + x5 (ix2 0 n) := by
  unfold k0_pay2
  pointwise
end Cert.ReferenceIdeal.Own
end
-- ==== Proof.RefEnt.lean ====
/-
  The reference's three results over the extended reals, entry by entry, in terms of the arguments.
-/
module
public import proofs.«01_k».proof.Proof.RefAt
public import proofs.«01_k».proof.Proof.RefRegion
public import proofs.«01_k».proof.Proof.RefProduct
@[expose] public section
set_option maxRecDepth 16384
noncomputable section
namespace Cert.ReferenceIdeal.Own
open Cert.ReferenceIdeal Cert.ReferenceIdeal.Gen
open Idealize.ShloMosaic Idealize.ShloMosaic.TcCoe

variable (m : (ℓ : Loc nD τ sig) → Buf (Elt Ideal) ℓ) (c : Dev nD)

/-- The first argument. -/
abbrev A0 : FVec Ideal S2x12288x15x512 .f32 := m (c, Proc.tc.devRef main_arg0)
/-- The weights, one row to each offset and channel. -/
abbrev A1 : FVec Ideal S7680x1024 .fp8e4m3 := shapeCast S7680x1024 (m (c, Proc.tc.devRef main_arg1)) shapeCasts_S15x512x1024_S7680x1024
/-- The weights' scales. -/
abbrev A2 : FVec Ideal S1x1024 .f32 := shapeCast S1x1024 (m (c, Proc.tc.devRef main_arg2)) shapeCasts_S1024_S1x1024
/-- The bias. -/
abbrev A3 : FVec Ideal S1x1024 .f32 := shapeCast S1x1024 (m (c, Proc.tc.devRef main_arg3)) shapeCasts_S1024_S1x1024

/-- The code at an entry. -/
def codeR (x : FVec Ideal S2x12288x15x512 .f32) (cl : Fin 2) (s : Fin 12288) (k : Fin 15) (d : Fin 512) : EReal :=
  min (Ideal.ofBits .f32 0x43E00000#32) (max (Ideal.ofBits .f32 0xC3E00000#32)
    (x (ix4 cl s k d) * Ideal.pow (Ideal.ofBits .f32 0x40000000#32) (-(eR (maxA x (ix2 cl s))))))
/-- The scale of a row. -/
def scaleR (x : FVec Ideal S2x12288x15x512 .f32) (cl : Fin 2) (s : Fin 12288) : EReal :=
  Ideal.pow (Ideal.ofBits .f32 0x40000000#32) (eR (maxA x (ix2 cl s)))

/-- The reference's scaled and clipped entries, row by row. -/
theorem val_eq (x : FVec Ideal S2x12288x15x512 .f32) (cl : Fin 2) (s : Fin 12288) (k : Fin 15) (d : Fin 512) :
    valA x (expA (maxA x)) (ix4 cl s k d) = codeR x cl s k d := by
  rw [valA_apply, expA_apply]
  rfl

/-- The reference's scale of a row: two to the row's exponent. -/
theorem pow_eq (x : FVec Ideal S2x12288x15x512 .f32) (cl : Fin 2) (s : Fin 12288) : powA (expA (maxA x)) (ix4 cl s 0 0) = scaleR x cl s := by
  rw [powA_apply, expA_apply]
  rfl

/-- The reference's codes. -/
theorem codes_apply (cl : Fin 2) (k : Fin 15) (s : Fin 12288) (d : Fin 512) :
    k0_pay1 (F := Ideal) (V m c main_v26) (ix4 cl k s d) = codeR (A0 m c) cl s k d := by
  rw [pay1_apply, V26 m c, lay26]
  exact val_eq _ _ _ _ _

/-- The reference's scales. -/
theorem scales_apply (R : Fin 192) (l : Fin 128) :
    (V m c main_v25 : FVec Ideal S192x128 .f32) (ix2 R l)
      = scaleR (A0 m c) ⟨R.val % 2, Nat.mod_lt _ (by decide)⟩ ⟨R.val / 2 * 128 + l.val, by have := R.isLt; have := l.isLt; omega⟩ := by
  rw [V25 m c, lay25]
  exact pow_eq _ _ _

/-- The reference's product. -/
theorem product_apply (R : Fin 24576) (n : Fin 1024) (cl : Fin 2) (s : Fin 12288) (h : R.val = 12288 * cl.val + s.val) :
    k0_pay2 (F := Ideal) (V m c main_v27) (V m c main_v28) (V m c main_v29) (V m c main_v30) (V m c main_v31) (ix2 R n)
      = (∑ k : Fin 7680, codeR (A0 m c) cl s ⟨k.val / 512, by have := k.isLt; omega⟩ ⟨k.val % 512, Nat.mod_lt _ (by decide)⟩ * A1 m c (ix2 k n))
        * (scaleR (A0 m c) cl s * A2 m c (ix2 0 n)) + A3 m c (ix2 0 n) := by
  have hs := s.isLt
  have hR := R.isLt
  have ec : (⟨R.val / 12288, by omega⟩ : Fin 2) = cl := Fin.ext (by simp only; omega)
  have es : (⟨R.val % 12288, Nat.mod_lt _ (by decide)⟩ : Fin 12288) = s := Fin.ext (by simp only; omega)
  rw [pay2_apply, V27 m c, V28 m c, V29 m c, V30 m c, V31 m c, lay29, ec, es, pow_eq]
  simp only [lay27, ec, es, val_eq]

end Cert.ReferenceIdeal.Own
end
-- ==== Proof.Pre.lean ====
/-
  The precondition: its shape facts, and what it says of one row.
-/
module
public import proofs.«01_k».proof.Pre_normal_rows
public import proofs.«01_k».proof.Proof.RefHost
public import proofs.«01_k».proof.Proof.Block
public import Idealize.ShloMosaic.Lib.Pointwise
@[expose] public section
set_option maxRecDepth 16384
noncomputable section
namespace Cert.Pre_normal_rows.Own
open Idealize.ShloMosaic

/-- The shape facts that the precondition's program needs. -/
theorem facts : Cert.Pre_normal_rows.Facts where
  reducesTo_S2x12288x15x512_S2x12288_d2_3 := by decide
  h_S_ := by decide
  bcast_S_S2x12288 := by decide

open Cert.Pre_normal_rows

/-- The test of the precondition, from the rows' maxima. -/
def test (M : FVec Ideal S2x12288 .f32) : IVec S2x12288 1 :=
  let X := mulf M (broadcastInDim S2x12288 ![] facts.bcast_S_S2x12288 (constant S_ .f32 0x3B124925#32))
  ori (cmpf .oeq X (broadcastInDim S2x12288 ![] facts.bcast_S_S2x12288 (constant S_ .f32 0x00000000#32)))
    (andi (cmpf .oge X (broadcastInDim S2x12288 ![] facts.bcast_S_S2x12288 (constant S_ .f32 0x00800000#32)))
      (cmpf .olt X (broadcastInDim S2x12288 ![] facts.bcast_S_S2x12288 (constant S_ .f32 0x7E800000#32))))

/-- The precondition's program is the test of the rows' maxima. -/
theorem fn_eq (x : FVec Ideal S2x12288x15x512 .f32) (w : FVec Ideal S15x512x1024 .fp8e4m3) (ws b : FVec Ideal S1024 .f32) :
    @Cert.Pre_normal_rows.fn facts Ideal _ x w ws b = test (Cert.ReferenceIdeal.Own.maxA x) := rfl

/-- A row that passes the test has a scaled maximum that is 0 or lies from 2^-126 up to, and below, 2^126. -/
theorem test_apply (M : FVec Ideal S2x12288 .f32) (b : Fin 2) (s : Fin 12288) (h : test M (ix2 b s) = 1#1) :
    M (ix2 b s) * Ideal.ofBits .f32 0x3B124925#32 = 0
      ∨ (Ideal.ofBits .f32 0x00800000#32 ≤ M (ix2 b s) * Ideal.ofBits .f32 0x3B124925#32 ∧ M (ix2 b s) * Ideal.ofBits .f32 0x3B124925#32 < Ideal.ofBits .f32 0x7E800000#32) := by
  revert h
  unfold test
  pointwise
  generalize M (ix2 b s) * Ideal.ofBits .f32 0x3B124925#32 = X
  by_cases h1 : X = 0 <;> by_cases h2 : Ideal.ofBits .f32 0x00800000#32 ≤ X <;> by_cases h3 : X < Ideal.ofBits .f32 0x7E800000#32 <;>
    simp [h1, h2, h3, IntOp.ori, IntOp.andi]

/-- Where the precondition holds, a row's scaled maximum is zero or a normal number below two to the 126. -/
theorem row (x : FVec Ideal S2x12288x15x512 .f32) (w : FVec Ideal S15x512x1024 .fp8e4m3) (ws b : FVec Ideal S1024 .f32)
    (h : @Cert.Pre_normal_rows.fn facts Ideal _ x w ws b = fun _ => 1#1) (cl : Fin 2) (s : Fin 12288) :
    let X := Cert.ReferenceIdeal.Own.maxA x (ix2 cl s) * Cert.KernelIdeal.Own.recip
    X = 0 ∨ ((((2 : ℝ) ^ (-126 : ℤ) : ℝ) : EReal) ≤ X ∧ X < (((2 : ℝ) ^ (126 : ℤ) : ℝ) : EReal)) := by
  have h1 := test_apply (Cert.ReferenceIdeal.Own.maxA x) cl s (by rw [← fn_eq x w ws b, h])
  have e1 : Ideal.ofBits .f32 0x00800000#32 = (((2 : ℝ) ^ (-126 : ℤ) : ℝ) : EReal) := by
    have := Cert.KernelIdeal.Own.thr_mid 1 (by omega) (by omega)
    rw [← Cert.KernelIdeal.Own.thr_eq, show IntOp.shli ArithUnit.vector (BitVec.ofNat 32 1) 23#32 = 0x00800000#32 by decide] at this
    rw [this]; norm_num
  have e2 : Ideal.ofBits .f32 0x7E800000#32 = (((2 : ℝ) ^ (126 : ℤ) : ℝ) : EReal) := by
    have := Cert.KernelIdeal.Own.thr_mid 253 (by omega) (by omega)
    rw [← Cert.KernelIdeal.Own.thr_eq, show IntOp.shli ArithUnit.vector (BitVec.ofNat 32 253) 23#32 = 0x7E800000#32 by decide] at this
    rw [this]; norm_num
  rw [e1, e2] at h1
  exact h1

end Cert.Pre_normal_rows.Own
end
-- ==== Proof.Equal.lean ====
/-
  The two programs' codes and scales are equal where the precondition holds, and so are their three results.
-/
module
public import proofs.«01_k».proof.Proof.KerEnt
public import proofs.«01_k».proof.Proof.RefEnt
public import proofs.«01_k».proof.Proof.Pre
@[expose] public section
set_option maxRecDepth 16384
noncomputable section
namespace Cert.Own
open Idealize.ShloMosaic Idealize.ShloMosaic.TcCoe
open Cert.KernelIdeal.Own (recip rE kE thr exponent thr_scale thr_inv pow_two pow_two_neg thr_mid thr_eq codeK scaleK)
open Cert.ReferenceIdeal.Own (eR maxA codeR scaleR)

/-- The pattern of 2. -/
theorem two : Ideal.ofBits .f32 0x40000000#32 = ((2 : ℝ) : EReal) := by
  have := thr_mid 128 (by omega) (by omega)
  rw [← thr_eq, show IntOp.shli ArithUnit.vector (BitVec.ofNat 32 128) 23#32 = 0x40000000#32 by decide] at this
  rw [this]; norm_num

/-- The reciprocal of the largest code is not 0. -/
theorem recip_ne : recip ≠ 0 := by
  unfold recip
  rw [Cert.KernelIdeal.Own.ofBits_f32]
  unfold Ideal.ieee
  have h1 : ((0x3B124925#32).extractLsb' (8 + 23) 1 == 1#1) = false := by decide
  have h2 : ((0x3B124925#32).extractLsb' 23 8).toNat = 118 := by decide
  have h3 : ((0x3B124925#32).extractLsb' 0 23).toNat = 1198373 := by decide
  simp only [h1, h2, h3]
  norm_num

/-- The reference's exponent of a row is the exponent of the scaled maximum. -/
theorem eR_eq (M : EReal) : eR M = rE (M * recip) := by
  unfold eR rE
  rw [two, Ideal.ofBits_zero_f32, Ideal.ofBits_one_f32]
  refine if_congr ?_ rfl rfl
  constructor
  · rintro rfl; exact zero_mul _
  · intro h
    rcases mul_eq_zero.mp h with h | h
    · exact h
    · exact absurd h recip_ne

abbrev S4 : Shape := ⟨4, ![2, 12288, 15, 512]⟩

/-- A row's scaled maximum is zero or a normal number below two to the 126. -/
def Normal (x : FVec Ideal S4 .f32) : Prop := ∀ (cl : Fin 2) (s : Fin 12288),
  maxA x (ix2 cl s) * recip = 0 ∨ ((((2 : ℝ) ^ (-126 : ℤ) : ℝ) : EReal) ≤ maxA x (ix2 cl s) * recip ∧ maxA x (ix2 cl s) * recip < (((2 : ℝ) ^ (126 : ℤ) : ℝ) : EReal))

/-- The codes agree. -/
theorem code_eq (x : FVec Ideal S4 .f32) (hx : Normal x) (cl : Fin 2) (s : Fin 12288) (k : Fin 15) (d : Fin 512) : codeR x cl s k d = codeK x cl s k d := by
  obtain ⟨E, h1, h2, hk, hr⟩ := exponent _ (hx cl s)
  unfold codeR codeK Cert.KernelIdeal.Own.clip
  rw [eR_eq, hr, hk, two, pow_two_neg, thr_inv E h1 h2]

/-- The scales agree. -/
theorem scale_eq (x : FVec Ideal S4 .f32) (hx : Normal x) (cl : Fin 2) (s : Fin 12288) : scaleR x cl s = scaleK x cl s := by
  obtain ⟨E, h1, h2, hk, hr⟩ := exponent _ (hx cl s)
  unfold scaleR scaleK
  rw [eR_eq, hr, hk, two, pow_two, thr_scale E h1 h2]

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two products are equal. -/
theorem product_eq (hx : Normal (Cert.KernelIdeal.Own.A0 m c)) (h0 : Cert.ReferenceIdeal.Own.A0 m' c = Cert.KernelIdeal.Own.A0 m c)
    (h1 : Cert.ReferenceIdeal.Own.A1 m' c = Cert.KernelIdeal.Own.A1 m c) (h2 : Cert.ReferenceIdeal.Own.A2 m' c = Cert.KernelIdeal.Own.A2 m c)
    (h3 : Cert.ReferenceIdeal.Own.A3 m' c = Cert.KernelIdeal.Own.A3 m c) :
    Cert.ReferenceIdeal.Gen.k0_pay2 (F := Ideal) (Cert.ReferenceIdeal.Gen.V m' c Cert.ReferenceIdeal.main_v27) (Cert.ReferenceIdeal.Gen.V m' c Cert.ReferenceIdeal.main_v28)
      (Cert.ReferenceIdeal.Gen.V m' c Cert.ReferenceIdeal.main_v29) (Cert.ReferenceIdeal.Gen.V m' c Cert.ReferenceIdeal.main_v30)
      (Cert.ReferenceIdeal.Gen.V m' c Cert.ReferenceIdeal.main_v31) = Cert.KernelIdeal.Own.yA m c := by
  funext j
  have hj : (j 0).val < 24576 := (j 0).isLt
  have e : j = ix2 (j 0) (j 1) := by
    funext a
    match a with
    | ⟨0, _⟩ => rfl
    | ⟨1, _⟩ => rfl
  rw [e]
  have hh : (j 0).val = 12288 * ((⟨(j 0).val / 12288, by omega⟩ : Fin 2) : ℕ) + ((⟨(j 0).val % 12288, by omega⟩ : Fin 12288) : ℕ) := by simp only; omega
  refine (Cert.ReferenceIdeal.Own.product_apply m' c (j 0) (j 1) _ _ hh).trans (Eq.trans ?_ (Cert.KernelIdeal.Own.yA_apply m c (j 0) (j 1) _ _ hh).symm)
  rw [h0, h1, h2, h3, scale_eq _ hx]
  simp only [code_eq _ hx]

/-- The two arrays of codes are equal. -/
theorem codes_eq (hx : Normal (Cert.KernelIdeal.Own.A0 m c)) (h0 : Cert.ReferenceIdeal.Own.A0 m' c = Cert.KernelIdeal.Own.A0 m c) :
    Cert.ReferenceIdeal.Gen.k0_pay1 (F := Ideal) (Cert.ReferenceIdeal.Gen.V m' c Cert.ReferenceIdeal.main_v26) = Cert.KernelIdeal.Own.gcA m c := by
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  refine (Cert.ReferenceIdeal.Own.codes_apply m' c (j 0) (j 1) (j 2) (j 3)).trans (Eq.trans ?_ (Cert.KernelIdeal.Own.gcA_apply m c (j 0) (j 1) (j 2) (j 3)).symm)
  rw [h0]
  exact code_eq _ hx _ _ _ _

/-- The two arrays of scales are equal. -/
theorem scales_eq (hx : Normal (Cert.KernelIdeal.Own.A0 m c)) (h0 : Cert.ReferenceIdeal.Own.A0 m' c = Cert.KernelIdeal.Own.A0 m c) :
    (Cert.ReferenceIdeal.Gen.V m' c Cert.ReferenceIdeal.main_v25 : FVec Ideal Cert.ReferenceIdeal.S192x128 .f32) = Cert.KernelIdeal.Own.gsA m c := by
  funext j
  have e : j = ix2 (j 0) (j 1) := by
    funext a
    match a with
    | ⟨0, _⟩ => rfl
    | ⟨1, _⟩ => rfl
  rw [e]
  refine (Cert.ReferenceIdeal.Own.scales_apply m' c (j 0) (j 1)).trans (Eq.trans ?_ (Cert.KernelIdeal.Own.gsA_apply m c (j 0) (j 1)).symm)
  rw [h0]
  exact scale_eq _ hx _ _
end

end Cert.Own
end
-- ==== Proof.lean ====
/- The claims of this certificate: every program runs and leaves its arguments as they were, and over the extended reals the
   kernel and the reference leave the same three results wherever the precondition holds. -/
module

public import proofs.«01_k».proof.Defs
public import proofs.«01_k».proof.Proof.Run
public import proofs.«01_k».proof.Proof.Bits.Run
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.ReferenceIdeal.Frame

@[expose] public section

noncomputable section

namespace Cert.Proof

open Idealize.ShloMosaic Idealize.ShloMosaic.TcCoe Idealize.SL.Sem

/-- The kernel and the reference, started from equal arguments that meet the precondition, leave the same product, the same
    codes and the same scales. -/
theorem algebraic : algebraic_KernelIdeal_ReferenceIdeal_pre_normal_rows (hKernelIdeal := Cert.KernelIdeal.Gen.facts)
    (hReferenceIdeal := Cert.ReferenceIdeal.Gen.facts) (hPre_normal_rows := Cert.Pre_normal_rows.Own.facts) := by
  intro m g m' g' hpre hargs
  refine ⟨fun c => Cert.KernelIdeal.Own.yA m c, fun c => Cert.KernelIdeal.Own.gcA m c, fun c => Cert.KernelIdeal.Own.gsA m c,
    Cert.KernelIdeal.Own.run_value m g, ?_⟩
  refine (θ_run Cert.ReferenceIdeal.defs _ _).mono (fun r h c => ?_) (Cert.ReferenceIdeal.Own.run_value m' g')
  obtain ⟨r0, r1, r2, a0, a1, a2, a3⟩ := h c
  obtain ⟨e0, e1, e2, e3⟩ := hargs c
  have hx : Cert.Own.Normal (Cert.KernelIdeal.Own.A0 m c) := fun cl s => Cert.Pre_normal_rows.Own.row _ _ _ _ (hpre c) cl s
  have h0 : Cert.ReferenceIdeal.Own.A0 m' c = Cert.KernelIdeal.Own.A0 m c := e0
  have h1 : Cert.ReferenceIdeal.Own.A1 m' c = Cert.KernelIdeal.Own.A1 m c :=
    congrArg (fun x : FVec Ideal Cert.KernelIdeal.S15x512x1024 .fp8e4m3 => shapeCast Cert.KernelIdeal.S7680x1024 x Cert.KernelIdeal.Gen.shapeCasts_S15x512x1024_S7680x1024) e1
  have h2 : Cert.ReferenceIdeal.Own.A2 m' c = Cert.KernelIdeal.Own.A2 m c :=
    congrArg (fun x : FVec Ideal Cert.KernelIdeal.S1024 .f32 => shapeCast Cert.KernelIdeal.S1x1024 x Cert.KernelIdeal.Gen.shapeCasts_S1024_S1x1024) e2
  have h3 : Cert.ReferenceIdeal.Own.A3 m' c = Cert.KernelIdeal.Own.A3 m c :=
    congrArg (fun x : FVec Ideal Cert.KernelIdeal.S1024 .f32 => shapeCast Cert.KernelIdeal.S1x1024 x Cert.KernelIdeal.Gen.shapeCasts_S1024_S1x1024) e3
  exact ⟨r0.trans (Cert.Own.product_eq m m' c hx h0 h1 h2 h3), r1.trans (Cert.Own.codes_eq m m' c hx h0),
    r2.trans (Cert.Own.scales_eq m m' c hx h0), a0, a1, a2, a3⟩

/-- Everything the certificate claims. -/
theorem claim : Cert.Claim :=
  ⟨Cert.Kernel.Gen.facts, Cert.KernelIdeal.Gen.facts, Cert.ReferenceIdeal.Gen.facts, Cert.Pre_normal_rows.Own.facts,
    fun m ρ _ => Cert.Kernel.Own.frame m ρ Cert.Kernel.Own.runs,
    fun m ρ _ => Cert.KernelIdeal.Own.frame m ρ Cert.KernelIdeal.Own.runs,
    fun m ρ _ => Cert.KernelIdeal.Own.frame m ρ Cert.KernelIdeal.Own.runs,
    fun m ρ _ => Cert.ReferenceIdeal.Gen.frame m ρ,
    fun m ρ _ => Cert.ReferenceIdeal.Gen.frame m ρ, trivial, algebraic⟩

end Cert.Proof

end
